-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_finite [hPre_lb_finite : Cert.Pre_lb_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lb_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_finite [hPre_lb_finite : Cert.Pre_lb_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_lb_finite [hKernelIdeal : Cert.KernelIdeal.Facts] [hPre_lb_finite : Cert.Pre_lb_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lb_finite [hReferenceIdeal : Cert.ReferenceIdeal.Facts] [hPre_lb_finite : Cert.Pre_lb_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_lb_finite [hKernelIdeal : Cert.KernelIdeal.Facts] [hReferenceIdeal : Cert.ReferenceIdeal.Facts] [hPre_lb_finite : Cert.Pre_lb_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v40_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v38_1)) (v1 : (c : Dev Cert.Kernel5Ideal.nD) → Buf (Elt Ideal) ((c.tc : Thread Cert.Kernel5Ideal.nD Cert.Kernel5Ideal.τ).loc Cert.Kernel5Ideal.main_v38_3)) (v2 : (c : Dev Cert.Kernel5Ideal.nD) → Buf (Elt Ideal) ((c.tc : Thread Cert.Kernel5Ideal.nD Cert.Kernel5Ideal.τ).loc Cert.Kernel5Ideal.main_v38_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38_1) = v0 c
          ∧ r.2.mem ((c.tc : Thread Cert.Kernel5Ideal.nD Cert.Kernel5Ideal.τ).loc Cert.Kernel5Ideal.main_v38_3) = v1 c
          ∧ r.2.mem ((c.tc : Thread Cert.Kernel5Ideal.nD Cert.Kernel5Ideal.τ).loc Cert.Kernel5Ideal.main_v38_6) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v1) = v1 c
          ∧ r.2.mem ((c.tc : Thread Cert.Reference5Ideal.nD Cert.Reference5Ideal.τ).loc Cert.Reference5Ideal.main_v75) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_lb_finite : Cert.Pre_lb_finite.Facts),
    quiescent_Kernel (hKernel := hKernel)
    ∧ quiescent_KernelIdeal (hKernelIdeal := hKernelIdeal)
    ∧ quiescent_KernelIdeal_pre_lb_finite (hKernelIdeal := hKernelIdeal) (hPre_lb_finite := hPre_lb_finite)
    ∧ quiescent_ReferenceIdeal (hReferenceIdeal := hReferenceIdeal)
    ∧ quiescent_ReferenceIdeal_pre_lb_finite (hReferenceIdeal := hReferenceIdeal) (hPre_lb_finite := hPre_lb_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_lb_finite (hKernelIdeal := hKernelIdeal) (hReferenceIdeal := hReferenceIdeal) (hPre_lb_finite := hPre_lb_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_lb_finite.lean ====
abbrev S9216x8192 : Shape := ⟨2, ![9216, 8192]⟩
abbrev S2048 : Shape := ⟨1, ![2048]⟩
abbrev S128 : Shape := ⟨1, ![128]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S9216x8192 .f32) (main_arg1 : FVec F S2048 .f32) (main_arg2 : FVec F S128 .f32) : IVec S2048 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  main_v2
-- ==== Kernel.lean ====
abbrev S9216x8192 : Shape := ⟨2, ![9216, 8192]⟩
abbrev S2048 : Shape := ⟨1, ![2048]⟩
abbrev S128 : Shape := ⟨1, ![128]⟩
abbrev S448x64 : Shape := ⟨2, ![448, 64]⟩
abbrev S_ : Shape := ⟨0, ![]⟩
abbrev S1x16x128x128 : Shape := ⟨4, ![1, 16, 128, 128]⟩
abbrev S1x2048 : Shape := ⟨2, ![1, 2048]⟩
abbrev S1x128 : Shape := ⟨2, ![1, 128]⟩
abbrev S8192x2048 : Shape := ⟨2, ![8192, 2048]⟩
abbrev S512x256 : Shape := ⟨2, ![512, 256]⟩
abbrev S1x256 : Shape := ⟨2, ![1, 256]⟩
abbrev S1x2x128x128 : Shape := ⟨4, ![1, 2, 128, 128]⟩
abbrev S2x128x128 : Shape := ⟨3, ![2, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S64x64 : Shape := ⟨2, ![64, 64]⟩
abbrev S448x128 : Shape := ⟨2, ![448, 128]⟩
abbrev S64 : Shape := ⟨1, ![64]⟩
abbrev S64x1 : Shape := ⟨2, ![64, 1]⟩

abbrev nBuf : Space → Nat
  | .hbm => 10
  | .vmem => 19
  | .smem => 0
  | _ => 0

abbrev bufTy : (tb : Table) → Fin (tcTables nBuf tb) → BufTy
  | .hbm, ⟨0, _⟩ => ⟨S9216x8192, .f32⟩
  | .hbm, ⟨1, _⟩ => ⟨S2048, .f32⟩
  | .hbm, ⟨2, _⟩ => ⟨S128, .f32⟩
  | .hbm, ⟨3, _⟩ => ⟨S448x64, .bf16⟩
  | .hbm, ⟨4, _⟩ => ⟨S_, .f32⟩
  | .hbm, ⟨5, _⟩ => ⟨S1x16x128x128, .f32⟩
  | .hbm, ⟨6, _⟩ => ⟨S1x2048, .f32⟩
  | .hbm, ⟨7, _⟩ => ⟨S1x128, .f32⟩
  | .hbm, ⟨8, _⟩ => ⟨S8192x2048, .bf16⟩
  | .hbm, ⟨9, _⟩ => ⟨S1x16x128x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1x128, .f32⟩
  | .local _ .vmem, ⟨11, _⟩ => ⟨S448x64, .bf16⟩
  | .local _ .vmem, ⟨12, _⟩ => ⟨S1x2x128x128, .f32⟩
  | .local _ .vmem, ⟨13, _⟩ => ⟨S1x2x128x128, .f32⟩
  | .local _ .vmem, ⟨14, _⟩ => ⟨S512x256, .bf16⟩
  | .local _ .vmem, ⟨15, _⟩ => ⟨S512x256, .bf16⟩
  | .local _ .vmem, ⟨16, _⟩ => ⟨S1x2x128x128, .f32⟩
  | .local _ .vmem, ⟨17, _⟩ => ⟨S1x2x128x128, .f32⟩
  | .local _ .vmem, ⟨18, _⟩ => ⟨S2x128x128, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![1, 8, 16], ![false, false, false]⟩

def k0_cond2 (i : grid0.Coords) : BitVec 1 :=
  let arg2 : BitVec 32 := BitVec.ofNat 32 (i 2).val
  let c15_i32 : BitVec 32 := 15#32
  let v2266 : BitVec 1 := Scalar.cmpi .eq arg2 c15_i32
  let v2267 : BitVec 32 := Scalar.extui v2266
  let c0_i32_691 : BitVec 32 := 0#32
  let v2268 : BitVec 1 := Scalar.cmpi .ne v2267 c0_i32_691
  v2268

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c8_i32 : BitVec 32 := 8#32
  let v3 : BitVec 32 := Scalar.addi c8_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c16_i32_0 : BitVec 32 := 16#32
  let v3 : BitVec 32 := Scalar.addi c16_i32_0 arg1
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c24_i32 : BitVec 32 := 24#32
  let v3 : BitVec 32 := Scalar.addi c24_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S448x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S9216x8192 : Shape := ⟨2, ![9216, 8192]⟩
abbrev S2048 : Shape := ⟨1, ![2048]⟩
abbrev S128 : Shape := ⟨1, ![128]⟩
abbrev S8192x2048 : Shape := ⟨2, ![8192, 2048]⟩
abbrev S1x8192x2048 : Shape := ⟨3, ![1, 8192, 2048]⟩
abbrev S_ : Shape := ⟨0, ![]⟩
abbrev S1x1x2048 : Shape := ⟨3, ![1, 1, 2048]⟩
abbrev S1x8192x16x128 : Shape := ⟨4, ![1, 8192, 16, 128]⟩
abbrev S1x16x128x128 : Shape := ⟨4, ![1, 16, 128, 128]⟩
abbrev S64x64 : Shape := ⟨2, ![64, 64]⟩
abbrev S1x64x64x1x1 : Shape := ⟨5, ![1, 64, 64, 1, 1]⟩
abbrev S1x128x64x16x128 : Shape := ⟨5, ![1, 128, 64, 16, 128]⟩
abbrev S128x1x64x16x128 : Shape := ⟨5, ![128, 1, 64, 16, 128]⟩
abbrev S1x1x64x16x128 : Shape := ⟨5, ![1, 1, 64, 16, 128]⟩
abbrev S1x64x16x128 : Shape := ⟨4, ![1, 64, 16, 128]⟩
abbrev S1x16x128x64 : Shape := ⟨4, ![1, 16, 128, 64]⟩
abbrev S1x64x1x16x128 : Shape := ⟨5, ![1, 64, 1, 16, 128]⟩
abbrev S1x64x64x16x128 : Shape := ⟨5, ![1, 64, 64, 16, 128]⟩
abbrev S1x64x64x16 : Shape := ⟨4, ![1, 64, 64, 16]⟩
abbrev S1x64x16x64 : Shape := ⟨4, ![1, 64, 16, 64]⟩
abbrev S1x1x16x128 : Shape := ⟨4, ![1, 1, 16, 128]⟩
abbrev S1x16x128 : Shape := ⟨3, ![1, 16, 128]⟩
abbrev S1x16x128x1 : Shape := ⟨4, ![1, 16, 128, 1]⟩
abbrev S1x8192x16 : Shape := ⟨3, ![1, 8192, 16]⟩
abbrev S1x8192x16x1 : Shape := ⟨4, ![1, 8192, 16, 1]⟩
abbrev S1x1x1x128 : Shape := ⟨4, ![1, 1, 1, 128]⟩

abbrev nBuf : Space → Nat
  | .hbm => 190
  | .vmem => 0
  | .smem => 0
  | _ => 0

abbrev hbmTy0_0 (i : Nat) : BufTy := match i % 128 with
  | 0 => ⟨S9216x8192, .f32⟩
  | 1 => ⟨S2048, .f32⟩
  | 2 => ⟨S128, .f32⟩
  | 3 => ⟨S8192x2048, .f32⟩
  | 4 => ⟨S1x8192x2048, .f32⟩
  | 5 => ⟨S8192x2048, .f32⟩
  | 6 => ⟨S1x8192x2048, .f32⟩
  | 7 => ⟨S8192x2048, .f32⟩
  | 8 => ⟨S1x8192x2048, .f32⟩
  | 9 => ⟨S_, .f32⟩
  | 10 => ⟨S2048, .f32⟩
  | 11 => ⟨S2048, .f32⟩
  | 12 => ⟨S1x8192x2048, .f32⟩
  | 13 => ⟨S1x8192x2048, .f32⟩
  | 14 => ⟨S1x8192x2048, .f32⟩
  | 15 => ⟨S_, .f32⟩
  | 16 => ⟨S1x8192x2048, .f32⟩
  | 17 => ⟨S1x8192x2048, .f32⟩
  | 18 => ⟨S_, .f32⟩
  | 19 => ⟨S1x8192x2048, .f32⟩
  | 20 => ⟨S1x8192x2048, .f32⟩
  | 21 => ⟨S1x1x2048, .f32⟩
  | 22 => ⟨S1x8192x2048, .f32⟩
  | 23 => ⟨S1x8192x2048, .f32⟩
  | 24 => ⟨S_, .f32⟩
  | 25 => ⟨S1x8192x2048, .f32⟩
  | 26 => ⟨S1x8192x2048, .f32⟩
  | 27 => ⟨S1x8192x2048, .f32⟩
  | 28 => ⟨S1x8192x2048, .f32⟩
  | 29 => ⟨S1x8192x2048, .f32⟩
  | 30 => ⟨S1x8192x2048, .f32⟩
  | 31 => ⟨S_, .f32⟩
  | 32 => ⟨S1x8192x2048, .f32⟩
  | 33 => ⟨S1x8192x2048, .f32⟩
  | 34 => ⟨S_, .f32⟩
  | 35 => ⟨S1x8192x2048, .f32⟩
  | 36 => ⟨S1x8192x2048, .f32⟩
  | 37 => ⟨S1x8192x2048, .f32⟩
  | 38 => ⟨S1x8192x16x128, .f32⟩
  | 39 => ⟨S1x8192x16x128, .f32⟩
  | 40 => ⟨S1x8192x16x128, .f32⟩
  | 41 => ⟨S1x8192x16x128, .f32⟩
  | 42 => ⟨S_, .f32⟩
  | 43 => ⟨S1x16x128x128, .f32⟩
  | 44 => ⟨S_, .i1⟩
  | 45 => ⟨S64x64, .i1⟩
  | 46 => ⟨S64x64, .i32⟩
  | 47 => ⟨S_, .i32⟩
  | 48 => ⟨S64x64, .i32⟩
  | 49 => ⟨S64x64, .i32⟩
  | 50 => ⟨S64x64, .i32⟩
  | 51 => ⟨S64x64, .i1⟩
  | 52 => ⟨S_, .i1⟩
  | 53 => ⟨S64x64, .i1⟩
  | 54 => ⟨S64x64, .i1⟩
  | 55 => ⟨S1x64x64x1x1, .i1⟩
  | 56 => ⟨S1x128x64x16x128, .f32⟩
  | 57 => ⟨S128x1x64x16x128, .f32⟩
  | 58 => ⟨S1x128x64x16x128, .f32⟩
  | 59 => ⟨S128x1x64x16x128, .f32⟩
  | 60 => ⟨S1x128x64x16x128, .f32⟩
  | 61 => ⟨S128x1x64x16x128, .f32⟩
  | 62 => ⟨S1x128x64x16x128, .f32⟩
  | 63 => ⟨S128x1x64x16x128, .f32⟩
  | 64 => ⟨S_, .f32⟩
  | 65 => ⟨S128x1x64x16x128, .f32⟩
  | 66 => ⟨S_, .i32⟩
  | 67 => ⟨S128x1x64x16x128, .f32⟩
  | 68 => ⟨S128x1x64x16x128, .f32⟩
  | 69 => ⟨S128x1x64x16x128, .f32⟩
  | 70 => ⟨S128x1x64x16x128, .f32⟩
  | 71 => ⟨S1x64x64x1x1, .i1⟩
  | 72 => ⟨S_, .i32⟩
  | 73 => ⟨S1x16x128x128, .f32⟩
  | 74 => ⟨S128x1x64x16x128, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x1x64x16x128, .f32⟩
  | 82 => ⟨S1x64x16x128, .f32⟩
  | 83 => ⟨S_, .i32⟩
  | 84 => ⟨S_, .i32⟩
  | 85 => ⟨S_, .i32⟩
  | 86 => ⟨S_, .i32⟩
  | 87 => ⟨S1x1x64x16x128, .f32⟩
  | 88 => ⟨S1x64x16x128, .f32⟩
  | 89 => ⟨S_, .i32⟩
  | 90 => ⟨S_, .i32⟩
  | 91 => ⟨S_, .i32⟩
  | 92 => ⟨S_, .i32⟩
  | 93 => ⟨S1x1x64x16x128, .f32⟩
  | 94 => ⟨S1x64x16x128, .f32⟩
  | 95 => ⟨S_, .i32⟩
  | 96 => ⟨S_, .i32⟩
  | 97 => ⟨S_, .i32⟩
  | 98 => ⟨S_, .i32⟩
  | 99 => ⟨S1x1x64x16x128, .f32⟩
  | 100 => ⟨S1x64x16x128, .f32⟩
  | 101 => ⟨S_, .f32⟩
  | 102 => ⟨S_, .f32⟩
  | 103 => ⟨S1x64x16x128, .f32⟩
  | 104 => ⟨S1x64x16x128, .f32⟩
  | 105 => ⟨S1x64x16x128, .f32⟩
  | 106 => ⟨S1x16x128x64, .f32⟩
  | 107 => ⟨S1x64x16x128, .f32⟩
  | 108 => ⟨S1x64x1x16x128, .f32⟩
  | 109 => ⟨S1x1x64x16x128, .f32⟩
  | 110 => ⟨S1x64x64x16x128, .f32⟩
  | 111 => ⟨S1x64x64x16x128, .f32⟩
  | 112 => ⟨S1x64x64x16x128, .f32⟩
  | 113 => ⟨S_, .f32⟩
  | 114 => ⟨S_, .f32⟩
  | 115 => ⟨S1x64x64x16x128, .i1⟩
  | 116 => ⟨S1x64x64x16x128, .f32⟩
  | 117 => ⟨S1x64x64x16x128, .f32⟩
  | 118 => ⟨S1x64x64x16x128, .f32⟩
  | 119 => ⟨S_, .f32⟩
  | 120 => ⟨S_, .f32⟩
  | 121 => ⟨S1x64x64x16x128, .i1⟩
  | 122 => ⟨S1x64x64x16x128, .f32⟩
  | 123 => ⟨S1x64x64x16x128, .f32⟩
  | 124 => ⟨S1x64x1x16x128, .f32⟩
  | 125 => ⟨S1x1x64x16x128, .f32⟩
  | 126 => ⟨S1x64x64x16x128, .f32⟩
  | 127 => ⟨S1x64x64x16x128, .f32⟩
  | _ => ⟨S9216x8192, .f32⟩

abbrev hbmTy0_1 (i : Nat) : BufTy := match i % 128 with
  | 0 => ⟨S1x64x64x16x128, .f32⟩
  | 1 => ⟨S1x64x64x16x128, .f32⟩
  | 2 => ⟨S_, .f32⟩
  | 3 => ⟨S1x64x64x16, .f32⟩
  | 4 => ⟨S1x64x16x64, .f32⟩
  | 5 => ⟨S1x16x128x64, .f32⟩
  | 6 => ⟨S1x64x16x128, .f32⟩
  | 7 => ⟨S1x1x16x128, .f32⟩
  | 8 => ⟨S1x16x128, .f32⟩
  | 9 => ⟨S1x16x128, .f32⟩
  | 10 => ⟨S1x16x128x1, .f32⟩
  | 11 => ⟨S1x16x128x128, .f32⟩
  | 12 => ⟨S1x16x128x128, .f32⟩
  | 13 => ⟨S1x1x16x128, .f32⟩
  | 14 => ⟨S1x64x16x128, .f32⟩
  | 15 => ⟨S1x64x16x128, .f32⟩
  | 16 => ⟨S1x64x16x128, .f32⟩
  | 17 => ⟨S1x64x16x128, .f32⟩
  | 18 => ⟨S1x16x128x128, .f32⟩
  | 19 => ⟨S1x16x128x128, .f32⟩
  | 20 => ⟨S1x64x16x128, .f32⟩
  | 21 => ⟨S1x1x64x16x128, .f32⟩
  | 22 => ⟨S_, .i32⟩
  | 23 => ⟨S_, .i32⟩
  | 24 => ⟨S_, .i32⟩
  | 25 => ⟨S_, .i32⟩
  | 26 => ⟨S128x1x64x16x128, .f32⟩
  | 27 => ⟨S_, .i32⟩
  | 28 => ⟨S_, .i32⟩
  | 29 => ⟨S1x128x64x16x128, .f32⟩
  | 30 => ⟨S1x8192x16x128, .f32⟩
  | 31 => ⟨S8192x2048, .f32⟩
  | 32 => ⟨S1x8192x2048, .f32⟩
  | 33 => ⟨S1x8192x16x128, .f32⟩
  | 34 => ⟨S_, .f32⟩
  | 35 => ⟨S1x8192x16, .f32⟩
  | 36 => ⟨S1x8192x16x1, .f32⟩
  | 37 => ⟨S_, .f32⟩
  | 38 => ⟨S1x8192x16x1, .f32⟩
  | 39 => ⟨S1x8192x16x1, .f32⟩
  | 40 => ⟨S_, .f32⟩
  | 41 => ⟨S1x8192x16x1, .f32⟩
  | 42 => ⟨S1x8192x16x1, .f32⟩
  | 43 => ⟨S1x8192x16x1, .f32⟩
  | 44 => ⟨S1x8192x16x128, .f32⟩
  | 45 => ⟨S1x8192x16x128, .f32⟩
  | 46 => ⟨S1x1x1x128, .f32⟩
  | 47 => ⟨S1x8192x16x128, .f32⟩
  | 48 => ⟨S1x8192x16x128, .f32⟩
  | 49 => ⟨S1x8192x16x128, .f32⟩
  | 50 => ⟨S1x8192x16x128, .f32⟩
  | 51 => ⟨S1x8192x16x128, .f32⟩
  | 52 => ⟨S_, .f32⟩
  | 53 => ⟨S1x8192x16x128, .f32⟩
  | 54 => ⟨S1x8192x16x128, .f32⟩
  | 55 => ⟨S_, .f32⟩
  | 56 => ⟨S1x8192x16x128, .f32⟩
  | 57 => ⟨S1x8192x16x128, .f32⟩
  | 58 => ⟨S1x8192x16x128, .f32⟩
  | 59 => ⟨S1x8192x16x128, .f32⟩
  | 60 => ⟨S8192x2048, .f32⟩
  | 61 => ⟨S8192x2048, .bf16⟩
  | _ => ⟨S9216x8192, .f32⟩

abbrev hbmTy (i : Nat) : BufTy := match i / 128 with
  | 0 => hbmTy0_0 i
  | 1 => hbmTy0_1 i
  | _ => ⟨S9216x8192, .f32⟩

abbrev bufTy : (tb : Table) → Fin (tcTables nBuf tb) → BufTy
  | .hbm, ⟨i, _⟩ => hbmTy i
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_c_5 : Ref sig .tc := ⟨.hbm, 66, rfl⟩
abbrev main_v40_0 : Ref sig .tc := ⟨.hbm, 67, rfl⟩
abbrev main_v40_1 : Ref sig .tc := ⟨.hbm, 68, rfl⟩
abbrev main_v40_2 : Ref sig .tc := ⟨.hbm, 69, rfl⟩
abbrev main_v40_3 : Ref sig .tc := ⟨.hbm, 70, rfl⟩
abbrev main_v40_4 : Ref sig .tc := ⟨.hbm, 71, rfl⟩
abbrev main_v40_5 : Ref sig .tc := ⟨.hbm, 72, rfl⟩
abbrev main_v40_6 : Ref sig .tc := ⟨.hbm, 73, rfl⟩
abbrev main_v40_7 : Ref sig .tc := ⟨.hbm, 74, rfl⟩
abbrev main_while0c_c_16 : Ref sig .tc := ⟨.hbm, 75, rfl⟩
abbrev main_while0c_v63 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v63 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v64 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v65 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v66 : Ref sig .tc := ⟨.hbm, 100, rfl⟩
abbrev main_while0b_call6_call0_cst : Ref sig .tc := ⟨.hbm, 101, rfl⟩
abbrev main_while0b_call6_call0_v0 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_cst_16 : Ref sig .tc := ⟨.hbm, 113, rfl⟩
abbrev main_while0b_call7_v0 : Ref sig .tc := ⟨.hbm, 114, rfl⟩
abbrev main_while0b_call7_v1 : Ref sig .tc := ⟨.hbm, 115, rfl⟩
abbrev main_while0b_call7_v2 : Ref sig .tc := ⟨.hbm, 116, rfl⟩
abbrev main_while0b_v77 : Ref sig .tc := ⟨.hbm, 117, rfl⟩
abbrev main_while0b_v78 : Ref sig .tc := ⟨.hbm, 118, rfl⟩
abbrev main_while0b_cst_17 : Ref sig .tc := ⟨.hbm, 119, rfl⟩
abbrev main_while0b_call8_v0 : Ref sig .tc := ⟨.hbm, 120, rfl⟩
abbrev main_while0b_call8_v1 : Ref sig .tc := ⟨.hbm, 121, rfl⟩
abbrev main_while0b_call8_v2 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_cst_18 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_v97 : Ref sig .tc := ⟨.hbm, 142, rfl⟩
abbrev main_while0b_v98 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_v103 : Ref sig .tc := ⟨.hbm, 148, rfl⟩
abbrev main_while0b_call9_v0 : Ref sig .tc := ⟨.hbm, 149, rfl⟩
abbrev main_while0b_call9_c : Ref sig .tc := ⟨.hbm, 150, rfl⟩
abbrev main_while0b_call9_c_0 : Ref sig .tc := ⟨.hbm, 151, rfl⟩
abbrev main_while0b_call9_c_1 : Ref sig .tc := ⟨.hbm, 152, rfl⟩
abbrev main_while0b_call9_c_2 : Ref sig .tc := ⟨.hbm, 153, rfl⟩
abbrev main_while0b_v104 : Ref sig .tc := ⟨.hbm, 154, rfl⟩
abbrev main_while0b_c_19 : Ref sig .tc := ⟨.hbm, 155, rfl⟩
abbrev main_while0b_v105 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_cst_6 : Ref sig .tc := ⟨.hbm, 162, rfl⟩
abbrev main_v46 : Ref sig .tc := ⟨.hbm, 163, rfl⟩
abbrev main_v47 : Ref sig .tc := ⟨.hbm, 164, rfl⟩
abbrev main_cst_7 : Ref sig .tc := ⟨.hbm, 165, rfl⟩
abbrev main_v48 : Ref sig .tc := ⟨.hbm, 166, rfl⟩
abbrev main_v49 : Ref sig .tc := ⟨.hbm, 167, rfl⟩
abbrev main_cst_8 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_call10_v0 : Ref sig .tc := ⟨.hbm, 178, rfl⟩
abbrev main_call10_v1 : Ref sig .tc := ⟨.hbm, 179, rfl⟩
abbrev main_call10_cst : Ref sig .tc := ⟨.hbm, 180, rfl⟩
abbrev main_call10_v2 : Ref sig .tc := ⟨.hbm, 181, rfl⟩
abbrev main_call10_v3 : Ref sig .tc := ⟨.hbm, 182, rfl⟩
abbrev main_call10_cst_0 : Ref sig .tc := ⟨.hbm, 183, rfl⟩
abbrev main_call10_v4 : Ref sig .tc := ⟨.hbm, 184, rfl⟩
abbrev main_call10_v5 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S9216x4096 : Shape := ⟨2, ![9216, 4096]⟩
abbrev S4096 : Shape := ⟨1, ![4096]⟩
abbrev S4096x11008 : Shape := ⟨2, ![4096, 11008]⟩
abbrev S11008x4096 : Shape := ⟨2, ![11008, 4096]⟩
abbrev S1x4096 : Shape := ⟨2, ![1, 4096]⟩
abbrev S4096x256 : Shape := ⟨2, ![4096, 256]⟩
abbrev S768x4096 : Shape := ⟨2, ![768, 4096]⟩
abbrev S256x4096 : Shape := ⟨2, ![256, 4096]⟩
abbrev S64x4096 : Shape := ⟨2, ![64, 4096]⟩
abbrev S64 : Shape := ⟨1, ![64]⟩
abbrev S64x1 : Shape := ⟨2, ![64, 1]⟩
abbrev S768x256 : Shape := ⟨2, ![768, 256]⟩

abbrev nBuf : Space → Nat
  | .hbm => 10
  | .vmem => 11
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .bf16⟩
  | .hbm, ⟨6, _⟩ => ⟨S4096x11008, .bf16⟩
  | .hbm, ⟨7, _⟩ => ⟨S11008x4096, .bf16⟩
  | .hbm, ⟨8, _⟩ => ⟨S1x4096, .f32⟩
  | .hbm, ⟨9, _⟩ => ⟨S9216x4096, .f32⟩
  | .local _ .vmem, ⟨0, _⟩ => ⟨S4096x256, .bf16⟩
  | .local _ .vmem, ⟨1, _⟩ => ⟨S4096x256, .bf16⟩
  | .local _ .vmem, ⟨2, _⟩ => ⟨S768x4096, .f32⟩
  | .local _ .vmem, ⟨3, _⟩ => ⟨S1x4096, .f32⟩
  | .local _ .vmem, ⟨4, _⟩ => ⟨S4096x256, .bf16⟩
  | .local _ .vmem, ⟨5, _⟩ => ⟨S4096x256, .bf16⟩
  | .local _ .vmem, ⟨6, _⟩ => ⟨S256x4096, .bf16⟩
  | .local _ .vmem, ⟨7, _⟩ => ⟨S256x4096, .bf16⟩
  | .local _ .vmem, ⟨8, _⟩ => ⟨S768x4096, .f32⟩
  | .local _ .vmem, ⟨9, _⟩ => ⟨S768x4096, .f32⟩
  | .local _ .vmem, ⟨10, _⟩ => ⟨S768x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S768x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S9216x4096 : Shape := ⟨2, ![9216, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S9216 : Shape := ⟨1, ![9216]⟩
abbrev S9216x1 : Shape := ⟨2, ![9216, 1]⟩
abbrev S1x4096 : Shape := ⟨2, ![1, 4096]⟩
abbrev S9216x11008 : Shape := ⟨2, ![9216, 11008]⟩

abbrev nBuf : Space → Nat
  | .hbm => 38
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S9216x4096, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x4096, .f32⟩
  | .hbm, ⟨17, _⟩ => ⟨S9216x4096, .f32⟩
  | .hbm, ⟨18, _⟩ => ⟨S1x4096, .f32⟩
  | .hbm, ⟨19, _⟩ => ⟨S9216x4096, .f32⟩
  | .hbm, ⟨20, _⟩ => ⟨S9216x4096, .f32⟩
  | .hbm, ⟨21, _⟩ => ⟨S9216x11008, .f32⟩
  | .hbm, ⟨22, _⟩ => ⟨S9216x11008, .f32⟩
  | .hbm, ⟨23, _⟩ => ⟨S9216x11008, .f32⟩
  | .hbm, ⟨24, _⟩ => ⟨S_, .f32⟩
  | .hbm, ⟨25, _⟩ => ⟨S9216x11008, .f32⟩
  | .hbm, ⟨26, _⟩ => ⟨S9216x11008, .f32⟩
  | .hbm, ⟨27, _⟩ => ⟨S_, .f32⟩
  | .hbm, ⟨28, _⟩ => ⟨S9216x11008, .f32⟩
  | .hbm, ⟨29, _⟩ => ⟨S9216x11008, .f32⟩
  | .hbm, ⟨30, _⟩ => ⟨S9216x11008, .f32⟩
  | .hbm, ⟨31, _⟩ => ⟨S9216x11008, .f32⟩
  | .hbm, ⟨32, _⟩ => ⟨S9216x11008, .f32⟩
  | .hbm, ⟨33, _⟩ => ⟨S9216x4096, .f32⟩
  | .hbm, ⟨34, _⟩ => ⟨S_, .f32⟩
  | .hbm, ⟨35, _⟩ => ⟨S9216x4096, .f32⟩
  | .hbm, ⟨36, _⟩ => ⟨S9216x4096, .f32⟩
  | .hbm, ⟨37, _⟩ => ⟨S9216x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S9216x4096 : Shape := ⟨2, ![9216, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S9216x4096, .f32⟩
  | .hbm, ⟨4, _⟩ => ⟨S4096x4096, .bf16⟩
  | .hbm, ⟨5, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S9216x4096 : Shape := ⟨2, ![9216, 4096]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S9216x4096, .f32⟩
  | .hbm, ⟨4, _⟩ => ⟨S9216x4096, .f32⟩
  | .hbm, ⟨5, _⟩ => ⟨S9216x4096, .f32⟩
  | .hbm, ⟨6, _⟩ => ⟨S9216x4096, .f32⟩
  | .hbm, ⟨7, _⟩ => ⟨S9216x4096, .f32⟩
  | .hbm, ⟨8, _⟩ => ⟨S_, .f32⟩
  | .hbm, ⟨9, _⟩ => ⟨S9216x4096, .f32⟩
  | .hbm, ⟨10, _⟩ => ⟨S9216x4096, .f32⟩
  | .hbm, ⟨11, _⟩ => ⟨S_, .f32⟩
  | .hbm, ⟨12, _⟩ => ⟨S9216x4096, .f32⟩
  | .hbm, ⟨13, _⟩ => ⟨S9216x4096, .f32⟩
  | .hbm, ⟨14, _⟩ => ⟨S9216x4096, .f32⟩
  | .hbm, ⟨15, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S9216x4096 : Shape := ⟨2, ![9216, 4096]⟩
abbrev S4096x12352 : Shape := ⟨2, ![4096, 12352]⟩
abbrev S4096x12288 : Shape := ⟨2, ![4096, 12288]⟩
abbrev S9216x12288 : Shape := ⟨2, ![9216, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x12352, .f32⟩
  | .hbm, ⟨2, _⟩ => ⟨S4096x12288, .f32⟩
  | .hbm, ⟨3, _⟩ => ⟨S4096x12288, .bf16⟩
  | .hbm, ⟨4, _⟩ => ⟨S9216x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S9216x4096 : Shape := ⟨2, ![9216, 4096]⟩
abbrev S4096x12352 : Shape := ⟨2, ![4096, 12352]⟩
abbrev S9216x12352 : Shape := ⟨2, ![9216, 12352]⟩
abbrev S9216x12288 : Shape := ⟨2, ![9216, 12288]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x12352, .f32⟩
  | .hbm, ⟨2, _⟩ => ⟨S9216x4096, .f32⟩
  | .hbm, ⟨3, _⟩ => ⟨S9216x12352, .f32⟩
  | .hbm, ⟨4, _⟩ => ⟨S9216x12288, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S9216x7680 : Shape := ⟨2, ![9216, 7680]⟩
abbrev S9216 : Shape := ⟨1, ![9216]⟩
abbrev S128 : Shape := ⟨1, ![128]⟩
abbrev S9216x1 : Shape := ⟨2, ![9216, 1]⟩
abbrev S64 : Shape := ⟨1, ![64]⟩
abbrev S_ : Shape := ⟨0, ![]⟩
abbrev S1x64 : Shape := ⟨2, ![1, 64]⟩
abbrev S9216x64 : Shape := ⟨2, ![9216, 64]⟩
abbrev S32 : Shape := ⟨1, ![32]⟩
abbrev S1x32 : Shape := ⟨2, ![1, 32]⟩
abbrev S9216x32 : Shape := ⟨2, ![9216, 32]⟩
abbrev S9216x128 : Shape := ⟨2, ![9216, 128]⟩
abbrev S1x128 : Shape := ⟨2, ![1, 128]⟩
abbrev S9216x2048 : Shape := ⟨2, ![9216, 2048]⟩
abbrev S9216x512 : Shape := ⟨2, ![9216, 512]⟩
abbrev S9216x4096 : Shape := ⟨2, ![9216, 4096]⟩
abbrev S256x7680 : Shape := ⟨2, ![256, 7680]⟩
abbrev S256x128 : Shape := ⟨2, ![256, 128]⟩
abbrev S256x2048 : Shape := ⟨2, ![256, 2048]⟩
abbrev S256x512 : Shape := ⟨2, ![256, 512]⟩
abbrev S256x4096 : Shape := ⟨2, ![256, 4096]⟩
abbrev S256x32 : Shape := ⟨2, ![256, 32]⟩
abbrev S256 : Shape := ⟨1, ![256]⟩
abbrev S256x1 : Shape := ⟨2, ![256, 1]⟩

abbrev nBuf : Space → Nat
  | .hbm => 58
  | .vmem => 32
  | .smem => 0
  | _ => 0

abbrev bufTy : (tb : Table) → Fin (tcTables nBuf tb) → BufTy
  | .hbm, ⟨0, _⟩ => ⟨S9216x7680, .f32⟩
  | .hbm, ⟨1, _⟩ => ⟨S9216, .i32⟩
  | .hbm, ⟨2, _⟩ => ⟨S128, .f32⟩
  | .hbm, ⟨3, _⟩ => ⟨S128, .f32⟩
  | .hbm, ⟨4, _⟩ => ⟨S9216, .f32⟩
  | .hbm, ⟨5, _⟩ => ⟨S9216x1, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S9216x64, .f32⟩
  | .hbm, ⟨16, _⟩ => ⟨S9216x64, .f32⟩
  | .hbm, ⟨17, _⟩ => ⟨S9216x64, .f32⟩
  | .hbm, ⟨18, _⟩ => ⟨S9216x64, .f32⟩
  | .hbm, ⟨19, _⟩ => ⟨S9216x64, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S1x32, .f32⟩
  | .hbm, ⟨29, _⟩ => ⟨S9216x32, .f32⟩
  | .hbm, ⟨30, _⟩ => ⟨S9216x32, .f32⟩
  | .hbm, ⟨31, _⟩ => ⟨S9216x32, .f32⟩
  | .hbm, ⟨32, _⟩ => ⟨S9216x32, .f32⟩
  | .hbm, ⟨33, _⟩ => ⟨S9216x32, .f32⟩
  | .hbm, ⟨34, _⟩ => ⟨S_, .f32⟩
  | .hbm, ⟨35, _⟩ => ⟨S9216x32, .f32⟩
  | .hbm, ⟨36, _⟩ => ⟨S_, .f32⟩
  | .hbm, ⟨37, _⟩ => ⟨S9216x64, .f32⟩
  | .hbm, ⟨38, _⟩ => ⟨S_, .f32⟩
  | .hbm, ⟨39, _⟩ => ⟨S9216x64, .f32⟩
  | .hbm, ⟨40, _⟩ => ⟨S9216x128, .f32⟩
  | .hbm, ⟨41, _⟩ => ⟨S9216x64, .f32⟩
  | .hbm, ⟨42, _⟩ => ⟨S9216x128, .f32⟩
  | .hbm, ⟨43, _⟩ => ⟨S9216x128, .f32⟩
  | .hbm, ⟨44, _⟩ => ⟨S9216x32, .f32⟩
  | .hbm, ⟨45, _⟩ => ⟨S9216x128, .f32⟩
  | .hbm, ⟨46, _⟩ => ⟨S9216x128, .f32⟩
  | .hbm, ⟨47, _⟩ => ⟨S1x128, .f32⟩
  | .hbm, ⟨48, _⟩ => ⟨S1x128, .f32⟩
  | .hbm, ⟨49, _⟩ => ⟨S9216x2048, .bf16⟩
  | .hbm, ⟨50, _⟩ => ⟨S9216x512, .f32⟩
  | .hbm, ⟨51, _⟩ => ⟨S9216x512, .bf16⟩
  | .hbm, ⟨52, _⟩ => ⟨S9216x512, .f32⟩
  | .hbm, ⟨53, _⟩ => ⟨S9216x512, .bf16⟩
  | .hbm, ⟨54, _⟩ => ⟨S9216x4096, .bf16⟩
  | .hbm, ⟨55, _⟩ => ⟨S9216x128, .f32⟩
  | .hbm, ⟨56, _⟩ => ⟨S9216x128, .bf16⟩
  | .hbm, ⟨57, _⟩ => ⟨S9216x32, .f32⟩
  | .local _ .vmem, ⟨0, _⟩ => ⟨S256x7680, .f32⟩
  | .local _ .vmem, ⟨1, _⟩ => ⟨S256x7680, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S256x2048, .bf16⟩
  | .local _ .vmem, ⟨15, _⟩ => ⟨S256x2048, .bf16⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x4096, .bf16⟩
  | .local _ .vmem, ⟨25, _⟩ => ⟨S256x4096, .bf16⟩
  | .local _ .vmem, ⟨26, _⟩ => ⟨S256x128, .f32⟩
  | .local _ .vmem, ⟨27, _⟩ => ⟨S256x128, .f32⟩
  | .local _ .vmem, ⟨28, _⟩ => ⟨S256x128, .bf16⟩
  | .local _ .vmem, ⟨29, _⟩ => ⟨S256x128, .bf16⟩
  | .local _ .vmem, ⟨30, _⟩ => ⟨S256x32, .f32⟩
  | .local _ .vmem, ⟨31, _⟩ => ⟨S256x32, .f32⟩
  | _, _ => ⟨S9216x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev main_v38_3 : Ref sig .tc := ⟨.hbm, 52, rfl⟩
abbrev main_v38_4 : Ref sig .tc := ⟨.hbm, 53, rfl⟩
abbrev main_v38_5 : Ref sig .tc := ⟨.hbm, 54, rfl⟩
abbrev main_v38_6 : Ref sig .tc := ⟨.hbm, 55, rfl⟩
abbrev main_v38_7 : Ref sig .tc := ⟨.hbm, 56, rfl⟩
abbrev main_v38_8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S9216x7680 : Shape := ⟨2, ![9216, 7680]⟩
abbrev S9216 : Shape := ⟨1, ![9216]⟩
abbrev S128 : Shape := ⟨1, ![128]⟩
abbrev S9216x512 : Shape := ⟨2, ![9216, 512]⟩
abbrev S9216x128 : Shape := ⟨2, ![9216, 128]⟩
abbrev S9216x4x128 : Shape := ⟨3, ![9216, 4, 128]⟩
abbrev S_ : Shape := ⟨0, ![]⟩
abbrev S9216x4 : Shape := ⟨2, ![9216, 4]⟩
abbrev S9216x4x1 : Shape := ⟨3, ![9216, 4, 1]⟩
abbrev S1x1x128 : Shape := ⟨3, ![1, 1, 128]⟩
abbrev S64 : Shape := ⟨1, ![64]⟩
abbrev S9216x1 : Shape := ⟨2, ![9216, 1]⟩
abbrev S1x64 : Shape := ⟨2, ![1, 64]⟩
abbrev S9216x64 : Shape := ⟨2, ![9216, 64]⟩
abbrev S9216x1x64 : Shape := ⟨3, ![9216, 1, 64]⟩
abbrev S9216x4x64 : Shape := ⟨3, ![9216, 4, 64]⟩
abbrev S9216x4x0 : Shape := ⟨3, ![9216, 4, 0]⟩
abbrev S9216x1x128 : Shape := ⟨3, ![9216, 1, 128]⟩
abbrev S32 : Shape := ⟨1, ![32]⟩
abbrev S1x32 : Shape := ⟨2, ![1, 32]⟩
abbrev S9216x32 : Shape := ⟨2, ![9216, 32]⟩
abbrev S9216x1x32 : Shape := ⟨3, ![9216, 1, 32]⟩

abbrev nBuf : Space → Nat
  | .hbm => 87
  | .vmem => 0
  | .smem => 0
  | _ => 0

abbrev bufTy : (tb : Table) → Fin (tcTables nBuf tb) → BufTy
  | .hbm, ⟨0, _⟩ => ⟨S9216x7680, .f32⟩
  | .hbm, ⟨1, _⟩ => ⟨S9216, .i32⟩
  | .hbm, ⟨2, _⟩ => ⟨S128, .f32⟩
  | .hbm, ⟨3, _⟩ => ⟨S128, .f32⟩
  | .hbm, ⟨4, _⟩ => ⟨S9216x512, .f32⟩
  | .hbm, ⟨5, _⟩ => ⟨S9216x512, .f32⟩
  | .hbm, ⟨6, _⟩ => ⟨S9216x128, .f32⟩
  | .hbm, ⟨7, _⟩ => ⟨S9216x4x128, .f32⟩
  | .hbm, ⟨8, _⟩ => ⟨S9216x4x128, .f32⟩
  | .hbm, ⟨9, _⟩ => ⟨S_, .f32⟩
  | .hbm, ⟨10, _⟩ => ⟨S9216x4, .f32⟩
  | .hbm, ⟨11, _⟩ => ⟨S9216x4x1, .f32⟩
  | .hbm, ⟨12, _⟩ => ⟨S_, .f32⟩
  | .hbm, ⟨13, _⟩ => ⟨S9216x4x1, .f32⟩
  | .hbm, ⟨14, _⟩ => ⟨S9216x4x1, .f32⟩
  | .hbm, ⟨15, _⟩ => ⟨S_, .f32⟩
  | .hbm, ⟨16, _⟩ => ⟨S9216x4x1, .f32⟩
  | .hbm, ⟨17, _⟩ => ⟨S9216x4x1, .f32⟩
  | .hbm, ⟨18, _⟩ => ⟨S9216x4x1, .f32⟩
  | .hbm, ⟨19, _⟩ => ⟨S9216x4x128, .f32⟩
  | .hbm, ⟨20, _⟩ => ⟨S9216x4x128, .f32⟩
  | .hbm, ⟨21, _⟩ => ⟨S1x1x128, .f32⟩
  | .hbm, ⟨22, _⟩ => ⟨S9216x4x128, .f32⟩
  | .hbm, ⟨23, _⟩ => ⟨S9216x4x128, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S9216, .f32⟩
  | .hbm, ⟨33, _⟩ => ⟨S9216x1, .f32⟩
  | .hbm, ⟨34, _⟩ => ⟨S1x64, .f32⟩
  | .hbm, ⟨35, _⟩ => ⟨S9216x64, .f32⟩
  | .hbm, ⟨36, _⟩ => ⟨S9216x64, .f32⟩
  | .hbm, ⟨37, _⟩ => ⟨S9216x64, .f32⟩
  | .hbm, ⟨38, _⟩ => ⟨S9216x64, .f32⟩
  | .hbm, ⟨39, _⟩ => ⟨S9216x1x64, .f32⟩
  | .hbm, ⟨40, _⟩ => ⟨S9216x64, .f32⟩
  | .hbm, ⟨41, _⟩ => ⟨S9216x1x64, .f32⟩
  | .hbm, ⟨42, _⟩ => ⟨S9216x4x64, .f32⟩
  | .hbm, ⟨43, _⟩ => ⟨S9216x4x64, .f32⟩
  | .hbm, ⟨44, _⟩ => ⟨S9216x4x0, .f32⟩
  | .hbm, ⟨45, _⟩ => ⟨S9216x4x64, .f32⟩
  | .hbm, ⟨46, _⟩ => ⟨S9216x4x64, .f32⟩
  | .hbm, ⟨47, _⟩ => ⟨S9216x4x64, .f32⟩
  | .hbm, ⟨48, _⟩ => ⟨S9216x4x64, .f32⟩
  | .hbm, ⟨49, _⟩ => ⟨S9216x4x64, .f32⟩
  | .hbm, ⟨50, _⟩ => ⟨S9216x4x64, .f32⟩
  | .hbm, ⟨51, _⟩ => ⟨S9216x4x64, .f32⟩
  | .hbm, ⟨52, _⟩ => ⟨S9216x4x64, .f32⟩
  | .hbm, ⟨53, _⟩ => ⟨S9216x4x64, .f32⟩
  | .hbm, ⟨54, _⟩ => ⟨S9216x4x64, .f32⟩
  | .hbm, ⟨55, _⟩ => ⟨S9216x4x128, .f32⟩
  | .hbm, ⟨56, _⟩ => ⟨S9216x512, .f32⟩
  | .hbm, ⟨57, _⟩ => ⟨S9216x1x128, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S9216, .f32⟩
  | .hbm, ⟨67, _⟩ => ⟨S9216x1, .f32⟩
  | .hbm, ⟨68, _⟩ => ⟨S1x32, .f32⟩
  | .hbm, ⟨69, _⟩ => ⟨S9216x32, .f32⟩
  | .hbm, ⟨70, _⟩ => ⟨S9216x32, .f32⟩
  | .hbm, ⟨71, _⟩ => ⟨S9216x32, .f32⟩
  | .hbm, ⟨72, _⟩ => ⟨S9216x32, .f32⟩
  | .hbm, ⟨73, _⟩ => ⟨S9216x1x32, .f32⟩
  | .hbm, ⟨74, _⟩ => ⟨S9216x32, .f32⟩
  | .hbm, ⟨75, _⟩ => ⟨S9216x1x32, .f32⟩
  | .hbm, ⟨76, _⟩ => ⟨S9216x1x32, .f32⟩
  | .hbm, ⟨77, _⟩ => ⟨S9216x1x32, .f32⟩
  | .hbm, ⟨78, _⟩ => ⟨S9216x1x64, .f32⟩
  | .hbm, ⟨79, _⟩ => ⟨S9216x1x32, .f32⟩
  | .hbm, ⟨80, _⟩ => ⟨S9216x1x32, .f32⟩
  | .hbm, ⟨81, _⟩ => ⟨S9216x1x32, .f32⟩
  | .hbm, ⟨82, _⟩ => ⟨S9216x1x32, .f32⟩
  | .hbm, ⟨83, _⟩ => ⟨S9216x1x32, .f32⟩
  | .hbm, ⟨84, _⟩ => ⟨S9216x1x32, .f32⟩
  | .hbm, ⟨85, _⟩ => ⟨S9216x1x128, .f32⟩
  | .hbm, ⟨86, _⟩ => ⟨S9216x128, .f32⟩
  | _, _ => ⟨S9216x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩

abbrev nD : Nat := 1
abbrev τ : Topo := Topo.v7x

variable {F : FTy → Type} [FloatOps F]
-- ==== Proof.EvenSpec.lean ====
module

public import Idealize.ShloMosaic.PureOps.Ideal
public import Idealize.ShloMosaic.Lib.Pointwise

@[expose] public section

noncomputable section

namespace Even

open Idealize.ShloMosaic

/-- The angle of channel `i` at position `p`, half a head of 64 channels: the position times 10000 to the power `-i/64`. -/
def g64 (p : BitVec 32) (i : ℕ) : EReal :=
  FloatOps.sitofp (F := Ideal) .f32 p * Ideal.pow (Ideal.ofBits .f32 0x461C4000#32)
    (Ideal.div (-FloatOps.sitofp (F := Ideal) .f32 (BitVec.ofNat 32 i)) (Ideal.ofBits .f32 0x42800000#32))

/-- The same for the indexer, whose turn is of half a width of 32 channels. -/
def g32 (p : BitVec 32) (i : ℕ) : EReal :=
  FloatOps.sitofp (F := Ideal) .f32 p * Ideal.pow (Ideal.ofBits .f32 0x461C4000#32)
    (Ideal.div (-FloatOps.sitofp (F := Ideal) .f32 (BitVec.ofNat 32 i)) (Ideal.ofBits .f32 0x42000000#32))

/-- A head's 128 channels, normed. -/
def nrm (X N : ℕ → EReal) (i : ℕ) : EReal :=
  X i * Ideal.rsqrt (Ideal.div (∑ k : Fin 128, X k * X k) (Ideal.ofBits .f32 0x43000000#32) + Ideal.ofBits .f32 0x358637BD#32) * N i

/-- The rotary turn of the first `2 * h` channels of a head. -/
def turn (h : ℕ) (Y G : ℕ → EReal) (i : ℕ) : EReal :=
  if i < h then Y i * Ideal.cos (G i) - Y (h + i) * Ideal.sin (G i)
  else if i - h < h then Y i * Ideal.cos (G (i - h)) + Y (i - h) * Ideal.sin (G (i - h)) else Y i

/-- A key entry: row `X`, column `q` of the 512 key columns. -/
def key (X N : ℕ → EReal) (p : BitVec 32) (q : ℕ) : EReal :=
  turn 64 (nrm (fun i => X (2048 + (q / 128 * 128 + i))) N) (g64 p) (q % 128)

/-- An indexer key entry. -/
def ikey (X : ℕ → EReal) (p : BitVec 32) (i : ℕ) : EReal := turn 32 (fun i => X (7168 + i)) (g32 p) i

/-- The full-width turn by two tables and a rotation of the channels. -/
theorem turn64_eq (Y G : ℕ → EReal) (b : ℕ) (hb : b < 128) :
    Y b * (if b < 64 then Ideal.cos (G b) else Ideal.cos (G (b - 64)))
      + Y ((b + 128 - 64) % 128) * (if b < 64 then -Ideal.sin (G b) else Ideal.sin (G (b - 64))) = turn 64 Y G b := by
  unfold turn
  by_cases h : b < 64
  · rw [if_pos h, if_pos h, if_pos h, show (b + 128 - 64) % 128 = 64 + b by omega, mul_neg, sub_eq_add_neg]
  · rw [if_neg h, if_neg h, if_neg h, if_pos (by omega), show (b + 128 - 64) % 128 = b - 64 by omega]

/-- The indexer's turn by three tables and two rotations of the channels. -/
theorem turn32_eq (Y G : ℕ → EReal) (b : ℕ) (hb : b < 128) :
    Y b * (if b < 32 then Ideal.cos (G b) else if b - 32 < 32 then Ideal.cos (G (b - 32)) else 1)
      + Y ((b + 128 - 96) % 128) * (if b < 32 then -Ideal.sin (G b) else 0)
      + Y ((b + 128 - 32) % 128) * (if b < 32 then 0 else if b - 32 < 32 then Ideal.sin (G (b - 32)) else 0) = turn 32 Y G b := by
  unfold turn
  by_cases h : b < 32
  · simp only [if_pos h]
    rw [show (b + 128 - 96) % 128 = 32 + b by omega, mul_neg, sub_eq_add_neg, mul_zero, add_zero]
  · simp only [if_neg h]
    by_cases h' : b - 32 < 32
    · simp only [if_pos h']
      rw [show (b + 128 - 32) % 128 = b - 32 by omega, mul_zero, add_zero]
    · simp only [if_neg h']
      rw [mul_one, mul_zero, mul_zero, add_zero, add_zero]

end Even
end
-- ==== Proof.EvenBody.lean ====
module

public import proofs.«01_k».proof.Proof.EvenSpec
public import proofs.«01_k».proof.Proof.Gen.Kernel5Ideal.Skeleton
public import Idealize.ShloMosaic.Lib.Claim
public import Idealize.ShloMosaic.Lib.Pointwise

@[expose] public section

set_option maxRecDepth 16384

noncomputable section

namespace Cert.Kernel5Ideal.Hand

open Cert.Kernel5Ideal Cert.Kernel5Ideal.Gen Idealize.ShloMosaic Idealize.ShloMosaic.TcCoe Idealize.SL.Sem

/-- Norm and turn of one head, at an entry. -/
theorem nr_at (c s : FVec Ideal S256x128 .f32) (w : FVec Ideal S1x128 .f32) (x : FVec Ideal S256x128 .f32) (a : Fin 256) (b : Fin 128) (X N : ℕ → EReal)
    (hx : ∀ k : Fin 128, x (ix2 a k) = X k) (hn : ∀ k : Fin 128, w (ix2 (0 : Fin 1) k) = N k) :
    k0_pay46 (F := Ideal) c s w x (ix2 a b) = Even.nrm X N b * c (ix2 a b) + Even.nrm X N (((b : ℕ) + 128 - 64) % 128) * s (ix2 a b) := by
  pointwise [k0_pay46]
  simp only [hx, hn]
  rfl

/-- The indexer's turn of one head, at an entry. -/
theorem ir_at (c s s2 : FVec Ideal S256x128 .f32) (x : FVec Ideal S256x128 .f32) (a : Fin 256) (b : Fin 128) (X : ℕ → EReal)
    (hx : ∀ k : Fin 128, x (ix2 a k) = X k) :
    k0_pay88 (F := Ideal) c s s2 x (ix2 a b) = X b * c (ix2 a b) + X (((b : ℕ) + 128 - 96) % 128) * s (ix2 a b) + X (((b : ℕ) + 128 - 32) % 128) * s2 (ix2 a b) := by
  pointwise [k0_pay88]
  simp only [hx]

/-- The four key heads are turned alike. -/
theorem pay43_eq : @k0_pay43 Ideal _ = k0_pay46 := rfl
theorem pay40_eq : @k0_pay40 Ideal _ = k0_pay46 := rfl
theorem pay37_eq (c s : FVec Ideal S256x128 .f32) (w : FVec Ideal S1x128 .f32) (x : FVec Ideal S256x128 .f32) :
    k0_pay37 (F := Ideal) c s w x (k0_pay36 x) = k0_pay46 c s w x := rfl

/-- The tables and the norm weight are read as they are. -/
theorem pay3_eq (x : FVec Ideal S256x128 .f32) : k0_pay3 (F := Ideal) x = x := by
  funext i
  pointwise [k0_pay3]
theorem pay4_eq (x : FVec Ideal S256x128 .f32) : k0_pay4 (F := Ideal) x = x := by
  funext i
  pointwise [k0_pay4]
theorem pay5_eq (x : FVec Ideal S256x128 .f32) : k0_pay5 (F := Ideal) x = x := by
  funext i
  pointwise [k0_pay5]
theorem pay6_eq (x : FVec Ideal S256x128 .f32) : k0_pay6 (F := Ideal) x = x := by
  funext i
  pointwise [k0_pay6]
theorem pay7_eq (x : FVec Ideal S256x128 .f32) : k0_pay7 (F := Ideal) x = x := by
  funext i
  pointwise [k0_pay7]
theorem pay9_eq (x : FVec Ideal S1x128 .f32) : k0_pay9 (F := Ideal) x = x := by
  funext i
  pointwise [k0_pay9]

end Cert.Kernel5Ideal.Hand
end
-- ==== Proof.EvenOut.lean ====
module

public import proofs.«01_k».proof.Proof.EvenBody
public import proofs.«01_k».proof.Proof.Gen.Kernel5Ideal.Frame
public import Idealize.ShloMosaic.Lib.Pipeline.ReadBack
public import Idealize.ShloMosaic.Lib.Pipeline.ValueKit

@[expose] public section

set_option maxRecDepth 16384

noncomputable section

namespace Cert.Kernel5Ideal.Hand

open Cert.Kernel5Ideal Cert.Kernel5Ideal.Gen Idealize.ShloMosaic Idealize.ShloMosaic.TcCoe Idealize.SL.Sem

/-- Row `a` of the block of projected rows, and the norm weight, as functions of plain numbers. -/
def rowOf (x0 : Vec Ideal S256x7680 .f32) (a : Fin 256) (k : ℕ) : EReal := if h : k < 7680 then x0 (ix2 a (⟨k, h⟩ : Fin 7680)) else 0
def wt (w : Vec Ideal S1x128 .f32) (k : ℕ) : EReal := if h : k < 128 then w (ix2 (0 : Fin 1) (⟨k, h⟩ : Fin 128)) else 0

/-- The key block: each head normed and turned. -/
def KR (x0 : Vec Ideal S256x7680 .f32) (c s : Vec Ideal S256x128 .f32) (w : Vec Ideal S1x128 .f32) (a : Fin 256) (q : Fin 512) : EReal :=
  Even.nrm (fun i => rowOf x0 a (2048 + ((q : ℕ) / 128 * 128 + i))) (wt w) ((q : ℕ) % 128) * c (ix2 a (⟨(q : ℕ) % 128, by omega⟩ : Fin 128))
    + Even.nrm (fun i => rowOf x0 a (2048 + ((q : ℕ) / 128 * 128 + i))) (wt w) (((q : ℕ) % 128 + 128 - 64) % 128) * s (ix2 a (⟨(q : ℕ) % 128, by omega⟩ : Fin 128))

/-- A load of 128 columns of the block of projected rows, from column `o` on. -/
theorem ld_at (x0 : Vec Ideal S256x7680 .f32) (o : ℕ) (hin : ∀ a, (![0, o] : Fin 2 → ℕ) a + (![256, 128] : Fin 2 → ℕ) a ≤ S256x7680.size a)
    (a : Fin 256) (k : Fin 128) : (View.ld x0 (Rect.unit ![0, o] ![256, 128] hin) : FVec Ideal S256x128 .f32) (ix2 a k) = rowOf x0 a (o + k) := by
  have ho : o + 128 ≤ 7680 := hin 1
  unfold rowOf
  rw [dif_pos (by omega)]
  refine congrArg x0 (funext fun d => Fin.ext ((Rect.idx_unit_val _ _ _ _ _).trans ?_))
  match d with
  | 0 => show 0 + (a : ℕ) = (a : ℕ); omega
  | 1 => show o + (k : ℕ) = o + (k : ℕ); omega

/-- A load of a whole block is the block. -/
theorem ld_tab (x : Vec Ideal S256x128 .f32) : View.ld x r0_0 = x := by
  funext i
  refine congrArg x (funext fun d => Fin.ext ((Rect.idx_unit_val _ _ _ _ _).trans ?_))
  match d with
  | 0 => show 0 + (i 0 : ℕ) = (i 0 : ℕ); omega
  | 1 => show 0 + (i 1 : ℕ) = (i 1 : ℕ); omega
theorem ld_wt (x : Vec Ideal S1x128 .f32) : View.ld x r0_1 = x := by
  funext i
  refine congrArg x (funext fun d => Fin.ext ((Rect.idx_unit_val _ _ _ _ _).trans ?_))
  match d with
  | 0 => show 0 + (i 0 : ℕ) = (i 0 : ℕ); omega
  | 1 => show 0 + (i 1 : ℕ) = (i 1 : ℕ); omega

section Words

variable (x0 : Vec Ideal S256x7680 .f32) (x1 x2 x3 x4 x5 : Vec Ideal S256x128 .f32) (x6 x7 : Vec Ideal S1x128 .f32)

/-- The tables and the key norm weight as the body has them are the blocks. -/
theorem p89 : k0_pay89 x0 x1 x2 x3 x4 x5 x6 x7 = x1 := (congrArg (k0_pay3 (F := Ideal)) (ld_tab x1)).trans (pay3_eq x1)
theorem p90 : k0_pay90 x0 x1 x2 x3 x4 x5 x6 x7 = x2 := (congrArg (k0_pay4 (F := Ideal)) (ld_tab x2)).trans (pay4_eq x2)
theorem p91 : k0_pay91 x0 x1 x2 x3 x4 x5 x6 x7 = x3 := (congrArg (k0_pay5 (F := Ideal)) (ld_tab x3)).trans (pay5_eq x3)
theorem p92 : k0_pay92 x0 x1 x2 x3 x4 x5 x6 x7 = x4 := (congrArg (k0_pay6 (F := Ideal)) (ld_tab x4)).trans (pay6_eq x4)
theorem p93 : k0_pay93 x0 x1 x2 x3 x4 x5 x6 x7 = x5 := (congrArg (k0_pay7 (F := Ideal)) (ld_tab x5)).trans (pay7_eq x5)
theorem p95 : k0_pay95 x0 x1 x2 x3 x4 x5 x6 x7 = x7 := (congrArg (k0_pay9 (F := Ideal)) (ld_wt x7)).trans (pay9_eq x7)

end Words

/-- Norm and turn of one loaded key head are those columns of the key block. -/
theorem key_piece (x0 : Vec Ideal S256x7680 .f32) (c s : Vec Ideal S256x128 .f32) (w : Vec Ideal S1x128 .f32) (j : ℕ)
    (hin : ∀ a, (![0, 2048 + 128 * j] : Fin 2 → ℕ) a + (![256, 128] : Fin 2 → ℕ) a ≤ S256x7680.size a) (x : S256x128.Idx) (a : Fin 256) (q : Fin 512)
    (h0 : (a : ℕ) = x 0) (h1 : (q : ℕ) = 128 * j + x 1) :
    k0_pay46 (F := Ideal) c s w (View.ld x0 (Rect.unit ![0, 2048 + 128 * j] ![256, 128] hin)) x = KR x0 c s w a q := by
  have hb : (x 1 : ℕ) < 128 := (x 1).isLt
  have ex : x = ix2 a (⟨(q : ℕ) % 128, by omega⟩ : Fin 128) := funext fun d => by
    match d with
    | 0 => exact Fin.ext h0.symm
    | 1 => exact Fin.ext (show (x 1 : ℕ) = (q : ℕ) % 128 by omega)
  have hq : (q : ℕ) / 128 * 128 = 128 * j := by omega
  rw [ex]
  refine (nr_at c s w _ a _ (fun i => rowOf x0 a (2048 + ((q : ℕ) / 128 * 128 + i))) (wt w) (fun k => (ld_at x0 _ hin a k).trans ?_) fun k => ?_).trans rfl
  · show rowOf x0 a _ = rowOf x0 a _
    rw [hq, Nat.add_assoc]
  · unfold wt
    rw [dif_pos k.isLt]

/-- The key block after the body. -/
theorem out9_at (x0 : Vec Ideal S256x7680 .f32) (x1 x2 x3 x4 x5 : Vec Ideal S256x128 .f32) (x6 x7 : Vec Ideal S1x128 .f32) (y : S256x512.Idx) :
    out0_9 x0 x1 x2 x3 x4 x5 x6 x7 y = KR x0 x1 x2 x7 (y 0) (y 1) := by
  frame_out
  rw [p89, p90, p95]
  canon_tiles x h
  case piece0 => exact key_piece x0 _ _ _ 3 _ x (y 0) (y 1) (by omega) (by omega)
  case piece1 => exact (congrFun (congrFun (congrFun (congrFun (congrFun pay43_eq _) _) _) _) x).trans (key_piece x0 _ _ _ 2 _ x (y 0) (y 1) (by omega) (by omega))
  case piece2 => exact (congrFun (congrFun (congrFun (congrFun (congrFun pay40_eq _) _) _) _) x).trans (key_piece x0 _ _ _ 1 _ x (y 0) (y 1) (by omega) (by omega))
  case piece3 => exact (congrFun (pay37_eq _ _ _ _) x).trans (key_piece x0 _ _ _ 0 _ x (y 0) (y 1) (show (y 0 : ℕ) = (x 0 : ℕ) by omega) (show (y 1 : ℕ) = 128 * 0 + (x 1 : ℕ) by omega))

/-- The value block after the body: columns of the projected rows as they are. -/
theorem out11_at (x0 : Vec Ideal S256x7680 .f32) (x1 x2 x3 x4 x5 : Vec Ideal S256x128 .f32) (x6 x7 : Vec Ideal S1x128 .f32) (y : S256x512.Idx) :
    out0_11 x0 x1 x2 x3 x4 x5 x6 x7 y = rowOf x0 (y 0) (2560 + (y 1 : ℕ)) := by
  have piece : ∀ (a : Fin 256) (q : Fin 512) (j : ℕ) (hin : ∀ d, (![0, 2560 + 128 * j] : Fin 2 → ℕ) d + (![256, 128] : Fin 2 → ℕ) d ≤ S256x7680.size d) (x : S256x128.Idx),
      (a : ℕ) = x 0 → (q : ℕ) = 128 * j + x 1 → (View.ld x0 (Rect.unit ![0, 2560 + 128 * j] ![256, 128] hin) : FVec Ideal S256x128 .f32) x = rowOf x0 a (2560 + q) := by
    intro a q j hin x h0 h1
    have ex : x = ix2 a (x 1 : Fin 128) := funext fun d => by
      match d with
      | 0 => exact Fin.ext h0.symm
      | 1 => rfl
    refine (congrArg _ ex).trans ((ld_at x0 _ hin a _).trans (congrArg (rowOf x0 a) ?_))
    show 2560 + 128 * j + (x 1 : ℕ) = 2560 + (q : ℕ)
    omega
  frame_out
  canon_tiles x h
  case piece0 => exact piece (y 0) (y 1) 3 _ x (by omega) (by omega)
  case piece1 => exact piece (y 0) (y 1) 2 _ x (by omega) (by omega)
  case piece2 => exact piece (y 0) (y 1) 1 _ x (by omega) (by omega)
  case piece3 => exact piece (y 0) (y 1) 0 _ x (by omega) (by omega)

/-- The indexer key block after the body. -/
theorem out14_at (x0 : Vec Ideal S256x7680 .f32) (x1 x2 x3 x4 x5 : Vec Ideal S256x128 .f32) (x6 x7 : Vec Ideal S1x128 .f32) (a : Fin 256) (b : Fin 128) :
    out0_14 x0 x1 x2 x3 x4 x5 x6 x7 (ix2 a b) = rowOf x0 a (7168 + b) * x3 (ix2 a b) + rowOf x0 a (7168 + ((b : ℕ) + 128 - 96) % 128) * x4 (ix2 a b)
      + rowOf x0 a (7168 + ((b : ℕ) + 128 - 32) % 128) * x5 (ix2 a b) := by
  frame_out
  refine (ir_at _ _ _ _ a b (fun i => rowOf x0 a (7168 + i)) fun k => ld_at x0 _ _ a k).trans ?_
  simp only [p91, p92, p93]

end Cert.Kernel5Ideal.Hand
end
-- ==== Proof.EvenTab.lean ====
module

public import proofs.«01_k».proof.Proof.EvenSpec
public import proofs.«01_k».proof.Proof.Gen.Kernel5Ideal.Frame
public import Idealize.ShloMosaic.Lib.Claim
public import Idealize.ShloMosaic.Lib.StableHlo.RunRead
public import Idealize.ShloMosaic.Lib.Pipeline.Frame
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel5Ideal.Hand

open Cert.Kernel5Ideal Cert.Kernel5Ideal.Gen Idealize.ShloMosaic Idealize.ShloMosaic.TcCoe Idealize.SL.Sem

/-- Where the windows of grid point `t` lie. -/
theorem idx : ∀ t : Fin cfg0.N, win0_0.index t = ![t.val, 0] ∧ win0_1.index t = ![t.val, 0] ∧
    win0_2.index t = ![t.val, 0] ∧ win0_3.index t = ![t.val, 0] ∧ win0_4.index t = ![t.val, 0] ∧ win0_5.index t = ![t.val, 0] ∧
    win0_7.index t = ![0, 0] ∧ win0_9.index t = ![t.val, 0] ∧ win0_11.index t = ![t.val, 0] ∧ win0_14.index t = ![t.val, 0] ∧
    t.val < 36 ∧ (cfg0.win 9).flush t = true ∧ (cfg0.win 11).flush t = true ∧ (cfg0.win 14).flush t = true :=
  (by decide +kernel : ∀ t : Fin grid0.N, _)

/-- The indexer's tables are three pieces side by side. -/
def cat3 (a b : (⟨S9216x32, .f32⟩ : BufTy).Contents (Elt Ideal)) (c : (⟨S9216x64, .f32⟩ : BufTy).Contents (Elt Ideal)) : (⟨S9216x128, .f32⟩ : BufTy).Contents (Elt Ideal) :=
  concatenate S9216x128 1 [⟨S9216x32, a⟩, ⟨S9216x32, b⟩, ⟨S9216x64, c⟩] concatenates_S9216x32_S9216x32_S9216x64_S9216x128_d1

/-- What no operation from the `i`th on writes is known after the first `i`. -/
theorem after_upto {τ : Topo} {sig : RefSig} {Val : EltTy → Type} {ops : List (HloOp τ sig Val)} (i : ℕ) (W : List (Ref sig .tc)) {r : Ref sig .tc}
    (hW : (ops.drop i).map HloOp.writes = W.map fun w => {Proc.devRef (τ := τ) .tc w}) (hr : r ∉ W) (V : Valuation τ sig Val) :
    StableHlo.after ops V (Proc.devRef .tc r) = StableHlo.upto ops V i (Proc.devRef .tc r) := by
  have h := StableHlo.after_append (ops.take i) (ops.drop i) V
  rw [List.take_append_drop] at h
  rw [h, StableHlo.after_unwritten W hW hr]
  rfl

section Reads

variable (m : (l : Loc nD τ sig) → l.ty.Contents (Elt Ideal)) (c : Dev nD)

/-- The arguments as functions of plain numbers: the projected rows, the positions, the key norm weight. -/
def aX (r k : ℕ) : EReal := if h : r < 9216 ∧ k < 7680 then (m ((c : Thread nD τ).loc main_arg0) : FVec Ideal S9216x7680 .f32) (ix2 (⟨r, h.1⟩ : Fin 9216) (⟨k, h.2⟩ : Fin 7680)) else 0
def aP (r : ℕ) : BitVec 32 := if h : r < 9216 then (m ((c : Thread nD τ).loc main_arg1) : Vec Ideal S9216 (.i32)) (ix1 (⟨r, h⟩ : Fin 9216)) else 0
def aN (k : ℕ) : EReal := if h : k < 128 then (m ((c : Thread nD τ).loc main_arg3) : FVec Ideal S128 .f32) (ix1 (⟨k, h⟩ : Fin 128)) else 0

theorem b0 (t : Fin cfg0.N) (x : Fin 256) (y : Fin 7680) : (iblk m c 0 t : FVec Ideal S256x7680 .f32) (ix2 x y) = aX m c (256 * t.val + x) y := by
  have hi := idx t
  unfold aX
  rw [dif_pos (by omega)]
  blk_ext [iblk, V, idx t]
theorem b7 (t : Fin cfg0.N) (y : Fin 128) : (iblk m c 7 t : FVec Ideal S1x128 .f32) (ix2 (0 : Fin 1) y) = aN m c y := by
  have hi := idx t
  unfold aN
  rw [dif_pos (by omega)]
  blk_simp [iblk]
  entry_read
  pointwise []
  blk_ext [iblk, V, idx t]
/-- The tables of cosines and sines, and their blocks. -/
theorem c26 : V m c main_v26 = broadcastInDim S9216x32 ![] bcast_S_S9216x32 (constant (F := Ideal) S_ .f32 0x00000000#32) := by
  show StableHlo.after hostOps0 (fun b => m (c, b)) (Proc.devRef .tc main_v26) = _
  after_reads_simp
theorem c27 : V m c main_v27 = broadcastInDim S9216x64 ![] bcast_S_S9216x64 (constant (F := Ideal) S_ .f32 0x3F800000#32) := by
  show StableHlo.after hostOps0 (fun b => m (c, b)) (Proc.devRef .tc main_v27) = _
  after_reads_simp
theorem c28 : V m c main_v28 = broadcastInDim S9216x64 ![] bcast_S_S9216x64 (constant (F := Ideal) S_ .f32 0x00000000#32) := by
  show StableHlo.after hostOps0 (fun b => m (c, b)) (Proc.devRef .tc main_v28) = _
  after_reads_simp
theorem tab1 (t : Fin cfg0.N) (x : Fin 256) (y : Fin 128) : ((cfg0.win 1).blk t).view.emb (ix2 x y) = ix2 (⟨256 * t.val + x, (by have := (idx t).2.2.2.2.2.2.2.2.2.2.1; omega)⟩ : Fin 9216) y := by
  have h := (idx t).2.1
  have e0 : win0_1.index t (0 : Fin 2) = t.val := congrFun h 0
  have e1 : win0_1.index t (1 : Fin 2) = 0 := congrFun h 1
  funext a
  apply Fin.ext
  match a with
  | ⟨0, _⟩ => show win0_1.index t (0 : Fin 2) * 256 + 1 * (x : ℕ) = 256 * t.val + x; omega
  | ⟨1, _⟩ => show win0_1.index t (1 : Fin 2) * 128 + 1 * (y : ℕ) = y; omega
theorem t1 (r : Fin 9216) (y : Fin 128) : (V m c (Pipeline.arrRef spec0 1) : FVec Ideal S9216x128 .f32) (ix2 r y)
    = if (y : ℕ) < 64 then Ideal.cos (Even.g64 (aP m c r) y) else Ideal.cos (Even.g64 (aP m c r) (y - 64)) := by
  unfold aP
  rw [dif_pos r.isLt]
  entry_read
  pointwise []
  rfl
theorem b1 (t : Fin cfg0.N) (x : Fin 256) (y : Fin 128) : (iblk m c 1 t : FVec Ideal S256x128 .f32) (ix2 x y)
    = if (y : ℕ) < 64 then Ideal.cos (Even.g64 (aP m c (256 * t.val + x)) y) else Ideal.cos (Even.g64 (aP m c (256 * t.val + x)) (y - 64)) :=
  (congrArg (V m c (Pipeline.arrRef spec0 1)) (tab1 t x y)).trans (t1 m c _ y)
theorem tab2 (t : Fin cfg0.N) (x : Fin 256) (y : Fin 128) : ((cfg0.win 2).blk t).view.emb (ix2 x y) = ix2 (⟨256 * t.val + x, (by have := (idx t).2.2.2.2.2.2.2.2.2.2.1; omega)⟩ : Fin 9216) y := by
  have h := (idx t).2.2.1
  have e0 : win0_2.index t (0 : Fin 2) = t.val := congrFun h 0
  have e1 : win0_2.index t (1 : Fin 2) = 0 := congrFun h 1
  funext a
  apply Fin.ext
  match a with
  | ⟨0, _⟩ => show win0_2.index t (0 : Fin 2) * 256 + 1 * (x : ℕ) = 256 * t.val + x; omega
  | ⟨1, _⟩ => show win0_2.index t (1 : Fin 2) * 128 + 1 * (y : ℕ) = y; omega
theorem t2 (r : Fin 9216) (y : Fin 128) : (V m c (Pipeline.arrRef spec0 2) : FVec Ideal S9216x128 .f32) (ix2 r y)
    = if (y : ℕ) < 64 then -Ideal.sin (Even.g64 (aP m c r) y) else Ideal.sin (Even.g64 (aP m c r) (y - 64)) := by
  unfold aP
  rw [dif_pos r.isLt]
  entry_read
  pointwise []
  rfl
theorem b2 (t : Fin cfg0.N) (x : Fin 256) (y : Fin 128) : (iblk m c 2 t : FVec Ideal S256x128 .f32) (ix2 x y)
    = if (y : ℕ) < 64 then -Ideal.sin (Even.g64 (aP m c (256 * t.val + x)) y) else Ideal.sin (Even.g64 (aP m c (256 * t.val + x)) (y - 64)) :=
  (congrArg (V m c (Pipeline.arrRef spec0 2)) (tab2 t x y)).trans (t2 m c _ y)
theorem tab3 (t : Fin cfg0.N) (x : Fin 256) (y : Fin 128) : ((cfg0.win 3).blk t).view.emb (ix2 x y) = ix2 (⟨256 * t.val + x, (by have := (idx t).2.2.2.2.2.2.2.2.2.2.1; omega)⟩ : Fin 9216) y := by
  have h := (idx t).2.2.2.1
  have e0 : win0_3.index t (0 : Fin 2) = t.val := congrFun h 0
  have e1 : win0_3.index t (1 : Fin 2) = 0 := congrFun h 1
  funext a
  apply Fin.ext
  match a with
  | ⟨0, _⟩ => show win0_3.index t (0 : Fin 2) * 256 + 1 * (x : ℕ) = 256 * t.val + x; omega
  | ⟨1, _⟩ => show win0_3.index t (1 : Fin 2) * 128 + 1 * (y : ℕ) = y; omega
theorem e32 : V m c main_v32 = cat3 (V m c main_v24) (V m c main_v24) (V m c main_v27) := by
  have h24 : V m c main_v24 = StableHlo.upto hostOps0 (fun b => m (c, b)) 39 (Proc.devRef .tc main_v24) :=
    after_upto 39 [main_v32, main_v33, main_v34, main_v35, main_v36, main_v37] rfl (by decide) _
  have h27 : V m c main_v27 = StableHlo.upto hostOps0 (fun b => m (c, b)) 39 (Proc.devRef .tc main_v27) :=
    after_upto 39 [main_v32, main_v33, main_v34, main_v35, main_v36, main_v37] rfl (by decide) _
  refine (StableHlo.after_last_write (ops := hostOps0) (i := 39) [main_v33, main_v34, main_v35, main_v36, main_v37] rfl rfl (by decide) _).trans ?_
  refine (StableHlo.nary_result _ _ _ _ _ _).trans ?_
  have h := congr (congr (congrArg cat3 h24.symm) h24.symm) h27.symm
  exact h
theorem t3 (r : Fin 9216) (y : Fin 128) : (V m c (Pipeline.arrRef spec0 3) : FVec Ideal S9216x128 .f32) (ix2 r y)
    = if (y : ℕ) < 32 then Ideal.cos (Even.g32 (aP m c r) y) else if (y : ℕ) - 32 < 32 then Ideal.cos (Even.g32 (aP m c r) (y - 32)) else 1 := by
  unfold aP
  rw [dif_pos r.isLt]
  refine (congrFun (e32 m c) (ix2 r y)).trans ?_
  rw [c27]
  entry_read
  pointwise [cat3]
  simp only [dite_eq_ite, ite_self]
  rfl
theorem b3 (t : Fin cfg0.N) (x : Fin 256) (y : Fin 128) : (iblk m c 3 t : FVec Ideal S256x128 .f32) (ix2 x y)
    = if (y : ℕ) < 32 then Ideal.cos (Even.g32 (aP m c (256 * t.val + x)) y) else if (y : ℕ) - 32 < 32 then Ideal.cos (Even.g32 (aP m c (256 * t.val + x)) (y - 32)) else 1 :=
  (congrArg (V m c (Pipeline.arrRef spec0 3)) (tab3 t x y)).trans (t3 m c _ y)
theorem tab4 (t : Fin cfg0.N) (x : Fin 256) (y : Fin 128) : ((cfg0.win 4).blk t).view.emb (ix2 x y) = ix2 (⟨256 * t.val + x, (by have := (idx t).2.2.2.2.2.2.2.2.2.2.1; omega)⟩ : Fin 9216) y := by
  have h := (idx t).2.2.2.2.1
  have e0 : win0_4.index t (0 : Fin 2) = t.val := congrFun h 0
  have e1 : win0_4.index t (1 : Fin 2) = 0 := congrFun h 1
  funext a
  apply Fin.ext
  match a with
  | ⟨0, _⟩ => show win0_4.index t (0 : Fin 2) * 256 + 1 * (x : ℕ) = 256 * t.val + x; omega
  | ⟨1, _⟩ => show win0_4.index t (1 : Fin 2) * 128 + 1 * (y : ℕ) = y; omega
theorem e34 : V m c main_v34 = cat3 (V m c main_v33) (V m c main_v26) (V m c main_v28) := by
  have h33 : V m c main_v33 = StableHlo.upto hostOps0 (fun b => m (c, b)) 41 (Proc.devRef .tc main_v33) :=
    after_upto 41 [main_v34, main_v35, main_v36, main_v37] rfl (by decide) _
  have h26 : V m c main_v26 = StableHlo.upto hostOps0 (fun b => m (c, b)) 41 (Proc.devRef .tc main_v26) :=
    after_upto 41 [main_v34, main_v35, main_v36, main_v37] rfl (by decide) _
  have h28 : V m c main_v28 = StableHlo.upto hostOps0 (fun b => m (c, b)) 41 (Proc.devRef .tc main_v28) :=
    after_upto 41 [main_v34, main_v35, main_v36, main_v37] rfl (by decide) _
  refine (StableHlo.after_last_write (ops := hostOps0) (i := 41) [main_v35, main_v36, main_v37] rfl rfl (by decide) _).trans ?_
  refine (StableHlo.nary_result _ _ _ _ _ _).trans ?_
  have h := congr (congr (congrArg cat3 h33.symm) h26.symm) h28.symm
  exact h
theorem t4 (r : Fin 9216) (y : Fin 128) : (V m c (Pipeline.arrRef spec0 4) : FVec Ideal S9216x128 .f32) (ix2 r y)
    = if (y : ℕ) < 32 then -Ideal.sin (Even.g32 (aP m c r) y) else 0 := by
  unfold aP
  rw [dif_pos r.isLt]
  refine (congrFun (e34 m c) (ix2 r y)).trans ?_
  rw [c26, c28]
  entry_read
  pointwise [cat3]
  simp only [dite_eq_ite, ite_self]
  rfl
theorem b4 (t : Fin cfg0.N) (x : Fin 256) (y : Fin 128) : (iblk m c 4 t : FVec Ideal S256x128 .f32) (ix2 x y)
    = if (y : ℕ) < 32 then -Ideal.sin (Even.g32 (aP m c (256 * t.val + x)) y) else 0 :=
  (congrArg (V m c (Pipeline.arrRef spec0 4)) (tab4 t x y)).trans (t4 m c _ y)
theorem tab5 (t : Fin cfg0.N) (x : Fin 256) (y : Fin 128) : ((cfg0.win 5).blk t).view.emb (ix2 x y) = ix2 (⟨256 * t.val + x, (by have := (idx t).2.2.2.2.2.2.2.2.2.2.1; omega)⟩ : Fin 9216) y := by
  have h := (idx t).2.2.2.2.2.1
  have e0 : win0_5.index t (0 : Fin 2) = t.val := congrFun h 0
  have e1 : win0_5.index t (1 : Fin 2) = 0 := congrFun h 1
  funext a
  apply Fin.ext
  match a with
  | ⟨0, _⟩ => show win0_5.index t (0 : Fin 2) * 256 + 1 * (x : ℕ) = 256 * t.val + x; omega
  | ⟨1, _⟩ => show win0_5.index t (1 : Fin 2) * 128 + 1 * (y : ℕ) = y; omega
theorem e35 : V m c main_v35 = cat3 (V m c main_v26) (V m c main_v25) (V m c main_v28) := by
  have h26 : V m c main_v26 = StableHlo.upto hostOps0 (fun b => m (c, b)) 42 (Proc.devRef .tc main_v26) :=
    after_upto 42 [main_v35, main_v36, main_v37] rfl (by decide) _
  have h25 : V m c main_v25 = StableHlo.upto hostOps0 (fun b => m (c, b)) 42 (Proc.devRef .tc main_v25) :=
    after_upto 42 [main_v35, main_v36, main_v37] rfl (by decide) _
  have h28 : V m c main_v28 = StableHlo.upto hostOps0 (fun b => m (c, b)) 42 (Proc.devRef .tc main_v28) :=
    after_upto 42 [main_v35, main_v36, main_v37] rfl (by decide) _
  refine (StableHlo.after_last_write (ops := hostOps0) (i := 42) [main_v36, main_v37] rfl rfl (by decide) _).trans ?_
  refine (StableHlo.nary_result _ _ _ _ _ _).trans ?_
  have h := congr (congr (congrArg cat3 h26.symm) h25.symm) h28.symm
  exact h
theorem t5 (r : Fin 9216) (y : Fin 128) : (V m c (Pipeline.arrRef spec0 5) : FVec Ideal S9216x128 .f32) (ix2 r y)
    = if (y : ℕ) < 32 then 0 else if (y : ℕ) - 32 < 32 then Ideal.sin (Even.g32 (aP m c r) (y - 32)) else 0 := by
  unfold aP
  rw [dif_pos r.isLt]
  refine (congrFun (e35 m c) (ix2 r y)).trans ?_
  rw [c26, c28]
  entry_read
  pointwise [cat3]
  simp only [dite_eq_ite, ite_self]
  rfl
theorem b5 (t : Fin cfg0.N) (x : Fin 256) (y : Fin 128) : (iblk m c 5 t : FVec Ideal S256x128 .f32) (ix2 x y)
    = if (y : ℕ) < 32 then 0 else if (y : ℕ) - 32 < 32 then Ideal.sin (Even.g32 (aP m c (256 * t.val + x)) (y - 32)) else 0 :=
  (congrArg (V m c (Pipeline.arrRef spec0 5)) (tab5 t x y)).trans (t5 m c _ y)

end Reads

end Cert.Kernel5Ideal.Hand
end
-- ==== Proof.Even.lean ====
module

public import proofs.«01_k».proof.Proof.EvenOut
public import proofs.«01_k».proof.Proof.EvenTab
public import proofs.«01_k».proof.Proof.Gen.Kernel5Ideal.Value

@[expose] public section

set_option maxRecDepth 16384

noncomputable section

namespace Cert.Kernel5Ideal.Hand

open Cert.Kernel5Ideal Cert.Kernel5Ideal.Gen Idealize.ShloMosaic Idealize.ShloMosaic.TcCoe Idealize.SL.Sem

/-- The grid point whose blocks hold row `r`, and the row within the block. -/
def pt (r : Fin 9216) : Fin cfg0.N := ⟨(r : ℕ) / 256, (by omega : (r : ℕ) / 256 < 36)⟩
def row (r : Fin 9216) : Fin 256 := ⟨(r : ℕ) % 256, by omega⟩

theorem pt_row (r : Fin 9216) : 256 * (pt r).val + (row r : ℕ) = r := by
  show 256 * ((r : ℕ) / 256) + (r : ℕ) % 256 = r
  omega

theorem emb9 (r : Fin 9216) (q : Fin 512) : ((cfg0.win 9).blk (pt r)).view.emb (ix2 (row r) q) = ix2 r q := by
  have h := (idx (pt r)).2.2.2.2.2.2.2.1
  have e0 : win0_9.index (pt r) (0 : Fin 2) = (r : ℕ) / 256 := congrFun h 0
  have e1 : win0_9.index (pt r) (1 : Fin 2) = 0 := congrFun h 1
  funext a
  apply Fin.ext
  match a with
  | ⟨0, _⟩ => show win0_9.index (pt r) (0 : Fin 2) * 256 + 1 * ((r : ℕ) % 256) = (r : ℕ); omega
  | ⟨1, _⟩ => show win0_9.index (pt r) (1 : Fin 2) * 512 + 1 * (q : ℕ) = (q : ℕ); omega

theorem emb11 (r : Fin 9216) (q : Fin 512) : ((cfg0.win 11).blk (pt r)).view.emb (ix2 (row r) q) = ix2 r q := by
  have h := (idx (pt r)).2.2.2.2.2.2.2.2.1
  have e0 : win0_11.index (pt r) (0 : Fin 2) = (r : ℕ) / 256 := congrFun h 0
  have e1 : win0_11.index (pt r) (1 : Fin 2) = 0 := congrFun h 1
  funext a
  apply Fin.ext
  match a with
  | ⟨0, _⟩ => show win0_11.index (pt r) (0 : Fin 2) * 256 + 1 * ((r : ℕ) % 256) = (r : ℕ); omega
  | ⟨1, _⟩ => show win0_11.index (pt r) (1 : Fin 2) * 512 + 1 * (q : ℕ) = (q : ℕ); omega

theorem emb14 (r : Fin 9216) (q : Fin 128) : ((cfg0.win 14).blk (pt r)).view.emb (ix2 (row r) q) = ix2 r q := by
  have h := (idx (pt r)).2.2.2.2.2.2.2.2.2.1
  have e0 : win0_14.index (pt r) (0 : Fin 2) = (r : ℕ) / 256 := congrFun h 0
  have e1 : win0_14.index (pt r) (1 : Fin 2) = 0 := congrFun h 1
  funext a
  apply Fin.ext
  match a with
  | ⟨0, _⟩ => show win0_14.index (pt r) (0 : Fin 2) * 256 + 1 * ((r : ℕ) % 256) = (r : ℕ); omega
  | ⟨1, _⟩ => show win0_14.index (pt r) (1 : Fin 2) * 128 + 1 * (q : ℕ) = (q : ℕ); omega

section Reads

variable (m : (l : Loc nD τ sig) → l.ty.Contents (Elt Ideal)) (c : Dev nD)

/-- A row of the block of projected rows is a row of the argument; the norm weight's block is the argument. -/
theorem rowOf_eq (r : Fin 9216) : rowOf (iblk m c 0 (pt r)) (row r) = aX m c r := by
  funext k
  unfold rowOf
  by_cases h : k < 7680
  · rw [dif_pos h]
    exact (b0 m c (pt r) (row r) ⟨k, h⟩).trans (by rw [pt_row])
  · rw [dif_neg h]
    unfold aX
    rw [dif_neg (fun h' => h h'.2)]
theorem wt_eq (t : Fin cfg0.N) : wt (iblk m c 7 t) = aN m c := by
  funext k
  unfold wt
  by_cases h : k < 128
  · rw [dif_pos h]
    exact b7 m c t ⟨k, h⟩
  · rw [dif_neg h]
    unfold aN
    rw [dif_neg h]

/-- The keys after the run, at an entry. -/
theorem final9 (r : Fin 9216) (q : Fin 512) :
    ((dats m 0 c).arrAt 9 cfg0.N : FVec Ideal S9216x512 .f32) (ix2 r q) = Even.key (aX m c r) (aN m c) (aP m c r) q := by
  have hb := congrFun (Cert.Kernel5Ideal.Value.blocks9 m c (pt r) (idx (pt r)).2.2.2.2.2.2.2.2.2.2.2.1) (ix2 (row r) q)
  rw [Cert.Kernel5Ideal.Value.flushed9] at hb
  have hb' : (dats m 0 c).arrAt 9 cfg0.N (((cfg0.win 9).blk (pt r)).view.emb (ix2 (row r) q))
      = out0_9 (iblk m c 0 (pt r)) (iblk m c 1 (pt r)) (iblk m c 2 (pt r)) (iblk m c 3 (pt r)) (iblk m c 4 (pt r)) (iblk m c 5 (pt r)) (iblk m c 6 (pt r)) (iblk m c 7 (pt r)) (ix2 (row r) q) := hb
  rw [emb9] at hb'
  refine hb'.trans ((out9_at _ _ _ _ _ _ _ _ _).trans ?_)
  show KR _ _ _ _ (row r) q = _
  unfold KR
  rw [rowOf_eq, wt_eq, b1, b2, pt_row]
  exact Even.turn64_eq _ _ _ (by omega)

/-- The values after the run, at an entry. -/
theorem final11 (r : Fin 9216) (q : Fin 512) :
    ((dats m 0 c).arrAt 11 cfg0.N : FVec Ideal S9216x512 .f32) (ix2 r q) = aX m c r (2560 + q) := by
  have hb := congrFun (Cert.Kernel5Ideal.Value.blocks11 m c (pt r) (idx (pt r)).2.2.2.2.2.2.2.2.2.2.2.2.1) (ix2 (row r) q)
  rw [Cert.Kernel5Ideal.Value.flushed11] at hb
  have hb' : (dats m 0 c).arrAt 11 cfg0.N (((cfg0.win 11).blk (pt r)).view.emb (ix2 (row r) q))
      = out0_11 (iblk m c 0 (pt r)) (iblk m c 1 (pt r)) (iblk m c 2 (pt r)) (iblk m c 3 (pt r)) (iblk m c 4 (pt r)) (iblk m c 5 (pt r)) (iblk m c 6 (pt r)) (iblk m c 7 (pt r)) (ix2 (row r) q) := hb
  rw [emb11] at hb'
  refine hb'.trans ((out11_at _ _ _ _ _ _ _ _ _).trans ?_)
  show rowOf _ (row r) _ = _
  rw [rowOf_eq]
  rfl

/-- The indexer keys after the run, at an entry. -/
theorem final14 (r : Fin 9216) (q : Fin 128) :
    ((dats m 0 c).arrAt 14 cfg0.N : FVec Ideal S9216x128 .f32) (ix2 r q) = Even.ikey (aX m c r) (aP m c r) q := by
  have hb := congrFun (Cert.Kernel5Ideal.Value.blocks14 m c (pt r) (idx (pt r)).2.2.2.2.2.2.2.2.2.2.2.2.2) (ix2 (row r) q)
  rw [Cert.Kernel5Ideal.Value.flushed14] at hb
  have hb' : (dats m 0 c).arrAt 14 cfg0.N (((cfg0.win 14).blk (pt r)).view.emb (ix2 (row r) q))
      = out0_14 (iblk m c 0 (pt r)) (iblk m c 1 (pt r)) (iblk m c 2 (pt r)) (iblk m c 3 (pt r)) (iblk m c 4 (pt r)) (iblk m c 5 (pt r)) (iblk m c 6 (pt r)) (iblk m c 7 (pt r)) (ix2 (row r) q) := hb
  rw [emb14] at hb'
  refine hb'.trans ((out14_at _ _ _ _ _ _ _ _ _ _).trans ?_)
  rw [rowOf_eq, b3, b4, b5, pt_row]
  exact Even.turn32_eq (fun i => aX m c r (7168 + i)) _ _ q.isLt

end Reads

end Cert.Kernel5Ideal.Hand
end
-- ==== Proof.EvenRef.lean ====
module

public import proofs.«01_k».proof.Proof.Gen.Reference5Ideal.Run
public import proofs.«01_k».proof.Proof.EvenSpec
public import Idealize.ShloMosaic.Lib.Claim
public import Idealize.ShloMosaic.Lib.Pointwise

@[expose] public section

set_option maxRecDepth 16384

noncomputable section

namespace Cert.Reference5Ideal.Hand

open Cert.Reference5Ideal Cert.Reference5Ideal.Gen Idealize.ShloMosaic Idealize.ShloMosaic.TcCoe Idealize.SL.Sem

/-- The angles of the full-width turn: position times frequency. -/
def ang64 (a1 : Vec Ideal S9216 (.i32)) : FVec Ideal S9216x64 .f32 :=
  mulf (broadcastInDim S9216x64 ![0, 1] bcast_S9216x1_S9216x64_0_1 (broadcastInDim S9216x1 ![0] bcast_S9216_S9216x1_0 (sitofp .f32 a1))) (broadcastInDim S9216x64 ![0, 1] bcast_S1x64_S9216x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The angles of the indexer's turn. -/
def ang32 (a1 : Vec Ideal S9216 (.i32)) : FVec Ideal S9216x32 .f32 :=
  mulf (broadcastInDim S9216x32 ![0, 1] bcast_S9216x1_S9216x32_0_1 (broadcastInDim S9216x1 ![0] bcast_S9216_S9216x1_0 (sitofp .f32 a1))) (broadcastInDim S9216x32 ![0, 1] bcast_S1x32_S9216x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The key heads. -/
def heads (a0 : FVec Ideal S9216x7680 .f32) : FVec Ideal S9216x4x128 .f32 :=
  shapeCast S9216x4x128 (extractStridedSlice S9216x512 ![0, 2048] a0 slices_S9216x7680_S9216x512_0_2048) shapeCasts_S9216x512_S9216x4x128

/-- The indexer's key head. -/
def ihead (a0 : FVec Ideal S9216x7680 .f32) : FVec Ideal S9216x1x128 .f32 :=
  shapeCast S9216x1x128 (extractStridedSlice S9216x128 ![0, 7168] a0 slices_S9216x7680_S9216x128_0_7168) shapeCasts_S9216x128_S9216x1x128

/-- The normed heads. -/
def nhead (x : FVec Ideal S9216x4x128 .f32) (a3 : FVec Ideal S128 .f32) : FVec Ideal S9216x4x128 .f32 :=
  mulf (mulf x (broadcastInDim S9216x4x128 ![0, 1, 2] bcast_S9216x4x1_S9216x4x128_0_1_2 (Host.rsqrt (addf (Host.divf (broadcastInDim S9216x4x1 ![0, 1] bcast_S9216x4_S9216x4x1_0_1 (Host.reduceAdd (mulf x x) (constant S_ .f32 0x00000000#32) reducesTo_S9216x4x128_S9216x4_d2 h_S_)) (broadcastInDim S9216x4x1 ![] bcast_S_S9216x4x1 (constant S_ .f32 0x43000000#32))) (broadcastInDim S9216x4x1 ![] bcast_S_S9216x4x1 (constant S_ .f32 0x358637BD#32)))))) (broadcastInDim S9216x4x128 ![0, 1, 2] bcast_S1x1x128_S9216x4x128_0_1_2 (broadcastInDim S1x1x128 ![2] bcast_S128_S1x1x128_2 a3))

/-- The full-width turn, heads side by side. -/
def turn (y : FVec Ideal S9216x4x128 .f32) (g : FVec Ideal S9216x64 .f32) : FVec Ideal S9216x512 .f32 :=
  shapeCast S9216x512 ((concatenate S9216x4x128 2 [⟨S9216x4x64, ((subf (mulf (extractStridedSlice S9216x4x64 ![0, 0, 0] y slices_S9216x4x128_S9216x4x64_0_0_0) (broadcastInDim S9216x4x64 ![0, 1, 2] bcast_S9216x1x64_S9216x4x64_0_1_2 (broadcastInDim S9216x1x64 ![0, 2] bcast_S9216x64_S9216x1x64_0_2 (Host.cos g)))) (mulf (extractStridedSlice S9216x4x64 ![0, 0, 64] y slices_S9216x4x128_S9216x4x64_0_0_64) (broadcastInDim S9216x4x64 ![0, 1, 2] bcast_S9216x1x64_S9216x4x64_0_1_2 (broadcastInDim S9216x1x64 ![0, 2] bcast_S9216x64_S9216x1x64_0_2 (Host.sin g))))) : (⟨S9216x4x64, .f32⟩ : BufTy).Contents (Elt Ideal))⟩, ⟨S9216x4x64, ((addf (mulf (extractStridedSlice S9216x4x64 ![0, 0, 64] y slices_S9216x4x128_S9216x4x64_0_0_64) (broadcastInDim S9216x4x64 ![0, 1, 2] bcast_S9216x1x64_S9216x4x64_0_1_2 (broadcastInDim S9216x1x64 ![0, 2] bcast_S9216x64_S9216x1x64_0_2 (Host.cos g)))) (mulf (extractStridedSlice S9216x4x64 ![0, 0, 0] y slices_S9216x4x128_S9216x4x64_0_0_0) (broadcastInDim S9216x4x64 ![0, 1, 2] bcast_S9216x1x64_S9216x4x64_0_1_2 (broadcastInDim S9216x1x64 ![0, 2] bcast_S9216x64_S9216x1x64_0_2 (Host.sin g))))) : (⟨S9216x4x64, .f32⟩ : BufTy).Contents (Elt Ideal))⟩, ⟨S9216x4x0, ((extractStridedSlice S9216x4x0 ![0, 0, 128] y slices_S9216x4x128_S9216x4x0_0_0_128) : (⟨S9216x4x0, .f32⟩ : BufTy).Contents (Elt Ideal))⟩] concatenates_S9216x4x64_S9216x4x64_S9216x4x0_S9216x4x128_d2 : (⟨S9216x4x128, .f32⟩ : BufTy).Contents (Elt Ideal))) shapeCasts_S9216x4x128_S9216x512

/-- The indexer's turn of the first 64 channels. -/
def iturn (x : FVec Ideal S9216x1x128 .f32) (g : FVec Ideal S9216x32 .f32) : FVec Ideal S9216x128 .f32 :=
  shapeCast S9216x128 ((concatenate S9216x1x128 2 [⟨S9216x1x32, ((subf (mulf (extractStridedSlice S9216x1x32 ![0, 0, 0] x slices_S9216x1x128_S9216x1x32_0_0_0) (broadcastInDim S9216x1x32 ![0, 2] bcast_S9216x32_S9216x1x32_0_2 (Host.cos g))) (mulf (extractStridedSlice S9216x1x32 ![0, 0, 32] x slices_S9216x1x128_S9216x1x32_0_0_32) (broadcastInDim S9216x1x32 ![0, 2] bcast_S9216x32_S9216x1x32_0_2 (Host.sin g)))) : (⟨S9216x1x32, .f32⟩ : BufTy).Contents (Elt Ideal))⟩, ⟨S9216x1x32, ((addf (mulf (extractStridedSlice S9216x1x32 ![0, 0, 32] x slices_S9216x1x128_S9216x1x32_0_0_32) (broadcastInDim S9216x1x32 ![0, 2] bcast_S9216x32_S9216x1x32_0_2 (Host.cos g))) (mulf (extractStridedSlice S9216x1x32 ![0, 0, 0] x slices_S9216x1x128_S9216x1x32_0_0_0) (broadcastInDim S9216x1x32 ![0, 2] bcast_S9216x32_S9216x1x32_0_2 (Host.sin g)))) : (⟨S9216x1x32, .f32⟩ : BufTy).Contents (Elt Ideal))⟩, ⟨S9216x1x64, ((extractStridedSlice S9216x1x64 ![0, 0, 64] x slices_S9216x1x128_S9216x1x64_0_0_64) : (⟨S9216x1x64, .f32⟩ : BufTy).Contents (Elt Ideal))⟩] concatenates_S9216x1x32_S9216x1x32_S9216x1x64_S9216x1x128_d2 : (⟨S9216x1x128, .f32⟩ : BufTy).Contents (Elt Ideal))) shapeCasts_S9216x1x128_S9216x128

theorem ang64_at (a1 : Vec Ideal S9216 (.i32)) (r : Fin 9216) (i : Fin 64) : ang64 a1 (ix2 r i) = Even.g64 (a1 (ix1 r)) i := by
  pointwise [ang64]
  rfl

theorem ang32_at (a1 : Vec Ideal S9216 (.i32)) (r : Fin 9216) (i : Fin 32) : ang32 a1 (ix2 r i) = Even.g32 (a1 (ix1 r)) i := by
  pointwise [ang32]
  rfl

theorem nhead_at (x : FVec Ideal S9216x4x128 .f32) (a3 : FVec Ideal S128 .f32) (r : Fin 9216) (j : Fin 4) (i : Fin 128) (X N : ℕ → EReal)
    (hx : ∀ k : Fin 128, x (ix3 r j k) = X k) (hn : ∀ k : Fin 128, a3 (ix1 k) = N k) : nhead x a3 (ix3 r j i) = Even.nrm X N i := by
  pointwise [nhead]
  simp only [hx, hn]
  rfl

theorem heads_at (x : FVec Ideal S9216x7680 .f32) (r : Fin 9216) (j : Fin 4) (i : Fin 128) :
    heads x (ix3 r j i) = x (ix2 r (⟨2048 + ((j : ℕ) * 128 + i), by omega⟩ : Fin 7680)) := by
  pointwise [heads]

theorem ihead_at (x : FVec Ideal S9216x7680 .f32) (r : Fin 9216) (i : Fin 128) :
    ihead x (ix3 r (0 : Fin 1) i) = x (ix2 r (⟨7168 + (i : ℕ), by omega⟩ : Fin 7680)) := by
  pointwise [ihead]

theorem turn_at (x : FVec Ideal S9216x4x128 .f32) (g : FVec Ideal S9216x64 .f32) (r : Fin 9216) (q : Fin 512) (Y G : ℕ → EReal)
    (hx : ∀ k : Fin 128, x (ix3 r (⟨(q : ℕ) / 128, by omega⟩ : Fin 4) k) = Y k) (hg : ∀ k : Fin 64, g (ix2 r k) = G k) :
    turn x g (ix2 r q) = Even.turn 64 Y G ((q : ℕ) % 128) := by
  pointwise [turn]
  unfold Even.turn
  simp only [hx, hg]
  by_cases h : (q : ℕ) % 128 < 64
  · rw [dif_pos h, if_pos h]
  · have h' : (q : ℕ) % 128 - 64 < 64 := by omega
    rw [dif_neg h, if_neg h, dif_pos h', if_pos h', show 64 + ((q : ℕ) % 128 - 64) = (q : ℕ) % 128 by omega]

theorem iturn_at (x : FVec Ideal S9216x1x128 .f32) (g : FVec Ideal S9216x32 .f32) (r : Fin 9216) (i : Fin 128) (Y G : ℕ → EReal)
    (hx : ∀ k : Fin 128, x (ix3 r (0 : Fin 1) k) = Y k) (hg : ∀ k : Fin 32, g (ix2 r k) = G k) :
    iturn x g (ix2 r i) = Even.turn 32 Y G i := by
  pointwise [iturn]
  unfold Even.turn
  simp only [hx, hg]
  by_cases h : (i : ℕ) < 32
  · rw [dif_pos h, if_pos h]
  · rw [dif_neg h, if_neg h]
    by_cases h' : (i : ℕ) - 32 < 32
    · rw [dif_pos h', if_pos h', show 32 + ((i : ℕ) - 32) = i by omega]
    · rw [dif_neg h', if_neg h', show 64 + ((i : ℕ) - 32 - 32) = i by omega]

section Whole

variable (a0 : FVec Ideal S9216x7680 .f32) (a1 : Vec Ideal S9216 (.i32)) (a3 : FVec Ideal S128 .f32)
variable (X : ℕ → ℕ → EReal) (P : ℕ → BitVec 32) (N : ℕ → EReal)

/-- The reference's keys, in plain numbers. -/
theorem key_at (h0 : ∀ (r : Fin 9216) (k : Fin 7680), a0 (ix2 r k) = X r k) (h1 : ∀ r : Fin 9216, a1 (ix1 r) = P r) (h3 : ∀ k : Fin 128, a3 (ix1 k) = N k)
    (r : Fin 9216) (q : Fin 512) : turn (nhead (heads a0) a3) (ang64 a1) (ix2 r q) = Even.key (X r) N (P r) q :=
  turn_at _ _ r q _ _ (fun k => nhead_at _ _ r _ k _ N (fun i => (heads_at a0 r _ i).trans (h0 r _)) h3)
    (fun k => (ang64_at a1 r k).trans (by rw [h1]))

/-- The reference's values. -/
theorem val_at (h0 : ∀ (r : Fin 9216) (k : Fin 7680), a0 (ix2 r k) = X r k) (r : Fin 9216) (q : Fin 512) :
    extractStridedSlice S9216x512 ![0, 2560] a0 slices_S9216x7680_S9216x512_0_2560 (ix2 r q) = X r (2560 + q) := by
  pointwise []
  exact h0 r _

/-- The reference's indexer keys. -/
theorem ikey_at (h0 : ∀ (r : Fin 9216) (k : Fin 7680), a0 (ix2 r k) = X r k) (h1 : ∀ r : Fin 9216, a1 (ix1 r) = P r)
    (r : Fin 9216) (q : Fin 128) : iturn (ihead a0) (ang32 a1) (ix2 r q) = Even.ikey (X r) (P r) q :=
  iturn_at _ _ r q _ _ (fun k => (ihead_at a0 r k).trans (h0 r _)) (fun k => (ang32_at a1 r k).trans (by rw [h1]))

end Whole

end Cert.Reference5Ideal.Hand
end
-- ==== Proof.OddRef.lean ====
module

public import proofs.«01_k».proof.Proof.Gen.Reference4Ideal.Run
public import Idealize.ShloMosaic.Lib.Claim
public import Idealize.ShloMosaic.Lib.Pointwise

@[expose] public section

set_option maxRecDepth 16384

noncomputable section

namespace Cert.Reference4Ideal.Hand

open Cert.Reference4Ideal Cert.Reference4Ideal.Gen Idealize.ShloMosaic Idealize.ShloMosaic.TcCoe Idealize.SL.Sem

/-- The reference's result at an entry. -/
theorem ref_at (h : FVec Ideal S9216x4096 .bf16) (w : FVec Ideal S4096x12352 .f32) (r : Fin 9216) (q : Fin 12288) :
    extractStridedSlice S9216x12288 ![0, 0] (Host.dotGeneral dot_S9216x4096_S4096x12352_S9216x12352_1_0_0_1_n_n none (extf .f32 h bitsLt_bf16_f32) w) slices_S9216x12352_S9216x12288_0_0 (ix2 r q)
      = ∑ k : Fin 4096, h (ix2 r k) * w (ix2 k (⟨(q : ℕ), by omega⟩ : Fin 12352)) := by
  pointwise []

end Cert.Reference4Ideal.Hand
end
-- ==== Proof.Odd.lean ====
module

public import proofs.«01_k».proof.Proof.Gen.Kernel4Ideal.Value
public import Idealize.ShloMosaic.Lib.Claim
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-- The body at an entry of its block. -/
theorem pay_at (h : FVec Ideal S1024x4096 .bf16) (w : FVec Ideal S4096x1024 .bf16) (a : Fin 1024) (b : Fin 1024) :
    k0_pay1 (F := Ideal) h w (ix2 a b) = ∑ k : Fin 4096, h (ix2 a k) * w (ix2 k b) := by
  pointwise [k0_pay1]

/-- The one store fills the output block. -/
theorem out_eq (x0 : Vec Ideal S1024x4096 .bf16) (x1 : Vec Ideal S4096x1024 .bf16) :
    out0_2 x0 x1 = k0_pay1 x0 x1 := by
  frame_out

/-- Where the windows of grid point `t` lie. -/
theorem idx : ∀ t : Fin cfg0.N, win0_0.index t = ![t.val / 12, 0] ∧ win0_1.index t = ![0, t.val % 12] ∧
    win0_2.index t = ![t.val / 12, t.val % 12] ∧ t.val / 12 < 9 ∧ (cfg0.win 2).flush t = true :=
  (by decide +kernel : ∀ t : Fin grid0.N, _)

section Reads

variable (m : (l : Loc nD τ sig) → l.ty.Contents (Elt Ideal)) (c : Dev nD)

/-- The two arguments as functions of plain numbers. -/
def aH (r k : ℕ) : EReal := if h : r < 9216 ∧ k < 4096 then (m ((c : Thread nD τ).loc main_arg0) : FVec Ideal S9216x4096 .bf16) (ix2 (⟨r, h.1⟩ : Fin 9216) (⟨k, h.2⟩ : Fin 4096)) else 0
def aW (r k : ℕ) : EReal := if h : r < 4096 ∧ k < 12352 then (m ((c : Thread nD τ).loc main_arg1) : FVec Ideal S4096x12352 .f32) (ix2 (⟨r, h.1⟩ : Fin 4096) (⟨k, h.2⟩ : Fin 12352)) else 0

theorem b0 (t : Fin cfg0.N) (x : Fin 1024) (y : Fin 4096) : (iblk m c 0 t : FVec Ideal S1024x4096 .bf16) (ix2 x y) = aH m c (1024 * (t.val / 12) + x) y := by
  have hi := idx t
  unfold aH
  rw [dif_pos (by omega)]
  blk_ext [iblk, V, idx t]
theorem b1 (t : Fin cfg0.N) (x : Fin 4096) (y : Fin 1024) : (iblk m c 1 t : FVec Ideal S4096x1024 .bf16) (ix2 x y) = aW m c x (1024 * (t.val % 12) + y) := by
  have hi := idx t
  unfold aW
  rw [dif_pos (by omega)]
  blk_simp [iblk]
  entry_read
  pointwise []
  blk_ext [iblk, V, idx t]

/-- The grid point whose block holds row `r` and column `q`. -/
def pt (r : Fin 9216) (q : Fin 12288) : Fin cfg0.N := ⟨12 * ((r : ℕ) / 1024) + (q : ℕ) / 1024, (by omega : 12 * ((r : ℕ) / 1024) + (q : ℕ) / 1024 < 108)⟩

theorem emb (r : Fin 9216) (q : Fin 12288) :
    ((cfg0.win 2).blk (pt r q)).view.emb (ix2 (⟨(r : ℕ) % 1024, by omega⟩ : Fin 1024) (⟨(q : ℕ) % 1024, by omega⟩ : Fin 1024)) = ix2 r q := by
  obtain ⟨-, -, h4, -, -⟩ := idx (pt r q)
  have e0 : win0_2.index (pt r q) (0 : Fin 2) = (12 * ((r : ℕ) / 1024) + (q : ℕ) / 1024) / 12 := congrFun h4 0
  have e1 : win0_2.index (pt r q) (1 : Fin 2) = (12 * ((r : ℕ) / 1024) + (q : ℕ) / 1024) % 12 := congrFun h4 1
  funext a
  apply Fin.ext
  match a with
  | ⟨0, _⟩ => show win0_2.index (pt r q) (0 : Fin 2) * 1024 + 1 * ((r : ℕ) % 1024) = (r : ℕ); omega
  | ⟨1, _⟩ => show win0_2.index (pt r q) (1 : Fin 2) * 1024 + 1 * ((q : ℕ) % 1024) = (q : ℕ); omega

/-- The array after the run, at an entry. -/
theorem final_at (r : Fin 9216) (q : Fin 12288) :
    ((dats m 0 c).arrAt 2 cfg0.N : FVec Ideal S9216x12288 .f32) (ix2 r q) = ∑ k : Fin 4096, aH m c r k * aW m c k q := by
  have hb := congrFun (Cert.Kernel4Ideal.Value.blocks2 m c (pt r q) (idx (pt r q)).2.2.2.2) (ix2 (⟨(r : ℕ) % 1024, by omega⟩ : Fin 1024) (⟨(q : ℕ) % 1024, by omega⟩ : Fin 1024))
  rw [Cert.Kernel4Ideal.Value.flushed2, out_eq] at hb
  have hb' : (dats m 0 c).arrAt 2 cfg0.N (((cfg0.win 2).blk (pt r q)).view.emb (ix2 (⟨(r : ℕ) % 1024, by omega⟩ : Fin 1024) (⟨(q : ℕ) % 1024, by omega⟩ : Fin 1024)))
      = k0_pay1 (F := Ideal) (iblk m c 0 (pt r q)) (iblk m c 1 (pt r q)) (ix2 (⟨(r : ℕ) % 1024, by omega⟩ : Fin 1024) (⟨(q : ℕ) % 1024, by omega⟩ : Fin 1024)) := hb
  rw [emb] at hb'
  have hr : 1024 * ((pt r q).val / 12) + (r : ℕ) % 1024 = r := by
    show 1024 * ((12 * ((r : ℕ) / 1024) + (q : ℕ) / 1024) / 12) + (r : ℕ) % 1024 = r
    omega
  have hq : 1024 * ((pt r q).val % 12) + (q : ℕ) % 1024 = q := by
    show 1024 * ((12 * ((r : ℕ) / 1024) + (q : ℕ) / 1024) % 12) + (q : ℕ) % 1024 = q
    omega
  refine hb'.trans ((pay_at _ _ _ _).trans ?_)
  simp only [b0, b1, hr, hq]

end Reads

end Cert.Kernel4Ideal.Hand
end
-- ==== Proof.GateRef.lean ====
module

public import proofs.«01_k».proof.Proof.Gen.Reference3Ideal.Run
public import Idealize.ShloMosaic.Lib.Claim
public import Idealize.ShloMosaic.Lib.Pointwise

@[expose] public section

set_option maxRecDepth 16384

noncomputable section

namespace Cert.Reference3Ideal.Hand

open Cert.Reference3Ideal Cert.Reference3Ideal.Gen Idealize.ShloMosaic Idealize.ShloMosaic.TcCoe Idealize.SL.Sem

/-- One over one plus the exponential of the negative is the logistic function. -/
theorem div_logistic (x : EReal) : Ideal.div 1 (1 + Ideal.exp (-x)) = Ideal.logistic x := rfl

/-- The reference's result at an entry. -/
theorem ref_at (h : FVec Ideal S9216x4096 .bf16) (w : FVec Ideal S4096x4096 .f32) (x p : FVec Ideal S9216x4096 .f32) (r : Fin 9216) (q : Fin 4096) :
    addf x (mulf (Host.divf (broadcastInDim S9216x4096 ![] bcast_S_S9216x4096 (constant S_ .f32 0x3F800000#32)) (addf (broadcastInDim S9216x4096 ![] bcast_S_S9216x4096 (constant S_ .f32 0x3F800000#32)) (Host.exp (Host.negf (Host.dotGeneral dot_S9216x4096_S4096x4096_S9216x4096_1_0_0_1_n_n none (extf .f32 h bitsLt_bf16_f32) w))))) p) (ix2 r q)
      = x (ix2 r q) + Ideal.logistic (∑ k : Fin 4096, h (ix2 r k) * w (ix2 k q)) * p (ix2 r q) := by
  pointwise []
  rw [div_logistic]

end Cert.Reference3Ideal.Hand
end
-- ==== Proof.Gate.lean ====
module

public import proofs.«01_k».proof.Proof.Gen.Kernel3Ideal.Value
public import Idealize.ShloMosaic.Lib.Claim
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Kernel3Ideal.Hand

open Cert.Kernel3Ideal Cert.Kernel3Ideal.Gen Idealize.ShloMosaic Idealize.ShloMosaic.TcCoe Idealize.SL.Sem

/-- The body at an entry of its block. -/
theorem pay_at (h : FVec Ideal S1024x4096 .bf16) (w : FVec Ideal S4096x512 .bf16) (x p : FVec Ideal S1024x512 .f32) (a : Fin 1024) (b : Fin 512) :
    k0_pay1 (F := Ideal) h w x p (ix2 a b) = x (ix2 a b) + Ideal.logistic (∑ k : Fin 4096, h (ix2 a k) * w (ix2 k b)) * p (ix2 a b) := by
  pointwise [k0_pay1]

/-- The one store fills the output block. -/
theorem out_eq (x0 : Vec Ideal S1024x4096 .bf16) (x1 : Vec Ideal S4096x512 .bf16) (x2 x3 : Vec Ideal S1024x512 .f32) :
    out0_4 x0 x1 x2 x3 = k0_pay1 x0 x1 x2 x3 := by
  frame_out

/-- Where the windows of grid point `t` lie. -/
theorem idx : ∀ t : Fin cfg0.N, win0_0.index t = ![t.val / 8, 0] ∧ win0_1.index t = ![0, t.val % 8] ∧
    win0_2.index t = ![t.val / 8, t.val % 8] ∧ win0_3.index t = ![t.val / 8, t.val % 8] ∧ win0_4.index t = ![t.val / 8, t.val % 8] ∧
    t.val / 8 < 9 ∧ (cfg0.win 4).flush t = true :=
  (by decide +kernel : ∀ t : Fin grid0.N, _)

section Reads

variable (m : (l : Loc nD τ sig) → l.ty.Contents (Elt Ideal)) (c : Dev nD)

/-- The four arguments as functions of plain numbers. -/
def aH (r k : ℕ) : EReal := if h : r < 9216 ∧ k < 4096 then (m ((c : Thread nD τ).loc main_arg0) : FVec Ideal S9216x4096 .bf16) (ix2 (⟨r, h.1⟩ : Fin 9216) (⟨k, h.2⟩ : Fin 4096)) else 0
def aW (r k : ℕ) : EReal := if h : r < 4096 ∧ k < 4096 then (m ((c : Thread nD τ).loc main_arg1) : FVec Ideal S4096x4096 .f32) (ix2 (⟨r, h.1⟩ : Fin 4096) (⟨k, h.2⟩ : Fin 4096)) else 0
def aX (r k : ℕ) : EReal := if h : r < 9216 ∧ k < 4096 then (m ((c : Thread nD τ).loc main_arg2) : FVec Ideal S9216x4096 .f32) (ix2 (⟨r, h.1⟩ : Fin 9216) (⟨k, h.2⟩ : Fin 4096)) else 0
def aP (r k : ℕ) : EReal := if h : r < 9216 ∧ k < 4096 then (m ((c : Thread nD τ).loc main_arg3) : FVec Ideal S9216x4096 .f32) (ix2 (⟨r, h.1⟩ : Fin 9216) (⟨k, h.2⟩ : Fin 4096)) else 0

theorem b0 (t : Fin cfg0.N) (x : Fin 1024) (y : Fin 4096) : (iblk m c 0 t : FVec Ideal S1024x4096 .bf16) (ix2 x y) = aH m c (1024 * (t.val / 8) + x) y := by
  have hi := idx t
  unfold aH
  rw [dif_pos (by omega)]
  blk_ext [iblk, V, idx t]
theorem b1 (t : Fin cfg0.N) (x : Fin 4096) (y : Fin 512) : (iblk m c 1 t : FVec Ideal S4096x512 .bf16) (ix2 x y) = aW m c x (512 * (t.val % 8) + y) := by
  have hi := idx t
  unfold aW
  rw [dif_pos (by omega)]
  blk_simp [iblk]
  entry_read
  pointwise []
  blk_ext [iblk, V, idx t]
theorem b2 (t : Fin cfg0.N) (x : Fin 1024) (y : Fin 512) : (iblk m c 2 t : FVec Ideal S1024x512 .f32) (ix2 x y) = aX m c (1024 * (t.val / 8) + x) (512 * (t.val % 8) + y) := by
  have hi := idx t
  unfold aX
  rw [dif_pos (by omega)]
  blk_ext [iblk, V, idx t]
theorem b3 (t : Fin cfg0.N) (x : Fin 1024) (y : Fin 512) : (iblk m c 3 t : FVec Ideal S1024x512 .f32) (ix2 x y) = aP m c (1024 * (t.val / 8) + x) (512 * (t.val % 8) + y) := by
  have hi := idx t
  unfold aP
  rw [dif_pos (by omega)]
  blk_ext [iblk, V, idx t]

/-- The grid point whose block holds row `r` and column `q`. -/
def pt (r : Fin 9216) (q : Fin 4096) : Fin cfg0.N := ⟨8 * ((r : ℕ) / 1024) + (q : ℕ) / 512, (by omega : 8 * ((r : ℕ) / 1024) + (q : ℕ) / 512 < 72)⟩

theorem emb (r : Fin 9216) (q : Fin 4096) :
    ((cfg0.win 4).blk (pt r q)).view.emb (ix2 (⟨(r : ℕ) % 1024, by omega⟩ : Fin 1024) (⟨(q : ℕ) % 512, by omega⟩ : Fin 512)) = ix2 r q := by
  obtain ⟨-, -, -, -, h4, -, -⟩ := idx (pt r q)
  have e0 : win0_4.index (pt r q) (0 : Fin 2) = (8 * ((r : ℕ) / 1024) + (q : ℕ) / 512) / 8 := congrFun h4 0
  have e1 : win0_4.index (pt r q) (1 : Fin 2) = (8 * ((r : ℕ) / 1024) + (q : ℕ) / 512) % 8 := congrFun h4 1
  funext a
  apply Fin.ext
  match a with
  | ⟨0, _⟩ => show win0_4.index (pt r q) (0 : Fin 2) * 1024 + 1 * ((r : ℕ) % 1024) = (r : ℕ); omega
  | ⟨1, _⟩ => show win0_4.index (pt r q) (1 : Fin 2) * 512 + 1 * ((q : ℕ) % 512) = (q : ℕ); omega

/-- The array after the run, at an entry. -/
theorem final_at (r : Fin 9216) (q : Fin 4096) :
    ((dats m 0 c).arrAt 4 cfg0.N : FVec Ideal S9216x4096 .f32) (ix2 r q)
      = aX m c r q + Ideal.logistic (∑ k : Fin 4096, aH m c r k * aW m c k q) * aP m c r q := by
  have hb := congrFun (Cert.Kernel3Ideal.Value.blocks4 m c (pt r q) (idx (pt r q)).2.2.2.2.2.2) (ix2 (⟨(r : ℕ) % 1024, by omega⟩ : Fin 1024) (⟨(q : ℕ) % 512, by omega⟩ : Fin 512))
  rw [Cert.Kernel3Ideal.Value.flushed4, out_eq] at hb
  have hb' : (dats m 0 c).arrAt 4 cfg0.N (((cfg0.win 4).blk (pt r q)).view.emb (ix2 (⟨(r : ℕ) % 1024, by omega⟩ : Fin 1024) (⟨(q : ℕ) % 512, by omega⟩ : Fin 512)))
      = k0_pay1 (F := Ideal) (iblk m c 0 (pt r q)) (iblk m c 1 (pt r q)) (iblk m c 2 (pt r q)) (iblk m c 3 (pt r q)) (ix2 (⟨(r : ℕ) % 1024, by omega⟩ : Fin 1024) (⟨(q : ℕ) % 512, by omega⟩ : Fin 512)) := hb
  rw [emb] at hb'
  have hr : 1024 * ((pt r q).val / 8) + (r : ℕ) % 1024 = r := by
    show 1024 * ((8 * ((r : ℕ) / 1024) + (q : ℕ) / 512) / 8) + (r : ℕ) % 1024 = r
    omega
  have hq : 512 * ((pt r q).val % 8) + (q : ℕ) % 512 = q := by
    show 512 * ((8 * ((r : ℕ) / 1024) + (q : ℕ) / 512) % 8) + (q : ℕ) % 512 = q
    omega
  refine hb'.trans ((pay_at _ _ _ _ _ _).trans ?_)
  simp only [b0, b1, b2, b3, hr, hq]

end Reads

end Cert.Kernel3Ideal.Hand
end
-- ==== Proof.Body.lean ====
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

/-- One 64-row chunk of one head of a 512-row block with two heads. -/
def tile (x : FVec Ideal S512x256 .f32) (r c : ℕ) (h : ∀ a, (![r, c] : Fin 2 → Nat) a + S64x128.size a ≤ S512x256.size a) :
    FVec Ideal S64x128 .f32 :=
  View.ld (Val := Elt Ideal) (e' := .f32) (S := S512x256) x (Rect.unit (s := S512x256) ![r, c] ![64, 128] h)

/-- One head's row of the lower bound. -/
def lrow (x : FVec Ideal S1x256 .f32) (c : ℕ) (h : ∀ a, (![0, c] : Fin 2 → Nat) a + S1x128.size a ≤ S1x256.size a) :
    FVec Ideal S1x128 .f32 :=
  View.ld (Val := Elt Ideal) (e' := .f32) (S := S1x256) x (Rect.unit (s := S1x256) ![0, c] ![1, 128] h)

/-- One head's state in the scratch. -/
def sload (x : FVec Ideal S2x128x128 .f32) (j : ℕ)
    (h : ∀ a, (![j, 0, 0] : Fin 3 → Nat) a + S1x128x128.size a ≤ S2x128x128.size a) : FVec Ideal S128x128 .f32 :=
  k0_pay523 (View.ld (Val := Elt Ideal) (e' := .f32) (S := S2x128x128) x (Rect.unit (s := S2x128x128) ![j, 0, 0] ![1, 128, 128] h))

/-- The key gate of a chunk. -/
def Kp (lb : FVec Ideal S1x128 .f32) (x : FVec Ideal S64x128 .f32) : FVec Ideal S64x128 .f32 := k0_pay26 (k0_pay25 lb) x
/-- The logarithm of the forget gate. -/
def Gp (k : FVec Ideal S64x128 .f32) : FVec Ideal S64x128 .f32 := k0_pay46 k
/-- The query. -/
def Qp (x : FVec Ideal S64x128 .f32) : FVec Ideal S64x128 .f32 := k0_pay64 x
/-- All the partial sums of the log gates that a chunk uses. -/
def Dp (a : FVec Ideal S448x64 .bf16) (g : FVec Ideal S64x128 .f32) : FVec Ideal S448x128 .f32 := k0_pay80 a g

/-- The row and column counters. -/
abbrev rI : IVec S64x64 32 := iota .tc S64x64 32 [0] iota_S64x64_d0_w32
abbrev cI : IVec S64x64 32 := iota .tc S64x64 32 [1] iota_S64x64_d1_w32

/-- The attention matrix of one chunk. -/
def Ap (q k : FVec Ideal S64x128 .f32) (d : FVec Ideal S448x128 .f32) : FVec Ideal S64x64 .f32 :=
  k0_pay376 (k0_pay23 rI cI)
    (k0_pay330 (k0_pay22 rI cI)
      (k0_pay285 (k0_pay21 (k0_pay19 rI cI) (k0_pay20 cI))
        (k0_pay242 (k0_pay18 rI cI)
          (k0_pay201 (k0_pay17 (k0_pay15 rI cI) (k0_pay16 cI))
            (k0_pay158 (k0_pay14 rI cI) (k0_pay112 (k0_pay24 rI cI) k q) (k0_pay129 k0_pay6 k q d))
            (k0_pay174 k0_pay7 k q d))
          (k0_pay217 k0_pay8 k q d))
        (k0_pay275 (k0_pay258 k0_pay9 k q d)))
      (k0_pay319 (k0_pay301 (k0_pay12 k0_pay10 k0_pay11) k q d)))
    (k0_pay364 (k0_pay346 (k0_pay13 (iota .tc S64x128 32 [0] iota_S64x128_d0_w32)) k q d))

/-- What a chunk leaves in the output: from the gates, the values, the state before it and the gate input. -/
def Op (nw : FVec Ideal S1x128 .f32) (q k : FVec Ideal S64x128 .f32) (d : FVec Ideal S448x128 .f32)
    (v : FVec Ideal S64x128 .f32) (S : FVec Ideal S128x128 .f32) (g : FVec Ideal S64x128 .f32) : FVec Ideal S64x128 .bf16 :=
  k0_pay533 nw (k0_pay426 q (k0_pay425 d)) (k0_pay476 (Ap q k d) (k0_pay459 v)) S g

/-- The state after a chunk. -/
def Sp (k : FVec Ideal S64x128 .f32) (d : FVec Ideal S448x128 .f32) (v : FVec Ideal S64x128 .f32)
    (S : FVec Ideal S128x128 .f32) : FVec Ideal S128x128 .f32 :=
  k0_pay527 (k0_pay491 (k0_pay441 k (k0_pay392 d) (k0_pay408 d)) (k0_pay459 v)) (k0_pay507 (k0_pay408 d)) S

/-- The four blocks of projections, the lower bound, the norm weight, the 0/1 matrix and the scratch a grid point reads. -/
structure Blocks where
  q : FVec Ideal S512x256 .f32
  f : FVec Ideal S512x256 .f32
  v : FVec Ideal S512x256 .f32
  g : FVec Ideal S512x256 .f32
  lb : FVec Ideal S1x256 .f32
  nw : FVec Ideal S1x128 .f32
  a : FVec Ideal S448x64 .bf16

theorem hin (j : Fin 2) (i : Fin 8) : ∀ a, (![64 * i.val, 128 * j.val] : Fin 2 → Nat) a + S64x128.size a ≤ S512x256.size a := by
  revert j i; decide
theorem hlb (j : Fin 2) : ∀ a, (![0, 128 * j.val] : Fin 2 → Nat) a + S1x128.size a ≤ S1x256.size a := by
  revert j; decide

/-- The keys and log gates of head `j`, chunk `i`. -/
def BK (b : Blocks) (j : Fin 2) (i : Fin 8) : FVec Ideal S64x128 .f32 :=
  Kp (lrow b.lb (128 * j.val) (hlb j)) (tile b.f (64 * i.val) (128 * j.val) (hin j i))
def BD (b : Blocks) (j : Fin 2) (i : Fin 8) : FVec Ideal S448x128 .f32 := Dp b.a (Gp (BK b j i))
def BQ (b : Blocks) (j : Fin 2) (i : Fin 8) : FVec Ideal S64x128 .f32 := Qp (tile b.q (64 * i.val) (128 * j.val) (hin j i))
def BV (b : Blocks) (j : Fin 2) (i : Fin 8) : FVec Ideal S64x128 .f32 := tile b.v (64 * i.val) (128 * j.val) (hin j i)
def BG (b : Blocks) (j : Fin 2) (i : Fin 8) : FVec Ideal S64x128 .f32 := tile b.g (64 * i.val) (128 * j.val) (hin j i)

/-- The state of head `j` before chunk `n`, from the state at the block's start. -/
def BS (b : Blocks) (j : Fin 2) (S : FVec Ideal S128x128 .f32) : ℕ → FVec Ideal S128x128 .f32
  | 0 => S
  | n + 1 => if h : n < 8 then Sp (BK b j ⟨n, h⟩) (BD b j ⟨n, h⟩) (BV b j ⟨n, h⟩) (BS b j S n) else BS b j S n

/-- The output of head `j`, chunk `i`. -/
def BO (b : Blocks) (j : Fin 2) (S : FVec Ideal S128x128 .f32) (i : Fin 8) : FVec Ideal S64x128 .bf16 :=
  Op (k0_pay5 b.nw) (BQ b j i) (BK b j i) (BD b j i) (BV b j i) (BS b j S i.val) (BG b j i)

theorem hsl (j : Fin 2) : ∀ a, (![j.val, 0, 0] : Fin 3 → Nat) a + S1x128x128.size a ≤ S2x128x128.size a := by
  revert j; decide

theorem hs0 (j : Fin 2) : ∀ a, (![0, j.val, 0, 0] : Fin 4 → Nat) a + S1x1x128x128.size a ≤ S1x2x128x128.size a := by
  revert j; decide

/-- One head's initial state, as the first grid point of a head group puts it into the scratch and loads it again. -/
def s0load (x : FVec Ideal S1x2x128x128 .f32) (j : Fin 2) : FVec Ideal S128x128 .f32 :=
  k0_pay523 (k0_pay3 (View.ld (Val := Elt Ideal) (e' := .f32) (S := S1x2x128x128) x (Rect.unit (s := S1x2x128x128) ![0, j.val, 0, 0] ![1, 1, 128, 128] (hs0 j))))

theorem cast573 (v : FVec Ideal S128x128 .f32) (x : S1x128x128.Idx) (z : S128x128.Idx) (h0 : (x 1 : ℕ) = z 0) (h1 : (x 2 : ℕ) = z 1) :
    k0_pay573 v x = v z := by
  pointwise [k0_pay573]
  blk_ext

theorem cast574 (v : FVec Ideal S128x128 .f32) (x : S1x128x128.Idx) (z : S128x128.Idx) (h0 : (x 1 : ℕ) = z 0) (h1 : (x 2 : ℕ) = z 1) :
    k0_pay574 v x = v z := by
  pointwise [k0_pay574]
  blk_ext
theorem cast1 (v : FVec Ideal S128x128 .f32) (x : S1x1x128x128.Idx) (z : S128x128.Idx) (h0 : (x 2 : ℕ) = z 1) (h1 : (x 3 : ℕ) = z 0) :
    k0_pay1 v x = v z := by
  pointwise [k0_pay1]
  blk_ext

theorem cast2 (v : FVec Ideal S128x128 .f32) (x : S1x1x128x128.Idx) (z : S128x128.Idx) (h0 : (x 2 : ℕ) = z 1) (h1 : (x 3 : ℕ) = z 0) :
    k0_pay2 v x = v z := by
  pointwise [k0_pay2]
  blk_ext

end Cert.KernelIdeal.Hand
end
-- ==== Proof.Mat.lean ====
module

public import proofs.«01_k».proof.Proof.Gen.KernelIdeal

@[expose] public section

-- a match of 128 arms is unfolded arm by arm
set_option maxRecDepth 100000

noncomputable section

namespace Cert.KernelIdeal.Hand

open Idealize.ShloMosaic Cert.KernelIdeal

/-- Whether the entry of the exponent matrix in row `r` and column `u` is one: rows 0 to 63 are the running sums, block
    `l + 1` holds for row `t` the steps between `t` and the middle of `t`'s segment of length `64 / 2 ^ l`. -/
def one (r u : ℕ) : Bool :=
  let t := r % 64
  match r / 64 with
  | 0 => decide (u ≤ t)
  | l + 1 =>
    let h := 32 / 2 ^ l
    let ref := t / (2 * h) * (2 * h) + h
    if ref ≤ t then decide (ref < u) && decide (u ≤ t) else decide (t < u) && decide (u ≤ ref)

/-- The bit pattern of the exponent matrix's entry at row-major place `i`. -/
def pat (i : ℕ) : BitVec 16 := if one (i / 64) (i % 64) then 0x3F80#16 else 0#16

/-- A stretch of 128 entries that agrees with the formula place by place agrees at every index of the stretch. -/
theorem at_leaf {a : ℕ} (f : ℕ → BitVec 16) (h : ∀ u : Fin 128, f (128 * a + u.val) = pat (128 * a + u.val)) (i : ℕ)
    (hi : i / 128 = a) : f i = pat i := by
  have := h ⟨i % 128, Nat.mod_lt _ (by decide)⟩
  dsimp only at this
  rwa [show 128 * a + i % 128 = i by omega] at this

end Cert.KernelIdeal.Hand
end
-- ==== Proof.Spec.lean ====
module

public import Idealize.ShloMosaic.Lib.Pointwise
public import Idealize.ShloMosaic.Lib.IdealHost
public import proofs.«01_k».proof.Proof.Mat
public import Mathlib.Tactic.IntervalCases

@[expose] public section

noncomputable section

namespace Cert.Gla

open Idealize.ShloMosaic

/-- A matrix of the ideal values of one chunk. -/
abbrev M (a b : ℕ) := Fin a → Fin b → EReal

/-- The largest key gate whose log gate is taken. -/
def cap : EReal := Ideal.ofBits .f32 0x3F7FFFEF#32

/-- The running sums of the log gates. -/
def gcs (g : M 64 128) (t : Fin 64) (c : Fin 128) : EReal := ∑ u : Fin 64, if u ≤ t then g u c else 0

/-- The attention of a chunk: a query against an earlier key, decayed by the log gates between them. -/
def att (q k g : M 64 128) (t s : Fin 64) : EReal :=
  ∑ c : Fin 128, q t c * k s c * (if s ≤ t then Ideal.exp (gcs g t c - gcs g s c) else 0)

/-- The state after a chunk. -/
def step (k g v : M 64 128) (S : M 128 128) : M 128 128 := fun x y =>
  Ideal.exp (gcs g 63 x) * S x y + ∑ s : Fin 64, k s x * Ideal.exp (gcs g 63 x - gcs g s x) * v s y

/-- The values of a chunk before the norm. -/
def mix (q k g v : M 64 128) (S : M 128 128) : M 64 128 := fun t c =>
  ∑ s : Fin 64, att q k g t s * v s c + ∑ x : Fin 128, q t x * Ideal.exp (gcs g t x) * S x c

/-- Norm, weight and gate. -/
def fin (o : M 64 128) (nw : Fin 128 → EReal) (G : M 64 128) : M 64 128 := fun t c =>
  o t c * Ideal.rsqrt (Ideal.div (∑ x : Fin 128, o t x * o t x) (Ideal.ofBits .f32 0x43000000#32) + Ideal.ofBits .f32 0x358637BD#32)
    * nw c * (G t c * Ideal.logistic (G t c))

/-- The log gate of a key gate. -/
def lg (k : M 64 128) : M 64 128 := fun t c => Ideal.log1p (- min (k t c) cap)

/-- Query, key gate, value and output gate of head `h` in chunk `n`, from the projections `R` and the lower bound `L`. -/
def Qc (R : ℕ → ℕ → EReal) (n h : ℕ) : M 64 128 := fun t c =>
  R (64 * n + t) (128 * h + c) * Ideal.logistic (R (64 * n + t) (128 * h + c))
def Kc (R : ℕ → ℕ → EReal) (L : ℕ → EReal) (n h : ℕ) : M 64 128 := fun t c =>
  (1 - L (128 * h + c)) * Ideal.logistic (- R (64 * n + t) (2048 + (128 * h + c)))
def Vc (R : ℕ → ℕ → EReal) (n h : ℕ) : M 64 128 := fun t c => R (64 * n + t) (4096 + (128 * h + c))
def Wc (R : ℕ → ℕ → EReal) (n h : ℕ) : M 64 128 := fun t c => R (64 * n + t) (6144 + (128 * h + c))

/-- The state of head `h` before chunk `n`. -/
def St (R : ℕ → ℕ → EReal) (L : ℕ → EReal) (h : ℕ) : ℕ → M 128 128
  | 0 => fun _ _ => 0
  | n + 1 => step (Kc R L n h) (lg (Kc R L n h)) (Vc R n h) (St R L h n)

/-- The values of head `h` in chunk `n` before the norm. -/
def Mx (R : ℕ → ℕ → EReal) (L : ℕ → EReal) (h n : ℕ) : M 64 128 :=
  mix (Qc R n h) (Kc R L n h) (lg (Kc R L n h)) (Vc R n h) (St R L h n)

/-- The output of head `h` in chunk `n`. -/
def Out (R : ℕ → ℕ → EReal) (L : ℕ → EReal) (N : Fin 128 → EReal) (h n : ℕ) : M 64 128 := fin (Mx R L h n) N (Wc R n h)

theorem cap_eq : ∃ r : ℝ, cap = r ∧ r < 1 := by
  refine ⟨(16777199 : ℝ) / 16777216, ?_, by norm_num⟩
  rw [cap]
  simp [Ideal.ofBits, Ideal.ieee, -EReal.coe_mul]; norm_num

/-- The logistic function is real everywhere. -/
theorem logistic_real (x : EReal) : ∃ r : ℝ, Ideal.logistic x = r := by
  induction x using EReal.rec with
  | bot => exact ⟨0, by simp⟩
  | coe r => exact ⟨_, Ideal.logistic_coe r⟩
  | top => exact ⟨1, by simp⟩

/-- Where the lower bound is real, so is the log gate. -/
theorem loggate_real (lb x : EReal) (hb : lb ≠ ⊥) (ht : lb ≠ ⊤) :
    ∃ r : ℝ, Ideal.log1p (- min ((1 - lb) * Ideal.logistic x) cap) = r := by
  obtain ⟨c, hc, hc1⟩ := cap_eq
  obtain ⟨s, hs⟩ := logistic_real x
  lift lb to ℝ using ⟨ht, hb⟩
  rw [hs, hc]
  have h1 : (1 - (lb : EReal)) * (s : EReal) = (((1 - lb) * s : ℝ) : EReal) := by norm_cast
  rw [h1, ← EReal.coe_strictMono.monotone.map_min]
  have h2 : (1 : EReal) + -((min ((1 - lb) * s) c : ℝ) : EReal) = ((1 - min ((1 - lb) * s) c : ℝ) : EReal) := by
    generalize min ((1 - lb) * s) c = m
    rw [EReal.coe_sub, EReal.coe_one, ← sub_eq_add_neg]
  rw [Ideal.log1p, h2, Ideal.log_coe, if_neg]
  · exact ⟨_, rfl⟩
  · have := min_le_right ((1 - lb) * s) c
    linarith

theorem lg_real (R : ℕ → ℕ → EReal) (L : ℕ → EReal) (hL : ∀ k, L k ≠ ⊥ ∧ L k ≠ ⊤) (n h : ℕ) (t : Fin 64) (c : Fin 128) :
    ∃ r : ℝ, lg (Kc R L n h) t c = r :=
  loggate_real _ _ (hL _).1 (hL _).2

end Cert.Gla

namespace Cert.KernelIdeal.Hand

/-- Rows `t` and `s` lie in one segment of length `64 / 2 ^ l`, `t` in its upper half and `s` in its lower half. -/
def pr (l t s : ℕ) : Bool := t / 2 ^ (6 - l) == s / 2 ^ (6 - l) && t / 2 ^ (5 - l) % 2 == 1 && s / 2 ^ (5 - l) % 2 == 0
/-- Row `t` lies in the upper half of its segment. -/
def up (l t : ℕ) : Bool := t / 2 ^ (5 - l) % 2 == 1

theorem pr_up {l t s : ℕ} (h : pr l t s = true) : up l t = true ∧ up l s = false := by
  unfold pr at h
  unfold up
  simp only [Bool.and_eq_true, beq_iff_eq] at h
  simp only [beq_iff_eq, beq_eq_false_iff_ne]
  omega

theorem one_lvl (l t s : ℕ) (hl : l < 6) (ht : t < 64) (hs : s < 64) (h : pr l t s = true) :
    ∃ ref, s < ref ∧ ref ≤ t ∧ (∀ u, one (64 * (l + 1) + t) u = (decide (ref < u) && decide (u ≤ t))) ∧
      ∀ u, one (64 * (l + 1) + s) u = (decide (s < u) && decide (u ≤ ref)) := by
  unfold pr at h
  simp only [Bool.and_eq_true, beq_iff_eq] at h
  refine ⟨t / (2 * (32 / 2 ^ l)) * (2 * (32 / 2 ^ l)) + 32 / 2 ^ l, ?_⟩
  unfold one
  rw [show (64 * (l + 1) + t) / 64 = l + 1 by omega, show (64 * (l + 1) + t) % 64 = t by omega,
    show (64 * (l + 1) + s) / 64 = l + 1 by omega, show (64 * (l + 1) + s) % 64 = s by omega]
  interval_cases l <;> norm_num at h ⊢ <;>
  · refine ⟨by omega, by omega, fun u => ?_, fun u => ?_⟩
    · intro hh; exfalso; omega
    · rw [if_neg (by omega)]
      congr 2
      rw [eq_iff_iff]; omega

/-- Two rows: the same one, or an earlier and a later one of which exactly one level is in charge. -/
theorem pr_cases (t s : Fin 64) : (t = s ∧ ∀ l : Fin 6, pr l t s = false) ∨ (s < t ∧ ∃ l : Fin 6, ∀ l' : Fin 6, pr l' t s = decide (l' = l)) ∨
    (t < s ∧ ∀ l : Fin 6, pr l t s = false) := by
  revert t s; decide +kernel

theorem one_zero (t u : ℕ) (ht : t < 64) : one t u = decide (u ≤ t) := by
  unfold one
  rw [show t / 64 = 0 by omega, show t % 64 = t by omega]

end Cert.KernelIdeal.Hand
end
-- ==== Proof.Point.lean ====
module

public import proofs.«01_k».proof.Proof.Body
public import proofs.«01_k».proof.Proof.Spec

@[expose] public section

set_option maxRecDepth 16384

noncomputable section

namespace Cert.KernelIdeal.Hand

open Cert.KernelIdeal Cert.KernelIdeal.Gen Idealize.ShloMosaic Idealize.ShloMosaic.TcCoe Idealize.SL.Sem

/-- The key gate at an index. -/
theorem Kp_at (lb : FVec Ideal S1x128 .f32) (x : FVec Ideal S64x128 .f32) (t : Fin 64) (c : Fin 128) :
    Kp lb x (ix2 t c) = (1 - lb (ix2 (0 : Fin 1) c)) * Ideal.logistic (- x (ix2 t c)) := by
  pointwise [Kp, k0_pay25, k0_pay26]
  rw [zero_sub]

/-- The log gate at an index. -/
theorem Gp_at (k : FVec Ideal S64x128 .f32) (t : Fin 64) (c : Fin 128) :
    Gp k (ix2 t c) = Ideal.log1p (- min (k (ix2 t c)) (Ideal.ofBits .f32 0x3F7FFFEF#32)) := by
  pointwise [Gp, k0_pay46]
  rw [zero_sub]

theorem Qp_at (x : FVec Ideal S64x128 .f32) (t : Fin 64) (c : Fin 128) :
    Qp x (ix2 t c) = x (ix2 t c) * Ideal.logistic (x (ix2 t c)) := by
  pointwise [Qp, k0_pay64]

/-- The three parts of a log gate add up to the matrix product with the log gate itself, where the log gates are real. -/
theorem Dp_at (a : FVec Ideal S448x64 .bf16) (g : FVec Ideal S64x128 .f32) (r : Fin 448) (c : Fin 128)
    (g' : Fin 64 → ℝ) (hg : ∀ u, g (ix2 u c) = (g' u : EReal)) :
    Dp a g (ix2 r c) = ∑ u : Fin 64, a (ix2 r u) * g (ix2 u c) := by
  pointwise [Dp, k0_pay80]
  have h0 : ∀ u, g (ix2 u c) - g (ix2 u c) = 0 := fun u => by
    rw [hg, ← EReal.coe_sub, sub_self, EReal.coe_zero]
  simp [h0]

theorem Sp_at (k : FVec Ideal S64x128 .f32) (d : FVec Ideal S448x128 .f32) (v : FVec Ideal S64x128 .f32)
    (S : FVec Ideal S128x128 .f32) (x y : Fin 128) :
    Sp k d v S (ix2 x y) = S (ix2 x y) * Ideal.exp (d (ix2 (63 : Fin 448) y)) +
      ∑ s : Fin 64, v (ix2 s x) * (k (ix2 s y) * Ideal.exp (d (ix2 (63 : Fin 448) y) - d (ix2 (⟨s.val, by omega⟩ : Fin 448) y))) := by
  pointwise [Sp, k0_pay527, k0_pay491, k0_pay441, k0_pay392, k0_pay408, k0_pay459, k0_pay507]

/-- The mixed and read-out values of a chunk, before the norm. -/
def mixo (A : Fin 64 → Fin 64 → EReal) (q : FVec Ideal S64x128 .f32) (d : FVec Ideal S448x128 .f32)
    (v : FVec Ideal S64x128 .f32) (S : FVec Ideal S128x128 .f32) (t : Fin 64) (c : Fin 128) : EReal :=
  ∑ s : Fin 64, A t s * v (ix2 s c) + ∑ x : Fin 128, q (ix2 t x) * Ideal.exp (d (ix2 (⟨t.val, by omega⟩ : Fin 448) x)) * S (ix2 c x)

theorem Op_at (nw : FVec Ideal S1x128 .f32) (q k : FVec Ideal S64x128 .f32) (d : FVec Ideal S448x128 .f32)
    (v : FVec Ideal S64x128 .f32) (S : FVec Ideal S128x128 .f32) (g : FVec Ideal S64x128 .f32) (t : Fin 64) (c : Fin 128)
    (A : Fin 64 → Fin 64 → EReal) (hA : ∀ t s, Ap q k d (ix2 t s) = A t s) :
    Op nw q k d v S g (ix2 t c) =
      mixo A q d v S t c * Ideal.rsqrt (Ideal.div (∑ x : Fin 128, mixo A q d v S t x * mixo A q d v S t x) (Ideal.ofBits .f32 0x43000000#32)
        + Ideal.ofBits .f32 0x358637BD#32) * nw (ix2 (0 : Fin 1) c) * (g (ix2 t c) * Ideal.logistic (g (ix2 t c))) := by
  pointwise [Op, k0_pay533, k0_pay426, k0_pay425, k0_pay393, k0_pay476, k0_pay459]
  simp only [hA]
  rfl

theorem pr0 (t s : Fin 64) : k0_pay14 rI cI (ix2 t s) = if pr 0 t s then 1#1 else 0#1 := by
  pointwise [k0_pay14]
  revert t s; decide +kernel
theorem pr1 (t s : Fin 64) : k0_pay17 (k0_pay15 rI cI) (k0_pay16 cI) (ix2 t s) = if pr 1 t s then 1#1 else 0#1 := by
  pointwise [k0_pay17, k0_pay15, k0_pay16]
  revert t s; decide +kernel
theorem pr2 (t s : Fin 64) : k0_pay18 rI cI (ix2 t s) = if pr 2 t s then 1#1 else 0#1 := by
  pointwise [k0_pay18]
  revert t s; decide +kernel
theorem pr3 (t s : Fin 64) : k0_pay21 (k0_pay19 rI cI) (k0_pay20 cI) (ix2 t s) = if pr 3 t s then 1#1 else 0#1 := by
  pointwise [k0_pay21, k0_pay19, k0_pay20]
  revert t s; decide +kernel
theorem pr4 (t s : Fin 64) : k0_pay22 rI cI (ix2 t s) = if pr 4 t s then 1#1 else 0#1 := by
  pointwise [k0_pay22]
  revert t s; decide +kernel
theorem pr5 (t s : Fin 64) : k0_pay23 rI cI (ix2 t s) = if pr 5 t s then 1#1 else 0#1 := by
  pointwise [k0_pay23]
  revert t s; decide +kernel

theorem up0 (t : Fin 64) (x : Fin 128) : k0_pay6 (ix2 t x) = if up 0 t then 1#1 else 0#1 := by
  pointwise [k0_pay6]
  clear x; revert t; decide +kernel
theorem up1 (t : Fin 64) (x : Fin 128) : k0_pay7 (ix2 t x) = if up 1 t then 1#1 else 0#1 := by
  pointwise [k0_pay7]
  clear x; revert t; decide +kernel
theorem up2 (t : Fin 64) (x : Fin 128) : k0_pay8 (ix2 t x) = if up 2 t then 1#1 else 0#1 := by
  pointwise [k0_pay8]
  clear x; revert t; decide +kernel
theorem up3 (t : Fin 64) (x : Fin 128) : k0_pay9 (ix2 t x) = if up 3 t then 1#1 else 0#1 := by
  pointwise [k0_pay9]
  clear x; revert t; decide +kernel
theorem up4 (t : Fin 64) (x : Fin 128) : k0_pay12 k0_pay10 k0_pay11 (ix2 t x) = if up 4 t then 1#1 else 0#1 := by
  pointwise [k0_pay12, k0_pay10, k0_pay11]
  clear x; revert t; decide +kernel
theorem up5 (t : Fin 64) (x : Fin 128) : k0_pay13 (iota .tc S64x128 32 [0] iota_S64x128_d0_w32) (ix2 t x) = if up 5 t then 1#1 else 0#1 := by
  pointwise [k0_pay13]
  clear x; revert t; decide +kernel

theorem sel_if {α : Type} (b : Bool) (x y : α) : Scalar.select (if b then 1#1 else 0#1) x y = if b then x else y := by
  cases b <;> rfl

theorem eqm (t s : Fin 64) : k0_pay24 rI cI (ix2 t s) = if (decide (t = s)) then 1#1 else 0#1 := by
  pointwise [k0_pay24]
  revert t s; decide +kernel

/-- One level's products: the upper half's queries against the lower half's keys, each scaled towards the middle. -/
def lev (l o : ℕ) (ho : o ≤ 384) (q k : FVec Ideal S64x128 .f32) (d : FVec Ideal S448x128 .f32) (t s : Fin 64) : EReal :=
  ∑ x : Fin 128, (if up l t then q (ix2 t x) else k (ix2 t x)) * Ideal.exp (d (ix2 (⟨o + t.val, by omega⟩ : Fin 448) x)) *
    ((if up l s then q (ix2 s x) else k (ix2 s x)) * Ideal.exp (d (ix2 (⟨o + s.val, by omega⟩ : Fin 448) x)))

theorem dg (q k : FVec Ideal S64x128 .f32) (m : IVec S64x64 1) (t s : Fin 64) :
    k0_pay112 m k q (ix2 t s) = Scalar.select (m (ix2 t s)) (∑ x : Fin 128, q (ix2 t x) * k (ix2 t x)) 0 := by
  pointwise [k0_pay112]
theorem ad376 (m : IVec S64x64 1) (a b : FVec Ideal S64x64 .f32) (t s : Fin 64) :
    k0_pay376 m a b (ix2 t s) = a (ix2 t s) + Scalar.select (m (ix2 t s)) (b (ix2 t s)) 0 := by
  pointwise [k0_pay376]
theorem ad330 (m : IVec S64x64 1) (a b : FVec Ideal S64x64 .f32) (t s : Fin 64) :
    k0_pay330 m a b (ix2 t s) = a (ix2 t s) + Scalar.select (m (ix2 t s)) (b (ix2 t s)) 0 := by
  pointwise [k0_pay330]
theorem ad285 (m : IVec S64x64 1) (a b : FVec Ideal S64x64 .f32) (t s : Fin 64) :
    k0_pay285 m a b (ix2 t s) = a (ix2 t s) + Scalar.select (m (ix2 t s)) (b (ix2 t s)) 0 := by
  pointwise [k0_pay285]
theorem mm364 (b : FVec Ideal S64x128 .bf16) (t s : Fin 64) :
    k0_pay364 b (ix2 t s) = ∑ x : Fin 128, b (ix2 t x) * b (ix2 s x) := by
  pointwise [k0_pay364]
theorem mm319 (b : FVec Ideal S64x128 .bf16) (t s : Fin 64) :
    k0_pay319 b (ix2 t s) = ∑ x : Fin 128, b (ix2 t x) * b (ix2 s x) := by
  pointwise [k0_pay319]
theorem mm275 (b : FVec Ideal S64x128 .bf16) (t s : Fin 64) :
    k0_pay275 b (ix2 t s) = ∑ x : Fin 128, b (ix2 t x) * b (ix2 s x) := by
  pointwise [k0_pay275]
theorem am242 (m : IVec S64x64 1) (a : FVec Ideal S64x64 .f32) (b : FVec Ideal S64x128 .bf16) (t s : Fin 64) :
    k0_pay242 m a b (ix2 t s) = a (ix2 t s) + Scalar.select (m (ix2 t s)) (∑ x : Fin 128, b (ix2 t x) * b (ix2 s x)) 0 := by
  pointwise [k0_pay242]
theorem am201 (m : IVec S64x64 1) (a : FVec Ideal S64x64 .f32) (b : FVec Ideal S64x128 .bf16) (t s : Fin 64) :
    k0_pay201 m a b (ix2 t s) = a (ix2 t s) + Scalar.select (m (ix2 t s)) (∑ x : Fin 128, b (ix2 t x) * b (ix2 s x)) 0 := by
  pointwise [k0_pay201]
theorem am158 (m : IVec S64x64 1) (a : FVec Ideal S64x64 .f32) (b : FVec Ideal S64x128 .bf16) (t s : Fin 64) :
    k0_pay158 m a b (ix2 t s) = a (ix2 t s) + Scalar.select (m (ix2 t s)) (∑ x : Fin 128, b (ix2 t x) * b (ix2 s x)) 0 := by
  pointwise [k0_pay158]
theorem sc129 (m : IVec S64x128 1) (q k : FVec Ideal S64x128 .f32) (d : FVec Ideal S448x128 .f32) (t : Fin 64) (x : Fin 128) :
    k0_pay129 m k q d (ix2 t x) = Scalar.select (m (ix2 t x)) (q (ix2 t x)) (k (ix2 t x)) * Ideal.exp (d (ix2 (⟨64 + t.val, by omega⟩ : Fin 448) x)) := by
  pointwise [k0_pay129]
theorem sc174 (m : IVec S64x128 1) (q k : FVec Ideal S64x128 .f32) (d : FVec Ideal S448x128 .f32) (t : Fin 64) (x : Fin 128) :
    k0_pay174 m k q d (ix2 t x) = Scalar.select (m (ix2 t x)) (q (ix2 t x)) (k (ix2 t x)) * Ideal.exp (d (ix2 (⟨128 + t.val, by omega⟩ : Fin 448) x)) := by
  pointwise [k0_pay174]
theorem sc217 (m : IVec S64x128 1) (q k : FVec Ideal S64x128 .f32) (d : FVec Ideal S448x128 .f32) (t : Fin 64) (x : Fin 128) :
    k0_pay217 m k q d (ix2 t x) = Scalar.select (m (ix2 t x)) (q (ix2 t x)) (k (ix2 t x)) * Ideal.exp (d (ix2 (⟨192 + t.val, by omega⟩ : Fin 448) x)) := by
  pointwise [k0_pay217]
theorem sc258 (m : IVec S64x128 1) (q k : FVec Ideal S64x128 .f32) (d : FVec Ideal S448x128 .f32) (t : Fin 64) (x : Fin 128) :
    k0_pay258 m k q d (ix2 t x) = Scalar.select (m (ix2 t x)) (q (ix2 t x)) (k (ix2 t x)) * Ideal.exp (d (ix2 (⟨256 + t.val, by omega⟩ : Fin 448) x)) := by
  pointwise [k0_pay258]
theorem sc301 (m : IVec S64x128 1) (q k : FVec Ideal S64x128 .f32) (d : FVec Ideal S448x128 .f32) (t : Fin 64) (x : Fin 128) :
    k0_pay301 m k q d (ix2 t x) = Scalar.select (m (ix2 t x)) (q (ix2 t x)) (k (ix2 t x)) * Ideal.exp (d (ix2 (⟨320 + t.val, by omega⟩ : Fin 448) x)) := by
  pointwise [k0_pay301]
theorem sc346 (m : IVec S64x128 1) (q k : FVec Ideal S64x128 .f32) (d : FVec Ideal S448x128 .f32) (t : Fin 64) (x : Fin 128) :
    k0_pay346 m k q d (ix2 t x) = Scalar.select (m (ix2 t x)) (q (ix2 t x)) (k (ix2 t x)) * Ideal.exp (d (ix2 (⟨384 + t.val, by omega⟩ : Fin 448) x)) := by
  pointwise [k0_pay346]

end Cert.KernelIdeal.Hand
end
-- ==== Proof.Att.lean ====
module

public import proofs.«01_k».proof.Proof.Point

@[expose] public section

set_option maxRecDepth 16384

noncomputable section

namespace Cert.KernelIdeal.Hand

open Cert.KernelIdeal Cert.KernelIdeal.Gen Idealize.ShloMosaic Idealize.ShloMosaic.TcCoe Idealize.SL.Sem

/-- The mask of the last level. -/
def mask5 : IVec S64x128 1 := k0_pay13 (iota .tc S64x128 32 [0] iota_S64x128_d0_w32)
theorem up5m (t : Fin 64) (x : Fin 128) : mask5 (ix2 t x) = if up 5 t then 1#1 else 0#1 := up5 t x

/-- The attention matrix at an index: the diagonal and six levels. -/
theorem Ap_at (q k : FVec Ideal S64x128 .f32) (d : FVec Ideal S448x128 .f32) (t s : Fin 64) :
    Ap q k d (ix2 t s) = (if decide (t = s) then ∑ x : Fin 128, q (ix2 t x) * k (ix2 t x) else 0)
      + (if pr 0 t s then lev 0 64 (by omega) q k d t s else 0)
      + (if pr 1 t s then lev 1 128 (by omega) q k d t s else 0)
      + (if pr 2 t s then lev 2 192 (by omega) q k d t s else 0)
      + (if pr 3 t s then lev 3 256 (by omega) q k d t s else 0)
      + (if pr 4 t s then lev 4 320 (by omega) q k d t s else 0)
      + (if pr 5 t s then lev 5 384 (by omega) q k d t s else 0) := by
  rw [Ap]
  show k0_pay376 _ _ (k0_pay364 (k0_pay346 mask5 k q d)) (ix2 t s) = _
  rw [ad376, ad330, ad285, am242, am201, am158, dg, mm364, mm319, mm275]
  simp only [sc129, sc174, sc217, sc258, sc301, sc346]
  simp only [pr0, pr1, pr2, pr3, pr4, pr5, up0, up1, up2, up3, up4, up5m, eqm, sel_if, lev]

end Cert.KernelIdeal.Hand
end
-- ==== Proof.Chunk.lean ====
module

public import proofs.«01_k».proof.Proof.Att
public import proofs.«01_k».proof.Proof.Spec

@[expose] public section

set_option maxRecDepth 16384

noncomputable section

namespace Cert.KernelIdeal.Hand

open Cert.KernelIdeal Cert.KernelIdeal.Gen Idealize.ShloMosaic Idealize.ShloMosaic.TcCoe Idealize.SL.Sem

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The log gates' running sums, as reals. -/
def gr (g : Fin 64 → Fin 128 → ℝ) (r : ℕ) (c : Fin 128) : ℝ := ∑ u : Fin 64, if one r u then g u c else 0

theorem gcs_eq (g : Gla.M 64 128) (g' : Fin 64 → Fin 128 → ℝ) (hg : ∀ u c, g u c = (g' u c : EReal)) (t : Fin 64) (c : Fin 128) :
    Gla.gcs g t c = (gr g' t c : EReal) := by
  unfold Gla.gcs gr
  rw [coe_sum]
  refine Finset.sum_congr rfl fun u _ => ?_
  rw [one_zero _ _ t.isLt, hg]
  by_cases h : u ≤ t
  · rw [if_pos h, if_pos (by simpa using h)]
  · rw [if_neg h, if_neg (by simpa using h), EReal.coe_zero]

/-- Two rows of one level: their two partial sums add up to the sum between them. -/
theorem gr_lvl (g : Fin 64 → Fin 128 → ℝ) (l : ℕ) (hl : l < 6) (t s : Fin 64) (h : pr l t s = true) (c : Fin 128) :
    gr g (64 * (l + 1) + t) c + gr g (64 * (l + 1) + s) c = gr g t c - gr g s c := by
  obtain ⟨ref, h1, h2, h3, h4⟩ := one_lvl l t s hl t.isLt s.isLt h
  unfold gr
  rw [← Finset.sum_add_distrib, ← Finset.sum_sub_distrib]
  refine Finset.sum_congr rfl fun u _ => ?_
  rw [h3, h4, one_zero _ _ t.isLt, one_zero _ _ s.isLt]
  simp only [Bool.and_eq_true, decide_eq_true_eq]
  by_cases a : (u : ℕ) ≤ s
  · rw [if_neg (by omega), if_neg (by omega), if_pos (by omega), if_pos a]; ring
  · by_cases b : (u : ℕ) ≤ ref
    · rw [if_neg (by omega), if_pos (by omega), if_pos (by omega), if_neg a]; ring
    · by_cases e : (u : ℕ) ≤ t
      · rw [if_pos (by omega), if_neg (by omega), if_pos e, if_neg a]; ring
      · rw [if_neg (by omega), if_neg (by omega), if_neg e, if_neg a]; ring

theorem lev_eq (q k : FVec Ideal S64x128 .f32) (d : FVec Ideal S448x128 .f32) (g' : Fin 64 → Fin 128 → ℝ)
    (hd : ∀ (r : Fin 448) (c : Fin 128), d (ix2 r c) = (gr g' r c : EReal)) (l : ℕ) (hl : l < 6) (t s : Fin 64) (h : pr l t s = true) :
    lev l (64 * (l + 1)) (by omega) q k d t s = ∑ x : Fin 128, q (ix2 t x) * k (ix2 s x) * Ideal.exp ((gr g' t x : EReal) - (gr g' s x : EReal)) := by
  unfold lev
  refine Finset.sum_congr rfl fun x _ => ?_
  rw [(pr_up h).1, (pr_up h).2, hd, hd, if_pos rfl, if_neg (by decide), ← EReal.coe_sub, ← gr_lvl g' l hl t s h x,
    Ideal.exp_coe, Ideal.exp_coe, Ideal.exp_coe, Real.exp_add, EReal.coe_mul, mul_mul_mul_comm]

/-- The attention matrix is the decayed product of queries and keys. -/
theorem Ap_eq (q k : FVec Ideal S64x128 .f32) (d : FVec Ideal S448x128 .f32) (g : Gla.M 64 128) (g' : Fin 64 → Fin 128 → ℝ)
    (hg : ∀ u c, g u c = (g' u c : EReal)) (hd : ∀ (r : Fin 448) (c : Fin 128), d (ix2 r c) = (gr g' r c : EReal)) (t s : Fin 64) :
    Ap q k d (ix2 t s) = Gla.att (fun t c => q (ix2 t c)) (fun t c => k (ix2 t c)) g t s := by
  rw [Ap_at]
  unfold Gla.att
  simp only [gcs_eq g g' hg]
  rcases pr_cases t s with ⟨h, hl⟩ | ⟨h, l, hl⟩ | ⟨h, hl⟩
  · subst h
    have e : ∀ l : Fin 6, pr l.val t t = false := hl
    rw [if_pos (by simp), if_neg (by simpa using e 0), if_neg (by simpa using e 1), if_neg (by simpa using e 2),
      if_neg (by simpa using e 3), if_neg (by simpa using e 4), if_neg (by simpa using e 5)]
    simp only [add_zero]
    refine Finset.sum_congr rfl fun x _ => ?_
    rw [if_pos le_rfl, ← EReal.coe_sub, sub_self, Ideal.exp_coe, Real.exp_zero, EReal.coe_one, mul_one]
  · simp only [if_pos h.le]
    have e0 := hl 0
    have e1 := hl 1
    have e2 := hl 2
    have e3 := hl 3
    have e4 := hl 4
    have e5 := hl 5
    have hp := hl l
    rw [if_neg (show ¬ (decide (t = s) = true) by simpa using h.ne')]
    rw [← lev_eq q k d g' hd l.val l.isLt t s (by simpa using hp)]
    fin_cases l <;> simp at e0 e1 e2 e3 e4 e5 <;> simp [e0, e1, e2, e3, e4, e5]
  · have e : ∀ l : Fin 6, pr l.val t s = false := hl
    rw [if_neg (by simpa using h.ne), if_neg (by simpa using e 0), if_neg (by simpa using e 1), if_neg (by simpa using e 2),
      if_neg (by simpa using e 3), if_neg (by simpa using e 4), if_neg (by simpa using e 5)]
    simp [not_le.mpr h]

/-- The matrix product with the 0/1 matrix, at real log gates. -/
theorem Dp_eq (a : FVec Ideal S448x64 .bf16) (g : FVec Ideal S64x128 .f32) (ha : ∀ (r : Fin 448) (u : Fin 64), a (ix2 r u) = if one r u then 1 else 0)
    (g' : Fin 64 → Fin 128 → ℝ) (hg : ∀ u c, g (ix2 u c) = (g' u c : EReal)) (r : Fin 448) (c : Fin 128) :
    Dp a g (ix2 r c) = (gr g' r c : EReal) := by
  rw [Dp_at a g r c (fun u => g' u c) (fun u => hg u c)]
  unfold gr
  rw [coe_sum]
  refine Finset.sum_congr rfl fun u _ => ?_
  rw [ha, hg]
  split <;> simp

/-- A chunk of the kernel, given the 0/1 matrix and real log gates: the state, stored with rows and columns exchanged. -/
theorem Sp_eq (a : FVec Ideal S448x64 .bf16) (ha : ∀ (r : Fin 448) (u : Fin 64), a (ix2 r u) = if one r u then 1 else 0)
    (k v : FVec Ideal S64x128 .f32) (S : FVec Ideal S128x128 .f32) (K V : Gla.M 64 128) (T : Gla.M 128 128)
    (hk : ∀ t c, k (ix2 t c) = K t c) (hv : ∀ t c, v (ix2 t c) = V t c) (hS : ∀ x y, S (ix2 y x) = T x y)
    (hg : ∀ t c, ∃ r : ℝ, Gla.lg K t c = r) (x y : Fin 128) :
    Sp k (Dp a (Gp k)) v S (ix2 y x) = Gla.step K (Gla.lg K) V T x y := by
  choose g' hg' using hg
  have hgp : ∀ u c, Gp k (ix2 u c) = (g' u c : EReal) := fun u c => by rw [Gp_at, hk]; exact hg' u c
  rw [Sp_at, Gla.step]
  simp only [Dp_eq a _ ha g' hgp, gcs_eq (Gla.lg K) g' hg', hk, hv, hS]
  rw [mul_comm]
  congr 1
  refine Finset.sum_congr rfl fun s _ => ?_
  rw [mul_comm]
  rfl

/-- A chunk of the kernel: the output. -/
theorem Op_eq (nw : FVec Ideal S1x128 .f32) (a : FVec Ideal S448x64 .bf16) (ha : ∀ (r : Fin 448) (u : Fin 64), a (ix2 r u) = if one r u then 1 else 0)
    (q k v w : FVec Ideal S64x128 .f32) (S : FVec Ideal S128x128 .f32) (Q K V W : Gla.M 64 128) (N : Fin 128 → EReal) (T : Gla.M 128 128)
    (hn : ∀ c, nw (ix2 (0 : Fin 1) c) = N c)
    (hq : ∀ t c, q (ix2 t c) = Q t c) (hk : ∀ t c, k (ix2 t c) = K t c) (hv : ∀ t c, v (ix2 t c) = V t c)
    (hw : ∀ t c, w (ix2 t c) = W t c) (hS : ∀ x y, S (ix2 y x) = T x y)
    (hg : ∀ t c, ∃ r : ℝ, Gla.lg K t c = r) (t : Fin 64) (c : Fin 128) :
    Op nw q k (Dp a (Gp k)) v S w (ix2 t c) = Gla.fin (Gla.mix Q K (Gla.lg K) V T) N W t c := by
  choose g' hg' using hg
  have hgp : ∀ u c, Gp k (ix2 u c) = (g' u c : EReal) := fun u c => by rw [Gp_at, hk]; exact hg' u c
  have hd := Dp_eq a _ ha g' hgp
  rw [Op_at _ _ _ _ _ _ _ _ _ _ (Ap_eq q k (Dp a (Gp k)) (Gla.lg K) g' hg' hd), Gla.fin]
  have hm : ∀ t c, mixo (Gla.att (fun t c => q (ix2 t c)) (fun t c => k (ix2 t c)) (Gla.lg K)) q (Dp a (Gp k)) v S t c = Gla.mix Q K (Gla.lg K) V T t c := by
    intro t c
    unfold mixo Gla.mix
    simp only [hd, gcs_eq (Gla.lg K) g' hg', hq, hk, hv, hS]
  simp only [hm, hn, hw]

end Cert.KernelIdeal.Hand
end
-- ==== Proof.MatA.lean ====
module

public import proofs.«01_k».proof.Proof.Mat

@[expose] public section

-- a match of 128 arms is unfolded arm by arm
set_option maxRecDepth 100000

noncomputable section

namespace Cert.KernelIdeal.Hand

open Idealize.ShloMosaic Cert.KernelIdeal

/-! The literal's stretches of 128 entries, each against the formula. -/

theorem leaf0 (i : ℕ) (hi : i / 128 = 0) : lit0t i = pat i := by
  refine Eq.trans (b := lit0t0_0 i) ?_ (at_leaf (a := 0) lit0t0_0 (by decide +kernel) i hi)
  rw [lit0t, show i / 16384 = 0 by omega]
  show lit0t1_0 i = _
  rw [lit0t1_0, show i / 128 % 128 = 0 by omega]
  rfl
theorem leaf1 (i : ℕ) (hi : i / 128 = 1) : lit0t i = pat i := by
  refine Eq.trans (b := lit0t0_1 i) ?_ (at_leaf (a := 1) lit0t0_1 (by decide +kernel) i hi)
  rw [lit0t, show i / 16384 = 0 by omega]
  show lit0t1_0 i = _
  rw [lit0t1_0, show i / 128 % 128 = 1 by omega]
  rfl
theorem leaf2 (i : ℕ) (hi : i / 128 = 2) : lit0t i = pat i := by
  refine Eq.trans (b := lit0t0_2 i) ?_ (at_leaf (a := 2) lit0t0_2 (by decide +kernel) i hi)
  rw [lit0t, show i / 16384 = 0 by omega]
  show lit0t1_0 i = _
  rw [lit0t1_0, show i / 128 % 128 = 2 by omega]
  rfl
theorem leaf3 (i : ℕ) (hi : i / 128 = 3) : lit0t i = pat i := by
  refine Eq.trans (b := lit0t0_3 i) ?_ (at_leaf (a := 3) lit0t0_3 (by decide +kernel) i hi)
  rw [lit0t, show i / 16384 = 0 by omega]
  show lit0t1_0 i = _
  rw [lit0t1_0, show i / 128 % 128 = 3 by omega]
  rfl
theorem leaf4 (i : ℕ) (hi : i / 128 = 4) : lit0t i = pat i := by
  refine Eq.trans (b := lit0t0_4 i) ?_ (at_leaf (a := 4) lit0t0_4 (by decide +kernel) i hi)
  rw [lit0t, show i / 16384 = 0 by omega]
  show lit0t1_0 i = _
  rw [lit0t1_0, show i / 128 % 128 = 4 by omega]
  rfl
theorem leaf5 (i : ℕ) (hi : i / 128 = 5) : lit0t i = pat i := by
  refine Eq.trans (b := lit0t0_5 i) ?_ (at_leaf (a := 5) lit0t0_5 (by decide +kernel) i hi)
  rw [lit0t, show i / 16384 = 0 by omega]
  show lit0t1_0 i = _
  rw [lit0t1_0, show i / 128 % 128 = 5 by omega]
  rfl
theorem leaf6 (i : ℕ) (hi : i / 128 = 6) : lit0t i = pat i := by
  refine Eq.trans (b := lit0t0_6 i) ?_ (at_leaf (a := 6) lit0t0_6 (by decide +kernel) i hi)
  rw [lit0t, show i / 16384 = 0 by omega]
  show lit0t1_0 i = _
  rw [lit0t1_0, show i / 128 % 128 = 6 by omega]
  rfl
theorem leaf7 (i : ℕ) (hi : i / 128 = 7) : lit0t i = pat i := by
  refine Eq.trans (b := lit0t0_7 i) ?_ (at_leaf (a := 7) lit0t0_7 (by decide +kernel) i hi)
  rw [lit0t, show i / 16384 = 0 by omega]
  show lit0t1_0 i = _
  rw [lit0t1_0, show i / 128 % 128 = 7 by omega]
  rfl
theorem leaf8 (i : ℕ) (hi : i / 128 = 8) : lit0t i = pat i := by
  refine Eq.trans (b := lit0t0_8 i) ?_ (at_leaf (a := 8) lit0t0_8 (by decide +kernel) i hi)
  rw [lit0t, show i / 16384 = 0 by omega]
  show lit0t1_0 i = _
  rw [lit0t1_0, show i / 128 % 128 = 8 by omega]
  rfl
theorem leaf9 (i : ℕ) (hi : i / 128 = 9) : lit0t i = pat i := by
  refine Eq.trans (b := lit0t0_9 i) ?_ (at_leaf (a := 9) lit0t0_9 (by decide +kernel) i hi)
  rw [lit0t, show i / 16384 = 0 by omega]
  show lit0t1_0 i = _
  rw [lit0t1_0, show i / 128 % 128 = 9 by omega]
  rfl
theorem leaf10 (i : ℕ) (hi : i / 128 = 10) : lit0t i = pat i := by
  refine Eq.trans (b := lit0t0_10 i) ?_ (at_leaf (a := 10) lit0t0_10 (by decide +kernel) i hi)
  rw [lit0t, show i / 16384 = 0 by omega]
  show lit0t1_0 i = _
  rw [lit0t1_0, show i / 128 % 128 = 10 by omega]
  rfl
theorem leaf11 (i : ℕ) (hi : i / 128 = 11) : lit0t i = pat i := by
  refine Eq.trans (b := lit0t0_11 i) ?_ (at_leaf (a := 11) lit0t0_11 (by decide +kernel) i hi)
  rw [lit0t, show i / 16384 = 0 by omega]
  show lit0t1_0 i = _
  rw [lit0t1_0, show i / 128 % 128 = 11 by omega]
  rfl
theorem leaf12 (i : ℕ) (hi : i / 128 = 12) : lit0t i = pat i := by
  refine Eq.trans (b := lit0t0_12 i) ?_ (at_leaf (a := 12) lit0t0_12 (by decide +kernel) i hi)
  rw [lit0t, show i / 16384 = 0 by omega]
  show lit0t1_0 i = _
  rw [lit0t1_0, show i / 128 % 128 = 12 by omega]
  rfl
theorem leaf13 (i : ℕ) (hi : i / 128 = 13) : lit0t i = pat i := by
  refine Eq.trans (b := lit0t0_13 i) ?_ (at_leaf (a := 13) lit0t0_13 (by decide +kernel) i hi)
  rw [lit0t, show i / 16384 = 0 by omega]
  show lit0t1_0 i = _
  rw [lit0t1_0, show i / 128 % 128 = 13 by omega]
  rfl
theorem leaf14 (i : ℕ) (hi : i / 128 = 14) : lit0t i = pat i := by
  refine Eq.trans (b := lit0t0_14 i) ?_ (at_leaf (a := 14) lit0t0_14 (by decide +kernel) i hi)
  rw [lit0t, show i / 16384 = 0 by omega]
  show lit0t1_0 i = _
  rw [lit0t1_0, show i / 128 % 128 = 14 by omega]
  rfl
theorem leaf15 (i : ℕ) (hi : i / 128 = 15) : lit0t i = pat i := by
  refine Eq.trans (b := lit0t0_15 i) ?_ (at_leaf (a := 15) lit0t0_15 (by decide +kernel) i hi)
  rw [lit0t, show i / 16384 = 0 by omega]
  show lit0t1_0 i = _
  rw [lit0t1_0, show i / 128 % 128 = 15 by omega]
  rfl
theorem leaf16 (i : ℕ) (hi : i / 128 = 16) : lit0t i = pat i := by
  refine Eq.trans (b := lit0t0_16 i) ?_ (at_leaf (a := 16) lit0t0_16 (by decide +kernel) i hi)
  rw [lit0t, show i / 16384 = 0 by omega]
  show lit0t1_0 i = _
  rw [lit0t1_0, show i / 128 % 128 = 16 by omega]
  rfl
theorem leaf17 (i : ℕ) (hi : i / 128 = 17) : lit0t i = pat i := by
  refine Eq.trans (b := lit0t0_17 i) ?_ (at_leaf (a := 17) lit0t0_17 (by decide +kernel) i hi)
  rw [lit0t, show i / 16384 = 0 by omega]
  show lit0t1_0 i = _
  rw [lit0t1_0, show i / 128 % 128 = 17 by omega]
  rfl
theorem leaf18 (i : ℕ) (hi : i / 128 = 18) : lit0t i = pat i := by
  refine Eq.trans (b := lit0t0_18 i) ?_ (at_leaf (a := 18) lit0t0_18 (by decide +kernel) i hi)
  rw [lit0t, show i / 16384 = 0 by omega]
  show lit0t1_0 i = _
  rw [lit0t1_0, show i / 128 % 128 = 18 by omega]
  rfl
theorem leaf19 (i : ℕ) (hi : i / 128 = 19) : lit0t i = pat i := by
  refine Eq.trans (b := lit0t0_19 i) ?_ (at_leaf (a := 19) lit0t0_19 (by decide +kernel) i hi)
  rw [lit0t, show i / 16384 = 0 by omega]
  show lit0t1_0 i = _
  rw [lit0t1_0, show i / 128 % 128 = 19 by omega]
  rfl
theorem leaf20 (i : ℕ) (hi : i / 128 = 20) : lit0t i = pat i := by
  refine Eq.trans (b := lit0t0_20 i) ?_ (at_leaf (a := 20) lit0t0_20 (by decide +kernel) i hi)
  rw [lit0t, show i / 16384 = 0 by omega]
  show lit0t1_0 i = _
  rw [lit0t1_0, show i / 128 % 128 = 20 by omega]
  rfl
theorem leaf21 (i : ℕ) (hi : i / 128 = 21) : lit0t i = pat i := by
  refine Eq.trans (b := lit0t0_21 i) ?_ (at_leaf (a := 21) lit0t0_21 (by decide +kernel) i hi)
  rw [lit0t, show i / 16384 = 0 by omega]
  show lit0t1_0 i = _
  rw [lit0t1_0, show i / 128 % 128 = 21 by omega]
  rfl
theorem leaf22 (i : ℕ) (hi : i / 128 = 22) : lit0t i = pat i := by
  refine Eq.trans (b := lit0t0_22 i) ?_ (at_leaf (a := 22) lit0t0_22 (by decide +kernel) i hi)
  rw [lit0t, show i / 16384 = 0 by omega]
  show lit0t1_0 i = _
  rw [lit0t1_0, show i / 128 % 128 = 22 by omega]
  rfl
theorem leaf23 (i : ℕ) (hi : i / 128 = 23) : lit0t i = pat i := by
  refine Eq.trans (b := lit0t0_23 i) ?_ (at_leaf (a := 23) lit0t0_23 (by decide +kernel) i hi)
  rw [lit0t, show i / 16384 = 0 by omega]
  show lit0t1_0 i = _
  rw [lit0t1_0, show i / 128 % 128 = 23 by omega]
  rfl
theorem leaf24 (i : ℕ) (hi : i / 128 = 24) : lit0t i = pat i := by
  refine Eq.trans (b := lit0t0_24 i) ?_ (at_leaf (a := 24) lit0t0_24 (by decide +kernel) i hi)
  rw [lit0t, show i / 16384 = 0 by omega]
  show lit0t1_0 i = _
  rw [lit0t1_0, show i / 128 % 128 = 24 by omega]
  rfl
theorem leaf25 (i : ℕ) (hi : i / 128 = 25) : lit0t i = pat i := by
  refine Eq.trans (b := lit0t0_25 i) ?_ (at_leaf (a := 25) lit0t0_25 (by decide +kernel) i hi)
  rw [lit0t, show i / 16384 = 0 by omega]
  show lit0t1_0 i = _
  rw [lit0t1_0, show i / 128 % 128 = 25 by omega]
  rfl
theorem leaf26 (i : ℕ) (hi : i / 128 = 26) : lit0t i = pat i := by
  refine Eq.trans (b := lit0t0_26 i) ?_ (at_leaf (a := 26) lit0t0_26 (by decide +kernel) i hi)
  rw [lit0t, show i / 16384 = 0 by omega]
  show lit0t1_0 i = _
  rw [lit0t1_0, show i / 128 % 128 = 26 by omega]
  rfl
theorem leaf27 (i : ℕ) (hi : i / 128 = 27) : lit0t i = pat i := by
  refine Eq.trans (b := lit0t0_27 i) ?_ (at_leaf (a := 27) lit0t0_27 (by decide +kernel) i hi)
  rw [lit0t, show i / 16384 = 0 by omega]
  show lit0t1_0 i = _
  rw [lit0t1_0, show i / 128 % 128 = 27 by omega]
  rfl
theorem leaf28 (i : ℕ) (hi : i / 128 = 28) : lit0t i = pat i := by
  refine Eq.trans (b := lit0t0_28 i) ?_ (at_leaf (a := 28) lit0t0_28 (by decide +kernel) i hi)
  rw [lit0t, show i / 16384 = 0 by omega]
  show lit0t1_0 i = _
  rw [lit0t1_0, show i / 128 % 128 = 28 by omega]
  rfl
theorem leaf29 (i : ℕ) (hi : i / 128 = 29) : lit0t i = pat i := by
  refine Eq.trans (b := lit0t0_29 i) ?_ (at_leaf (a := 29) lit0t0_29 (by decide +kernel) i hi)
  rw [lit0t, show i / 16384 = 0 by omega]
  show lit0t1_0 i = _
  rw [lit0t1_0, show i / 128 % 128 = 29 by omega]
  rfl
theorem leaf30 (i : ℕ) (hi : i / 128 = 30) : lit0t i = pat i := by
  refine Eq.trans (b := lit0t0_30 i) ?_ (at_leaf (a := 30) lit0t0_30 (by decide +kernel) i hi)
  rw [lit0t, show i / 16384 = 0 by omega]
  show lit0t1_0 i = _
  rw [lit0t1_0, show i / 128 % 128 = 30 by omega]
  rfl
theorem leaf31 (i : ℕ) (hi : i / 128 = 31) : lit0t i = pat i := by
  refine Eq.trans (b := lit0t0_31 i) ?_ (at_leaf (a := 31) lit0t0_31 (by decide +kernel) i hi)
  rw [lit0t, show i / 16384 = 0 by omega]
  show lit0t1_0 i = _
  rw [lit0t1_0, show i / 128 % 128 = 31 by omega]
  rfl
theorem leaf32 (i : ℕ) (hi : i / 128 = 32) : lit0t i = pat i := by
  refine Eq.trans (b := lit0t0_32 i) ?_ (at_leaf (a := 32) lit0t0_32 (by decide +kernel) i hi)
  rw [lit0t, show i / 16384 = 0 by omega]
  show lit0t1_0 i = _
  rw [lit0t1_0, show i / 128 % 128 = 32 by omega]
  rfl
theorem leaf33 (i : ℕ) (hi : i / 128 = 33) : lit0t i = pat i := by
  refine Eq.trans (b := lit0t0_33 i) ?_ (at_leaf (a := 33) lit0t0_33 (by decide +kernel) i hi)
  rw [lit0t, show i / 16384 = 0 by omega]
  show lit0t1_0 i = _
  rw [lit0t1_0, show i / 128 % 128 = 33 by omega]
  rfl
theorem leaf34 (i : ℕ) (hi : i / 128 = 34) : lit0t i = pat i := by
  refine Eq.trans (b := lit0t0_34 i) ?_ (at_leaf (a := 34) lit0t0_34 (by decide +kernel) i hi)
  rw [lit0t, show i / 16384 = 0 by omega]
  show lit0t1_0 i = _
  rw [lit0t1_0, show i / 128 % 128 = 34 by omega]
  rfl
theorem leaf35 (i : ℕ) (hi : i / 128 = 35) : lit0t i = pat i := by
  refine Eq.trans (b := lit0t0_35 i) ?_ (at_leaf (a := 35) lit0t0_35 (by decide +kernel) i hi)
  rw [lit0t, show i / 16384 = 0 by omega]
  show lit0t1_0 i = _
  rw [lit0t1_0, show i / 128 % 128 = 35 by omega]
  rfl
theorem leaf36 (i : ℕ) (hi : i / 128 = 36) : lit0t i = pat i := by
  refine Eq.trans (b := lit0t0_36 i) ?_ (at_leaf (a := 36) lit0t0_36 (by decide +kernel) i hi)
  rw [lit0t, show i / 16384 = 0 by omega]
  show lit0t1_0 i = _
  rw [lit0t1_0, show i / 128 % 128 = 36 by omega]
  rfl
theorem leaf37 (i : ℕ) (hi : i / 128 = 37) : lit0t i = pat i := by
  refine Eq.trans (b := lit0t0_37 i) ?_ (at_leaf (a := 37) lit0t0_37 (by decide +kernel) i hi)
  rw [lit0t, show i / 16384 = 0 by omega]
  show lit0t1_0 i = _
  rw [lit0t1_0, show i / 128 % 128 = 37 by omega]
  rfl
theorem leaf38 (i : ℕ) (hi : i / 128 = 38) : lit0t i = pat i := by
  refine Eq.trans (b := lit0t0_38 i) ?_ (at_leaf (a := 38) lit0t0_38 (by decide +kernel) i hi)
  rw [lit0t, show i / 16384 = 0 by omega]
  show lit0t1_0 i = _
  rw [lit0t1_0, show i / 128 % 128 = 38 by omega]
  rfl
theorem leaf39 (i : ℕ) (hi : i / 128 = 39) : lit0t i = pat i := by
  refine Eq.trans (b := lit0t0_39 i) ?_ (at_leaf (a := 39) lit0t0_39 (by decide +kernel) i hi)
  rw [lit0t, show i / 16384 = 0 by omega]
  show lit0t1_0 i = _
  rw [lit0t1_0, show i / 128 % 128 = 39 by omega]
  rfl
theorem leaf40 (i : ℕ) (hi : i / 128 = 40) : lit0t i = pat i := by
  refine Eq.trans (b := lit0t0_40 i) ?_ (at_leaf (a := 40) lit0t0_40 (by decide +kernel) i hi)
  rw [lit0t, show i / 16384 = 0 by omega]
  show lit0t1_0 i = _
  rw [lit0t1_0, show i / 128 % 128 = 40 by omega]
  rfl
theorem leaf41 (i : ℕ) (hi : i / 128 = 41) : lit0t i = pat i := by
  refine Eq.trans (b := lit0t0_41 i) ?_ (at_leaf (a := 41) lit0t0_41 (by decide +kernel) i hi)
  rw [lit0t, show i / 16384 = 0 by omega]
  show lit0t1_0 i = _
  rw [lit0t1_0, show i / 128 % 128 = 41 by omega]
  rfl
theorem leaf42 (i : ℕ) (hi : i / 128 = 42) : lit0t i = pat i := by
  refine Eq.trans (b := lit0t0_42 i) ?_ (at_leaf (a := 42) lit0t0_42 (by decide +kernel) i hi)
  rw [lit0t, show i / 16384 = 0 by omega]
  show lit0t1_0 i = _
  rw [lit0t1_0, show i / 128 % 128 = 42 by omega]
  rfl
theorem leaf43 (i : ℕ) (hi : i / 128 = 43) : lit0t i = pat i := by
  refine Eq.trans (b := lit0t0_43 i) ?_ (at_leaf (a := 43) lit0t0_43 (by decide +kernel) i hi)
  rw [lit0t, show i / 16384 = 0 by omega]
  show lit0t1_0 i = _
  rw [lit0t1_0, show i / 128 % 128 = 43 by omega]
  rfl
theorem leaf44 (i : ℕ) (hi : i / 128 = 44) : lit0t i = pat i := by
  refine Eq.trans (b := lit0t0_44 i) ?_ (at_leaf (a := 44) lit0t0_44 (by decide +kernel) i hi)
  rw [lit0t, show i / 16384 = 0 by omega]
  show lit0t1_0 i = _
  rw [lit0t1_0, show i / 128 % 128 = 44 by omega]
  rfl
theorem leaf45 (i : ℕ) (hi : i / 128 = 45) : lit0t i = pat i := by
  refine Eq.trans (b := lit0t0_45 i) ?_ (at_leaf (a := 45) lit0t0_45 (by decide +kernel) i hi)
  rw [lit0t, show i / 16384 = 0 by omega]
  show lit0t1_0 i = _
  rw [lit0t1_0, show i / 128 % 128 = 45 by omega]
  rfl
theorem leaf46 (i : ℕ) (hi : i / 128 = 46) : lit0t i = pat i := by
  refine Eq.trans (b := lit0t0_46 i) ?_ (at_leaf (a := 46) lit0t0_46 (by decide +kernel) i hi)
  rw [lit0t, show i / 16384 = 0 by omega]
  show lit0t1_0 i = _
  rw [lit0t1_0, show i / 128 % 128 = 46 by omega]
  rfl
theorem leaf47 (i : ℕ) (hi : i / 128 = 47) : lit0t i = pat i := by
  refine Eq.trans (b := lit0t0_47 i) ?_ (at_leaf (a := 47) lit0t0_47 (by decide +kernel) i hi)
  rw [lit0t, show i / 16384 = 0 by omega]
  show lit0t1_0 i = _
  rw [lit0t1_0, show i / 128 % 128 = 47 by omega]
  rfl
theorem leaf48 (i : ℕ) (hi : i / 128 = 48) : lit0t i = pat i := by
  refine Eq.trans (b := lit0t0_48 i) ?_ (at_leaf (a := 48) lit0t0_48 (by decide +kernel) i hi)
  rw [lit0t, show i / 16384 = 0 by omega]
  show lit0t1_0 i = _
  rw [lit0t1_0, show i / 128 % 128 = 48 by omega]
  rfl
theorem leaf49 (i : ℕ) (hi : i / 128 = 49) : lit0t i = pat i := by
  refine Eq.trans (b := lit0t0_49 i) ?_ (at_leaf (a := 49) lit0t0_49 (by decide +kernel) i hi)
  rw [lit0t, show i / 16384 = 0 by omega]
  show lit0t1_0 i = _
  rw [lit0t1_0, show i / 128 % 128 = 49 by omega]
  rfl
theorem leaf50 (i : ℕ) (hi : i / 128 = 50) : lit0t i = pat i := by
  refine Eq.trans (b := lit0t0_50 i) ?_ (at_leaf (a := 50) lit0t0_50 (by decide +kernel) i hi)
  rw [lit0t, show i / 16384 = 0 by omega]
  show lit0t1_0 i = _
  rw [lit0t1_0, show i / 128 % 128 = 50 by omega]
  rfl
theorem leaf51 (i : ℕ) (hi : i / 128 = 51) : lit0t i = pat i := by
  refine Eq.trans (b := lit0t0_51 i) ?_ (at_leaf (a := 51) lit0t0_51 (by decide +kernel) i hi)
  rw [lit0t, show i / 16384 = 0 by omega]
  show lit0t1_0 i = _
  rw [lit0t1_0, show i / 128 % 128 = 51 by omega]
  rfl
theorem leaf52 (i : ℕ) (hi : i / 128 = 52) : lit0t i = pat i := by
  refine Eq.trans (b := lit0t0_52 i) ?_ (at_leaf (a := 52) lit0t0_52 (by decide +kernel) i hi)
  rw [lit0t, show i / 16384 = 0 by omega]
  show lit0t1_0 i = _
  rw [lit0t1_0, show i / 128 % 128 = 52 by omega]
  rfl
theorem leaf53 (i : ℕ) (hi : i / 128 = 53) : lit0t i = pat i := by
  refine Eq.trans (b := lit0t0_53 i) ?_ (at_leaf (a := 53) lit0t0_53 (by decide +kernel) i hi)
  rw [lit0t, show i / 16384 = 0 by omega]
  show lit0t1_0 i = _
  rw [lit0t1_0, show i / 128 % 128 = 53 by omega]
  rfl
theorem leaf54 (i : ℕ) (hi : i / 128 = 54) : lit0t i = pat i := by
  refine Eq.trans (b := lit0t0_54 i) ?_ (at_leaf (a := 54) lit0t0_54 (by decide +kernel) i hi)
  rw [lit0t, show i / 16384 = 0 by omega]
  show lit0t1_0 i = _
  rw [lit0t1_0, show i / 128 % 128 = 54 by omega]
  rfl
theorem leaf55 (i : ℕ) (hi : i / 128 = 55) : lit0t i = pat i := by
  refine Eq.trans (b := lit0t0_55 i) ?_ (at_leaf (a := 55) lit0t0_55 (by decide +kernel) i hi)
  rw [lit0t, show i / 16384 = 0 by omega]
  show lit0t1_0 i = _
  rw [lit0t1_0, show i / 128 % 128 = 55 by omega]
  rfl
theorem leaf56 (i : ℕ) (hi : i / 128 = 56) : lit0t i = pat i := by
  refine Eq.trans (b := lit0t0_56 i) ?_ (at_leaf (a := 56) lit0t0_56 (by decide +kernel) i hi)
  rw [lit0t, show i / 16384 = 0 by omega]
  show lit0t1_0 i = _
  rw [lit0t1_0, show i / 128 % 128 = 56 by omega]
  rfl
theorem leaf57 (i : ℕ) (hi : i / 128 = 57) : lit0t i = pat i := by
  refine Eq.trans (b := lit0t0_57 i) ?_ (at_leaf (a := 57) lit0t0_57 (by decide +kernel) i hi)
  rw [lit0t, show i / 16384 = 0 by omega]
  show lit0t1_0 i = _
  rw [lit0t1_0, show i / 128 % 128 = 57 by omega]
  rfl
theorem leaf58 (i : ℕ) (hi : i / 128 = 58) : lit0t i = pat i := by
  refine Eq.trans (b := lit0t0_58 i) ?_ (at_leaf (a := 58) lit0t0_58 (by decide +kernel) i hi)
  rw [lit0t, show i / 16384 = 0 by omega]
  show lit0t1_0 i = _
  rw [lit0t1_0, show i / 128 % 128 = 58 by omega]
  rfl
theorem leaf59 (i : ℕ) (hi : i / 128 = 59) : lit0t i = pat i := by
  refine Eq.trans (b := lit0t0_59 i) ?_ (at_leaf (a := 59) lit0t0_59 (by decide +kernel) i hi)
  rw [lit0t, show i / 16384 = 0 by omega]
  show lit0t1_0 i = _
  rw [lit0t1_0, show i / 128 % 128 = 59 by omega]
  rfl
theorem leaf60 (i : ℕ) (hi : i / 128 = 60) : lit0t i = pat i := by
  refine Eq.trans (b := lit0t0_60 i) ?_ (at_leaf (a := 60) lit0t0_60 (by decide +kernel) i hi)
  rw [lit0t, show i / 16384 = 0 by omega]
  show lit0t1_0 i = _
  rw [lit0t1_0, show i / 128 % 128 = 60 by omega]
  rfl
theorem leaf61 (i : ℕ) (hi : i / 128 = 61) : lit0t i = pat i := by
  refine Eq.trans (b := lit0t0_61 i) ?_ (at_leaf (a := 61) lit0t0_61 (by decide +kernel) i hi)
  rw [lit0t, show i / 16384 = 0 by omega]
  show lit0t1_0 i = _
  rw [lit0t1_0, show i / 128 % 128 = 61 by omega]
  rfl
theorem leaf62 (i : ℕ) (hi : i / 128 = 62) : lit0t i = pat i := by
  refine Eq.trans (b := lit0t0_62 i) ?_ (at_leaf (a := 62) lit0t0_62 (by decide +kernel) i hi)
  rw [lit0t, show i / 16384 = 0 by omega]
  show lit0t1_0 i = _
  rw [lit0t1_0, show i / 128 % 128 = 62 by omega]
  rfl
theorem leaf63 (i : ℕ) (hi : i / 128 = 63) : lit0t i = pat i := by
  refine Eq.trans (b := lit0t0_63 i) ?_ (at_leaf (a := 63) lit0t0_63 (by decide +kernel) i hi)
  rw [lit0t, show i / 16384 = 0 by omega]
  show lit0t1_0 i = _
  rw [lit0t1_0, show i / 128 % 128 = 63 by omega]
  rfl
theorem leaf64 (i : ℕ) (hi : i / 128 = 64) : lit0t i = pat i := by
  refine Eq.trans (b := lit0t0_64 i) ?_ (at_leaf (a := 64) lit0t0_64 (by decide +kernel) i hi)
  rw [lit0t, show i / 16384 = 0 by omega]
  show lit0t1_0 i = _
  rw [lit0t1_0, show i / 128 % 128 = 64 by omega]
  rfl
theorem leaf65 (i : ℕ) (hi : i / 128 = 65) : lit0t i = pat i := by
  refine Eq.trans (b := lit0t0_65 i) ?_ (at_leaf (a := 65) lit0t0_65 (by decide +kernel) i hi)
  rw [lit0t, show i / 16384 = 0 by omega]
  show lit0t1_0 i = _
  rw [lit0t1_0, show i / 128 % 128 = 65 by omega]
  rfl
theorem leaf66 (i : ℕ) (hi : i / 128 = 66) : lit0t i = pat i := by
  refine Eq.trans (b := lit0t0_66 i) ?_ (at_leaf (a := 66) lit0t0_66 (by decide +kernel) i hi)
  rw [lit0t, show i / 16384 = 0 by omega]
  show lit0t1_0 i = _
  rw [lit0t1_0, show i / 128 % 128 = 66 by omega]
  rfl
theorem leaf67 (i : ℕ) (hi : i / 128 = 67) : lit0t i = pat i := by
  refine Eq.trans (b := lit0t0_67 i) ?_ (at_leaf (a := 67) lit0t0_67 (by decide +kernel) i hi)
  rw [lit0t, show i / 16384 = 0 by omega]
  show lit0t1_0 i = _
  rw [lit0t1_0, show i / 128 % 128 = 67 by omega]
  rfl
theorem leaf68 (i : ℕ) (hi : i / 128 = 68) : lit0t i = pat i := by
  refine Eq.trans (b := lit0t0_68 i) ?_ (at_leaf (a := 68) lit0t0_68 (by decide +kernel) i hi)
  rw [lit0t, show i / 16384 = 0 by omega]
  show lit0t1_0 i = _
  rw [lit0t1_0, show i / 128 % 128 = 68 by omega]
  rfl
theorem leaf69 (i : ℕ) (hi : i / 128 = 69) : lit0t i = pat i := by
  refine Eq.trans (b := lit0t0_69 i) ?_ (at_leaf (a := 69) lit0t0_69 (by decide +kernel) i hi)
  rw [lit0t, show i / 16384 = 0 by omega]
  show lit0t1_0 i = _
  rw [lit0t1_0, show i / 128 % 128 = 69 by omega]
  rfl
theorem leaf70 (i : ℕ) (hi : i / 128 = 70) : lit0t i = pat i := by
  refine Eq.trans (b := lit0t0_70 i) ?_ (at_leaf (a := 70) lit0t0_70 (by decide +kernel) i hi)
  rw [lit0t, show i / 16384 = 0 by omega]
  show lit0t1_0 i = _
  rw [lit0t1_0, show i / 128 % 128 = 70 by omega]
  rfl
theorem leaf71 (i : ℕ) (hi : i / 128 = 71) : lit0t i = pat i := by
  refine Eq.trans (b := lit0t0_71 i) ?_ (at_leaf (a := 71) lit0t0_71 (by decide +kernel) i hi)
  rw [lit0t, show i / 16384 = 0 by omega]
  show lit0t1_0 i = _
  rw [lit0t1_0, show i / 128 % 128 = 71 by omega]
  rfl
theorem leaf72 (i : ℕ) (hi : i / 128 = 72) : lit0t i = pat i := by
  refine Eq.trans (b := lit0t0_72 i) ?_ (at_leaf (a := 72) lit0t0_72 (by decide +kernel) i hi)
  rw [lit0t, show i / 16384 = 0 by omega]
  show lit0t1_0 i = _
  rw [lit0t1_0, show i / 128 % 128 = 72 by omega]
  rfl
theorem leaf73 (i : ℕ) (hi : i / 128 = 73) : lit0t i = pat i := by
  refine Eq.trans (b := lit0t0_73 i) ?_ (at_leaf (a := 73) lit0t0_73 (by decide +kernel) i hi)
  rw [lit0t, show i / 16384 = 0 by omega]
  show lit0t1_0 i = _
  rw [lit0t1_0, show i / 128 % 128 = 73 by omega]
  rfl
theorem leaf74 (i : ℕ) (hi : i / 128 = 74) : lit0t i = pat i := by
  refine Eq.trans (b := lit0t0_74 i) ?_ (at_leaf (a := 74) lit0t0_74 (by decide +kernel) i hi)
  rw [lit0t, show i / 16384 = 0 by omega]
  show lit0t1_0 i = _
  rw [lit0t1_0, show i / 128 % 128 = 74 by omega]
  rfl

end Cert.KernelIdeal.Hand
end
-- ==== Proof.MatB.lean ====
module

public import proofs.«01_k».proof.Proof.Mat

@[expose] public section

-- a match of 128 arms is unfolded arm by arm
set_option maxRecDepth 100000

noncomputable section

namespace Cert.KernelIdeal.Hand

open Idealize.ShloMosaic Cert.KernelIdeal

/-! The literal's stretches of 128 entries, each against the formula. -/

theorem leaf75 (i : ℕ) (hi : i / 128 = 75) : lit0t i = pat i := by
  refine Eq.trans (b := lit0t0_75 i) ?_ (at_leaf (a := 75) lit0t0_75 (by decide +kernel) i hi)
  rw [lit0t, show i / 16384 = 0 by omega]
  show lit0t1_0 i = _
  rw [lit0t1_0, show i / 128 % 128 = 75 by omega]
  rfl
theorem leaf76 (i : ℕ) (hi : i / 128 = 76) : lit0t i = pat i := by
  refine Eq.trans (b := lit0t0_76 i) ?_ (at_leaf (a := 76) lit0t0_76 (by decide +kernel) i hi)
  rw [lit0t, show i / 16384 = 0 by omega]
  show lit0t1_0 i = _
  rw [lit0t1_0, show i / 128 % 128 = 76 by omega]
  rfl
theorem leaf77 (i : ℕ) (hi : i / 128 = 77) : lit0t i = pat i := by
  refine Eq.trans (b := lit0t0_77 i) ?_ (at_leaf (a := 77) lit0t0_77 (by decide +kernel) i hi)
  rw [lit0t, show i / 16384 = 0 by omega]
  show lit0t1_0 i = _
  rw [lit0t1_0, show i / 128 % 128 = 77 by omega]
  rfl
theorem leaf78 (i : ℕ) (hi : i / 128 = 78) : lit0t i = pat i := by
  refine Eq.trans (b := lit0t0_78 i) ?_ (at_leaf (a := 78) lit0t0_78 (by decide +kernel) i hi)
  rw [lit0t, show i / 16384 = 0 by omega]
  show lit0t1_0 i = _
  rw [lit0t1_0, show i / 128 % 128 = 78 by omega]
  rfl
theorem leaf79 (i : ℕ) (hi : i / 128 = 79) : lit0t i = pat i := by
  refine Eq.trans (b := lit0t0_79 i) ?_ (at_leaf (a := 79) lit0t0_79 (by decide +kernel) i hi)
  rw [lit0t, show i / 16384 = 0 by omega]
  show lit0t1_0 i = _
  rw [lit0t1_0, show i / 128 % 128 = 79 by omega]
  rfl
theorem leaf80 (i : ℕ) (hi : i / 128 = 80) : lit0t i = pat i := by
  refine Eq.trans (b := lit0t0_80 i) ?_ (at_leaf (a := 80) lit0t0_80 (by decide +kernel) i hi)
  rw [lit0t, show i / 16384 = 0 by omega]
  show lit0t1_0 i = _
  rw [lit0t1_0, show i / 128 % 128 = 80 by omega]
  rfl
theorem leaf81 (i : ℕ) (hi : i / 128 = 81) : lit0t i = pat i := by
  refine Eq.trans (b := lit0t0_81 i) ?_ (at_leaf (a := 81) lit0t0_81 (by decide +kernel) i hi)
  rw [lit0t, show i / 16384 = 0 by omega]
  show lit0t1_0 i = _
  rw [lit0t1_0, show i / 128 % 128 = 81 by omega]
  rfl
theorem leaf82 (i : ℕ) (hi : i / 128 = 82) : lit0t i = pat i := by
  refine Eq.trans (b := lit0t0_82 i) ?_ (at_leaf (a := 82) lit0t0_82 (by decide +kernel) i hi)
  rw [lit0t, show i / 16384 = 0 by omega]
  show lit0t1_0 i = _
  rw [lit0t1_0, show i / 128 % 128 = 82 by omega]
  rfl
theorem leaf83 (i : ℕ) (hi : i / 128 = 83) : lit0t i = pat i := by
  refine Eq.trans (b := lit0t0_83 i) ?_ (at_leaf (a := 83) lit0t0_83 (by decide +kernel) i hi)
  rw [lit0t, show i / 16384 = 0 by omega]
  show lit0t1_0 i = _
  rw [lit0t1_0, show i / 128 % 128 = 83 by omega]
  rfl
theorem leaf84 (i : ℕ) (hi : i / 128 = 84) : lit0t i = pat i := by
  refine Eq.trans (b := lit0t0_84 i) ?_ (at_leaf (a := 84) lit0t0_84 (by decide +kernel) i hi)
  rw [lit0t, show i / 16384 = 0 by omega]
  show lit0t1_0 i = _
  rw [lit0t1_0, show i / 128 % 128 = 84 by omega]
  rfl
theorem leaf85 (i : ℕ) (hi : i / 128 = 85) : lit0t i = pat i := by
  refine Eq.trans (b := lit0t0_85 i) ?_ (at_leaf (a := 85) lit0t0_85 (by decide +kernel) i hi)
  rw [lit0t, show i / 16384 = 0 by omega]
  show lit0t1_0 i = _
  rw [lit0t1_0, show i / 128 % 128 = 85 by omega]
  rfl
theorem leaf86 (i : ℕ) (hi : i / 128 = 86) : lit0t i = pat i := by
  refine Eq.trans (b := lit0t0_86 i) ?_ (at_leaf (a := 86) lit0t0_86 (by decide +kernel) i hi)
  rw [lit0t, show i / 16384 = 0 by omega]
  show lit0t1_0 i = _
  rw [lit0t1_0, show i / 128 % 128 = 86 by omega]
  rfl
theorem leaf87 (i : ℕ) (hi : i / 128 = 87) : lit0t i = pat i := by
  refine Eq.trans (b := lit0t0_87 i) ?_ (at_leaf (a := 87) lit0t0_87 (by decide +kernel) i hi)
  rw [lit0t, show i / 16384 = 0 by omega]
  show lit0t1_0 i = _
  rw [lit0t1_0, show i / 128 % 128 = 87 by omega]
  rfl
theorem leaf88 (i : ℕ) (hi : i / 128 = 88) : lit0t i = pat i := by
  refine Eq.trans (b := lit0t0_88 i) ?_ (at_leaf (a := 88) lit0t0_88 (by decide +kernel) i hi)
  rw [lit0t, show i / 16384 = 0 by omega]
  show lit0t1_0 i = _
  rw [lit0t1_0, show i / 128 % 128 = 88 by omega]
  rfl
theorem leaf89 (i : ℕ) (hi : i / 128 = 89) : lit0t i = pat i := by
  refine Eq.trans (b := lit0t0_89 i) ?_ (at_leaf (a := 89) lit0t0_89 (by decide +kernel) i hi)
  rw [lit0t, show i / 16384 = 0 by omega]
  show lit0t1_0 i = _
  rw [lit0t1_0, show i / 128 % 128 = 89 by omega]
  rfl
theorem leaf90 (i : ℕ) (hi : i / 128 = 90) : lit0t i = pat i := by
  refine Eq.trans (b := lit0t0_90 i) ?_ (at_leaf (a := 90) lit0t0_90 (by decide +kernel) i hi)
  rw [lit0t, show i / 16384 = 0 by omega]
  show lit0t1_0 i = _
  rw [lit0t1_0, show i / 128 % 128 = 90 by omega]
  rfl
theorem leaf91 (i : ℕ) (hi : i / 128 = 91) : lit0t i = pat i := by
  refine Eq.trans (b := lit0t0_91 i) ?_ (at_leaf (a := 91) lit0t0_91 (by decide +kernel) i hi)
  rw [lit0t, show i / 16384 = 0 by omega]
  show lit0t1_0 i = _
  rw [lit0t1_0, show i / 128 % 128 = 91 by omega]
  rfl
theorem leaf92 (i : ℕ) (hi : i / 128 = 92) : lit0t i = pat i := by
  refine Eq.trans (b := lit0t0_92 i) ?_ (at_leaf (a := 92) lit0t0_92 (by decide +kernel) i hi)
  rw [lit0t, show i / 16384 = 0 by omega]
  show lit0t1_0 i = _
  rw [lit0t1_0, show i / 128 % 128 = 92 by omega]
  rfl
theorem leaf93 (i : ℕ) (hi : i / 128 = 93) : lit0t i = pat i := by
  refine Eq.trans (b := lit0t0_93 i) ?_ (at_leaf (a := 93) lit0t0_93 (by decide +kernel) i hi)
  rw [lit0t, show i / 16384 = 0 by omega]
  show lit0t1_0 i = _
  rw [lit0t1_0, show i / 128 % 128 = 93 by omega]
  rfl
theorem leaf94 (i : ℕ) (hi : i / 128 = 94) : lit0t i = pat i := by
  refine Eq.trans (b := lit0t0_94 i) ?_ (at_leaf (a := 94) lit0t0_94 (by decide +kernel) i hi)
  rw [lit0t, show i / 16384 = 0 by omega]
  show lit0t1_0 i = _
  rw [lit0t1_0, show i / 128 % 128 = 94 by omega]
  rfl
theorem leaf95 (i : ℕ) (hi : i / 128 = 95) : lit0t i = pat i := by
  refine Eq.trans (b := lit0t0_95 i) ?_ (at_leaf (a := 95) lit0t0_95 (by decide +kernel) i hi)
  rw [lit0t, show i / 16384 = 0 by omega]
  show lit0t1_0 i = _
  rw [lit0t1_0, show i / 128 % 128 = 95 by omega]
  rfl
theorem leaf96 (i : ℕ) (hi : i / 128 = 96) : lit0t i = pat i := by
  refine Eq.trans (b := lit0t0_96 i) ?_ (at_leaf (a := 96) lit0t0_96 (by decide +kernel) i hi)
  rw [lit0t, show i / 16384 = 0 by omega]
  show lit0t1_0 i = _
  rw [lit0t1_0, show i / 128 % 128 = 96 by omega]
  rfl
theorem leaf97 (i : ℕ) (hi : i / 128 = 97) : lit0t i = pat i := by
  refine Eq.trans (b := lit0t0_97 i) ?_ (at_leaf (a := 97) lit0t0_97 (by decide +kernel) i hi)
  rw [lit0t, show i / 16384 = 0 by omega]
  show lit0t1_0 i = _
  rw [lit0t1_0, show i / 128 % 128 = 97 by omega]
  rfl
theorem leaf98 (i : ℕ) (hi : i / 128 = 98) : lit0t i = pat i := by
  refine Eq.trans (b := lit0t0_98 i) ?_ (at_leaf (a := 98) lit0t0_98 (by decide +kernel) i hi)
  rw [lit0t, show i / 16384 = 0 by omega]
  show lit0t1_0 i = _
  rw [lit0t1_0, show i / 128 % 128 = 98 by omega]
  rfl
theorem leaf99 (i : ℕ) (hi : i / 128 = 99) : lit0t i = pat i := by
  refine Eq.trans (b := lit0t0_99 i) ?_ (at_leaf (a := 99) lit0t0_99 (by decide +kernel) i hi)
  rw [lit0t, show i / 16384 = 0 by omega]
  show lit0t1_0 i = _
  rw [lit0t1_0, show i / 128 % 128 = 99 by omega]
  rfl
theorem leaf100 (i : ℕ) (hi : i / 128 = 100) : lit0t i = pat i := by
  refine Eq.trans (b := lit0t0_100 i) ?_ (at_leaf (a := 100) lit0t0_100 (by decide +kernel) i hi)
  rw [lit0t, show i / 16384 = 0 by omega]
  show lit0t1_0 i = _
  rw [lit0t1_0, show i / 128 % 128 = 100 by omega]
  rfl
theorem leaf101 (i : ℕ) (hi : i / 128 = 101) : lit0t i = pat i := by
  refine Eq.trans (b := lit0t0_101 i) ?_ (at_leaf (a := 101) lit0t0_101 (by decide +kernel) i hi)
  rw [lit0t, show i / 16384 = 0 by omega]
  show lit0t1_0 i = _
  rw [lit0t1_0, show i / 128 % 128 = 101 by omega]
  rfl
theorem leaf102 (i : ℕ) (hi : i / 128 = 102) : lit0t i = pat i := by
  refine Eq.trans (b := lit0t0_102 i) ?_ (at_leaf (a := 102) lit0t0_102 (by decide +kernel) i hi)
  rw [lit0t, show i / 16384 = 0 by omega]
  show lit0t1_0 i = _
  rw [lit0t1_0, show i / 128 % 128 = 102 by omega]
  rfl
theorem leaf103 (i : ℕ) (hi : i / 128 = 103) : lit0t i = pat i := by
  refine Eq.trans (b := lit0t0_103 i) ?_ (at_leaf (a := 103) lit0t0_103 (by decide +kernel) i hi)
  rw [lit0t, show i / 16384 = 0 by omega]
  show lit0t1_0 i = _
  rw [lit0t1_0, show i / 128 % 128 = 103 by omega]
  rfl
theorem leaf104 (i : ℕ) (hi : i / 128 = 104) : lit0t i = pat i := by
  refine Eq.trans (b := lit0t0_104 i) ?_ (at_leaf (a := 104) lit0t0_104 (by decide +kernel) i hi)
  rw [lit0t, show i / 16384 = 0 by omega]
  show lit0t1_0 i = _
  rw [lit0t1_0, show i / 128 % 128 = 104 by omega]
  rfl
theorem leaf105 (i : ℕ) (hi : i / 128 = 105) : lit0t i = pat i := by
  refine Eq.trans (b := lit0t0_105 i) ?_ (at_leaf (a := 105) lit0t0_105 (by decide +kernel) i hi)
  rw [lit0t, show i / 16384 = 0 by omega]
  show lit0t1_0 i = _
  rw [lit0t1_0, show i / 128 % 128 = 105 by omega]
  rfl
theorem leaf106 (i : ℕ) (hi : i / 128 = 106) : lit0t i = pat i := by
  refine Eq.trans (b := lit0t0_106 i) ?_ (at_leaf (a := 106) lit0t0_106 (by decide +kernel) i hi)
  rw [lit0t, show i / 16384 = 0 by omega]
  show lit0t1_0 i = _
  rw [lit0t1_0, show i / 128 % 128 = 106 by omega]
  rfl
theorem leaf107 (i : ℕ) (hi : i / 128 = 107) : lit0t i = pat i := by
  refine Eq.trans (b := lit0t0_107 i) ?_ (at_leaf (a := 107) lit0t0_107 (by decide +kernel) i hi)
  rw [lit0t, show i / 16384 = 0 by omega]
  show lit0t1_0 i = _
  rw [lit0t1_0, show i / 128 % 128 = 107 by omega]
  rfl
theorem leaf108 (i : ℕ) (hi : i / 128 = 108) : lit0t i = pat i := by
  refine Eq.trans (b := lit0t0_108 i) ?_ (at_leaf (a := 108) lit0t0_108 (by decide +kernel) i hi)
  rw [lit0t, show i / 16384 = 0 by omega]
  show lit0t1_0 i = _
  rw [lit0t1_0, show i / 128 % 128 = 108 by omega]
  rfl
theorem leaf109 (i : ℕ) (hi : i / 128 = 109) : lit0t i = pat i := by
  refine Eq.trans (b := lit0t0_109 i) ?_ (at_leaf (a := 109) lit0t0_109 (by decide +kernel) i hi)
  rw [lit0t, show i / 16384 = 0 by omega]
  show lit0t1_0 i = _
  rw [lit0t1_0, show i / 128 % 128 = 109 by omega]
  rfl
theorem leaf110 (i : ℕ) (hi : i / 128 = 110) : lit0t i = pat i := by
  refine Eq.trans (b := lit0t0_110 i) ?_ (at_leaf (a := 110) lit0t0_110 (by decide +kernel) i hi)
  rw [lit0t, show i / 16384 = 0 by omega]
  show lit0t1_0 i = _
  rw [lit0t1_0, show i / 128 % 128 = 110 by omega]
  rfl
theorem leaf111 (i : ℕ) (hi : i / 128 = 111) : lit0t i = pat i := by
  refine Eq.trans (b := lit0t0_111 i) ?_ (at_leaf (a := 111) lit0t0_111 (by decide +kernel) i hi)
  rw [lit0t, show i / 16384 = 0 by omega]
  show lit0t1_0 i = _
  rw [lit0t1_0, show i / 128 % 128 = 111 by omega]
  rfl
theorem leaf112 (i : ℕ) (hi : i / 128 = 112) : lit0t i = pat i := by
  refine Eq.trans (b := lit0t0_112 i) ?_ (at_leaf (a := 112) lit0t0_112 (by decide +kernel) i hi)
  rw [lit0t, show i / 16384 = 0 by omega]
  show lit0t1_0 i = _
  rw [lit0t1_0, show i / 128 % 128 = 112 by omega]
  rfl
theorem leaf113 (i : ℕ) (hi : i / 128 = 113) : lit0t i = pat i := by
  refine Eq.trans (b := lit0t0_113 i) ?_ (at_leaf (a := 113) lit0t0_113 (by decide +kernel) i hi)
  rw [lit0t, show i / 16384 = 0 by omega]
  show lit0t1_0 i = _
  rw [lit0t1_0, show i / 128 % 128 = 113 by omega]
  rfl
theorem leaf114 (i : ℕ) (hi : i / 128 = 114) : lit0t i = pat i := by
  refine Eq.trans (b := lit0t0_114 i) ?_ (at_leaf (a := 114) lit0t0_114 (by decide +kernel) i hi)
  rw [lit0t, show i / 16384 = 0 by omega]
  show lit0t1_0 i = _
  rw [lit0t1_0, show i / 128 % 128 = 114 by omega]
  rfl
theorem leaf115 (i : ℕ) (hi : i / 128 = 115) : lit0t i = pat i := by
  refine Eq.trans (b := lit0t0_115 i) ?_ (at_leaf (a := 115) lit0t0_115 (by decide +kernel) i hi)
  rw [lit0t, show i / 16384 = 0 by omega]
  show lit0t1_0 i = _
  rw [lit0t1_0, show i / 128 % 128 = 115 by omega]
  rfl
theorem leaf116 (i : ℕ) (hi : i / 128 = 116) : lit0t i = pat i := by
  refine Eq.trans (b := lit0t0_116 i) ?_ (at_leaf (a := 116) lit0t0_116 (by decide +kernel) i hi)
  rw [lit0t, show i / 16384 = 0 by omega]
  show lit0t1_0 i = _
  rw [lit0t1_0, show i / 128 % 128 = 116 by omega]
  rfl
theorem leaf117 (i : ℕ) (hi : i / 128 = 117) : lit0t i = pat i := by
  refine Eq.trans (b := lit0t0_117 i) ?_ (at_leaf (a := 117) lit0t0_117 (by decide +kernel) i hi)
  rw [lit0t, show i / 16384 = 0 by omega]
  show lit0t1_0 i = _
  rw [lit0t1_0, show i / 128 % 128 = 117 by omega]
  rfl
theorem leaf118 (i : ℕ) (hi : i / 128 = 118) : lit0t i = pat i := by
  refine Eq.trans (b := lit0t0_118 i) ?_ (at_leaf (a := 118) lit0t0_118 (by decide +kernel) i hi)
  rw [lit0t, show i / 16384 = 0 by omega]
  show lit0t1_0 i = _
  rw [lit0t1_0, show i / 128 % 128 = 118 by omega]
  rfl
theorem leaf119 (i : ℕ) (hi : i / 128 = 119) : lit0t i = pat i := by
  refine Eq.trans (b := lit0t0_119 i) ?_ (at_leaf (a := 119) lit0t0_119 (by decide +kernel) i hi)
  rw [lit0t, show i / 16384 = 0 by omega]
  show lit0t1_0 i = _
  rw [lit0t1_0, show i / 128 % 128 = 119 by omega]
  rfl
theorem leaf120 (i : ℕ) (hi : i / 128 = 120) : lit0t i = pat i := by
  refine Eq.trans (b := lit0t0_120 i) ?_ (at_leaf (a := 120) lit0t0_120 (by decide +kernel) i hi)
  rw [lit0t, show i / 16384 = 0 by omega]
  show lit0t1_0 i = _
  rw [lit0t1_0, show i / 128 % 128 = 120 by omega]
  rfl
theorem leaf121 (i : ℕ) (hi : i / 128 = 121) : lit0t i = pat i := by
  refine Eq.trans (b := lit0t0_121 i) ?_ (at_leaf (a := 121) lit0t0_121 (by decide +kernel) i hi)
  rw [lit0t, show i / 16384 = 0 by omega]
  show lit0t1_0 i = _
  rw [lit0t1_0, show i / 128 % 128 = 121 by omega]
  rfl
theorem leaf122 (i : ℕ) (hi : i / 128 = 122) : lit0t i = pat i := by
  refine Eq.trans (b := lit0t0_122 i) ?_ (at_leaf (a := 122) lit0t0_122 (by decide +kernel) i hi)
  rw [lit0t, show i / 16384 = 0 by omega]
  show lit0t1_0 i = _
  rw [lit0t1_0, show i / 128 % 128 = 122 by omega]
  rfl
theorem leaf123 (i : ℕ) (hi : i / 128 = 123) : lit0t i = pat i := by
  refine Eq.trans (b := lit0t0_123 i) ?_ (at_leaf (a := 123) lit0t0_123 (by decide +kernel) i hi)
  rw [lit0t, show i / 16384 = 0 by omega]
  show lit0t1_0 i = _
  rw [lit0t1_0, show i / 128 % 128 = 123 by omega]
  rfl
theorem leaf124 (i : ℕ) (hi : i / 128 = 124) : lit0t i = pat i := by
  refine Eq.trans (b := lit0t0_124 i) ?_ (at_leaf (a := 124) lit0t0_124 (by decide +kernel) i hi)
  rw [lit0t, show i / 16384 = 0 by omega]
  show lit0t1_0 i = _
  rw [lit0t1_0, show i / 128 % 128 = 124 by omega]
  rfl
theorem leaf125 (i : ℕ) (hi : i / 128 = 125) : lit0t i = pat i := by
  refine Eq.trans (b := lit0t0_125 i) ?_ (at_leaf (a := 125) lit0t0_125 (by decide +kernel) i hi)
  rw [lit0t, show i / 16384 = 0 by omega]
  show lit0t1_0 i = _
  rw [lit0t1_0, show i / 128 % 128 = 125 by omega]
  rfl
theorem leaf126 (i : ℕ) (hi : i / 128 = 126) : lit0t i = pat i := by
  refine Eq.trans (b := lit0t0_126 i) ?_ (at_leaf (a := 126) lit0t0_126 (by decide +kernel) i hi)
  rw [lit0t, show i / 16384 = 0 by omega]
  show lit0t1_0 i = _
  rw [lit0t1_0, show i / 128 % 128 = 126 by omega]
  rfl
theorem leaf127 (i : ℕ) (hi : i / 128 = 127) : lit0t i = pat i := by
  refine Eq.trans (b := lit0t0_127 i) ?_ (at_leaf (a := 127) lit0t0_127 (by decide +kernel) i hi)
  rw [lit0t, show i / 16384 = 0 by omega]
  show lit0t1_0 i = _
  rw [lit0t1_0, show i / 128 % 128 = 127 by omega]
  rfl
theorem leaf128 (i : ℕ) (hi : i / 128 = 128) : lit0t i = pat i := by
  refine Eq.trans (b := lit0t0_128 i) ?_ (at_leaf (a := 128) lit0t0_128 (by decide +kernel) i hi)
  rw [lit0t, show i / 16384 = 1 by omega]
  show lit0t1_1 i = _
  rw [lit0t1_1, show i / 128 % 128 = 0 by omega]
  rfl
theorem leaf129 (i : ℕ) (hi : i / 128 = 129) : lit0t i = pat i := by
  refine Eq.trans (b := lit0t0_129 i) ?_ (at_leaf (a := 129) lit0t0_129 (by decide +kernel) i hi)
  rw [lit0t, show i / 16384 = 1 by omega]
  show lit0t1_1 i = _
  rw [lit0t1_1, show i / 128 % 128 = 1 by omega]
  rfl
theorem leaf130 (i : ℕ) (hi : i / 128 = 130) : lit0t i = pat i := by
  refine Eq.trans (b := lit0t0_130 i) ?_ (at_leaf (a := 130) lit0t0_130 (by decide +kernel) i hi)
  rw [lit0t, show i / 16384 = 1 by omega]
  show lit0t1_1 i = _
  rw [lit0t1_1, show i / 128 % 128 = 2 by omega]
  rfl
theorem leaf131 (i : ℕ) (hi : i / 128 = 131) : lit0t i = pat i := by
  refine Eq.trans (b := lit0t0_131 i) ?_ (at_leaf (a := 131) lit0t0_131 (by decide +kernel) i hi)
  rw [lit0t, show i / 16384 = 1 by omega]
  show lit0t1_1 i = _
  rw [lit0t1_1, show i / 128 % 128 = 3 by omega]
  rfl
theorem leaf132 (i : ℕ) (hi : i / 128 = 132) : lit0t i = pat i := by
  refine Eq.trans (b := lit0t0_132 i) ?_ (at_leaf (a := 132) lit0t0_132 (by decide +kernel) i hi)
  rw [lit0t, show i / 16384 = 1 by omega]
  show lit0t1_1 i = _
  rw [lit0t1_1, show i / 128 % 128 = 4 by omega]
  rfl
theorem leaf133 (i : ℕ) (hi : i / 128 = 133) : lit0t i = pat i := by
  refine Eq.trans (b := lit0t0_133 i) ?_ (at_leaf (a := 133) lit0t0_133 (by decide +kernel) i hi)
  rw [lit0t, show i / 16384 = 1 by omega]
  show lit0t1_1 i = _
  rw [lit0t1_1, show i / 128 % 128 = 5 by omega]
  rfl
theorem leaf134 (i : ℕ) (hi : i / 128 = 134) : lit0t i = pat i := by
  refine Eq.trans (b := lit0t0_134 i) ?_ (at_leaf (a := 134) lit0t0_134 (by decide +kernel) i hi)
  rw [lit0t, show i / 16384 = 1 by omega]
  show lit0t1_1 i = _
  rw [lit0t1_1, show i / 128 % 128 = 6 by omega]
  rfl
theorem leaf135 (i : ℕ) (hi : i / 128 = 135) : lit0t i = pat i := by
  refine Eq.trans (b := lit0t0_135 i) ?_ (at_leaf (a := 135) lit0t0_135 (by decide +kernel) i hi)
  rw [lit0t, show i / 16384 = 1 by omega]
  show lit0t1_1 i = _
  rw [lit0t1_1, show i / 128 % 128 = 7 by omega]
  rfl
theorem leaf136 (i : ℕ) (hi : i / 128 = 136) : lit0t i = pat i := by
  refine Eq.trans (b := lit0t0_136 i) ?_ (at_leaf (a := 136) lit0t0_136 (by decide +kernel) i hi)
  rw [lit0t, show i / 16384 = 1 by omega]
  show lit0t1_1 i = _
  rw [lit0t1_1, show i / 128 % 128 = 8 by omega]
  rfl
theorem leaf137 (i : ℕ) (hi : i / 128 = 137) : lit0t i = pat i := by
  refine Eq.trans (b := lit0t0_137 i) ?_ (at_leaf (a := 137) lit0t0_137 (by decide +kernel) i hi)
  rw [lit0t, show i / 16384 = 1 by omega]
  show lit0t1_1 i = _
  rw [lit0t1_1, show i / 128 % 128 = 9 by omega]
  rfl
theorem leaf138 (i : ℕ) (hi : i / 128 = 138) : lit0t i = pat i := by
  refine Eq.trans (b := lit0t0_138 i) ?_ (at_leaf (a := 138) lit0t0_138 (by decide +kernel) i hi)
  rw [lit0t, show i / 16384 = 1 by omega]
  show lit0t1_1 i = _
  rw [lit0t1_1, show i / 128 % 128 = 10 by omega]
  rfl
theorem leaf139 (i : ℕ) (hi : i / 128 = 139) : lit0t i = pat i := by
  refine Eq.trans (b := lit0t0_139 i) ?_ (at_leaf (a := 139) lit0t0_139 (by decide +kernel) i hi)
  rw [lit0t, show i / 16384 = 1 by omega]
  show lit0t1_1 i = _
  rw [lit0t1_1, show i / 128 % 128 = 11 by omega]
  rfl
theorem leaf140 (i : ℕ) (hi : i / 128 = 140) : lit0t i = pat i := by
  refine Eq.trans (b := lit0t0_140 i) ?_ (at_leaf (a := 140) lit0t0_140 (by decide +kernel) i hi)
  rw [lit0t, show i / 16384 = 1 by omega]
  show lit0t1_1 i = _
  rw [lit0t1_1, show i / 128 % 128 = 12 by omega]
  rfl
theorem leaf141 (i : ℕ) (hi : i / 128 = 141) : lit0t i = pat i := by
  refine Eq.trans (b := lit0t0_141 i) ?_ (at_leaf (a := 141) lit0t0_141 (by decide +kernel) i hi)
  rw [lit0t, show i / 16384 = 1 by omega]
  show lit0t1_1 i = _
  rw [lit0t1_1, show i / 128 % 128 = 13 by omega]
  rfl
theorem leaf142 (i : ℕ) (hi : i / 128 = 142) : lit0t i = pat i := by
  refine Eq.trans (b := lit0t0_142 i) ?_ (at_leaf (a := 142) lit0t0_142 (by decide +kernel) i hi)
  rw [lit0t, show i / 16384 = 1 by omega]
  show lit0t1_1 i = _
  rw [lit0t1_1, show i / 128 % 128 = 14 by omega]
  rfl
theorem leaf143 (i : ℕ) (hi : i / 128 = 143) : lit0t i = pat i := by
  refine Eq.trans (b := lit0t0_143 i) ?_ (at_leaf (a := 143) lit0t0_143 (by decide +kernel) i hi)
  rw [lit0t, show i / 16384 = 1 by omega]
  show lit0t1_1 i = _
  rw [lit0t1_1, show i / 128 % 128 = 15 by omega]
  rfl
theorem leaf144 (i : ℕ) (hi : i / 128 = 144) : lit0t i = pat i := by
  refine Eq.trans (b := lit0t0_144 i) ?_ (at_leaf (a := 144) lit0t0_144 (by decide +kernel) i hi)
  rw [lit0t, show i / 16384 = 1 by omega]
  show lit0t1_1 i = _
  rw [lit0t1_1, show i / 128 % 128 = 16 by omega]
  rfl
theorem leaf145 (i : ℕ) (hi : i / 128 = 145) : lit0t i = pat i := by
  refine Eq.trans (b := lit0t0_145 i) ?_ (at_leaf (a := 145) lit0t0_145 (by decide +kernel) i hi)
  rw [lit0t, show i / 16384 = 1 by omega]
  show lit0t1_1 i = _
  rw [lit0t1_1, show i / 128 % 128 = 17 by omega]
  rfl
theorem leaf146 (i : ℕ) (hi : i / 128 = 146) : lit0t i = pat i := by
  refine Eq.trans (b := lit0t0_146 i) ?_ (at_leaf (a := 146) lit0t0_146 (by decide +kernel) i hi)
  rw [lit0t, show i / 16384 = 1 by omega]
  show lit0t1_1 i = _
  rw [lit0t1_1, show i / 128 % 128 = 18 by omega]
  rfl
theorem leaf147 (i : ℕ) (hi : i / 128 = 147) : lit0t i = pat i := by
  refine Eq.trans (b := lit0t0_147 i) ?_ (at_leaf (a := 147) lit0t0_147 (by decide +kernel) i hi)
  rw [lit0t, show i / 16384 = 1 by omega]
  show lit0t1_1 i = _
  rw [lit0t1_1, show i / 128 % 128 = 19 by omega]
  rfl
theorem leaf148 (i : ℕ) (hi : i / 128 = 148) : lit0t i = pat i := by
  refine Eq.trans (b := lit0t0_148 i) ?_ (at_leaf (a := 148) lit0t0_148 (by decide +kernel) i hi)
  rw [lit0t, show i / 16384 = 1 by omega]
  show lit0t1_1 i = _
  rw [lit0t1_1, show i / 128 % 128 = 20 by omega]
  rfl
theorem leaf149 (i : ℕ) (hi : i / 128 = 149) : lit0t i = pat i := by
  refine Eq.trans (b := lit0t0_149 i) ?_ (at_leaf (a := 149) lit0t0_149 (by decide +kernel) i hi)
  rw [lit0t, show i / 16384 = 1 by omega]
  show lit0t1_1 i = _
  rw [lit0t1_1, show i / 128 % 128 = 21 by omega]
  rfl

end Cert.KernelIdeal.Hand
end
-- ==== Proof.MatC.lean ====
module

public import proofs.«01_k».proof.Proof.Mat

@[expose] public section

-- a match of 128 arms is unfolded arm by arm
set_option maxRecDepth 100000

noncomputable section

namespace Cert.KernelIdeal.Hand

open Idealize.ShloMosaic Cert.KernelIdeal

/-! The literal's stretches of 128 entries, each against the formula. -/

theorem leaf150 (i : ℕ) (hi : i / 128 = 150) : lit0t i = pat i := by
  refine Eq.trans (b := lit0t0_150 i) ?_ (at_leaf (a := 150) lit0t0_150 (by decide +kernel) i hi)
  rw [lit0t, show i / 16384 = 1 by omega]
  show lit0t1_1 i = _
  rw [lit0t1_1, show i / 128 % 128 = 22 by omega]
  rfl
theorem leaf151 (i : ℕ) (hi : i / 128 = 151) : lit0t i = pat i := by
  refine Eq.trans (b := lit0t0_151 i) ?_ (at_leaf (a := 151) lit0t0_151 (by decide +kernel) i hi)
  rw [lit0t, show i / 16384 = 1 by omega]
  show lit0t1_1 i = _
  rw [lit0t1_1, show i / 128 % 128 = 23 by omega]
  rfl
theorem leaf152 (i : ℕ) (hi : i / 128 = 152) : lit0t i = pat i := by
  refine Eq.trans (b := lit0t0_152 i) ?_ (at_leaf (a := 152) lit0t0_152 (by decide +kernel) i hi)
  rw [lit0t, show i / 16384 = 1 by omega]
  show lit0t1_1 i = _
  rw [lit0t1_1, show i / 128 % 128 = 24 by omega]
  rfl
theorem leaf153 (i : ℕ) (hi : i / 128 = 153) : lit0t i = pat i := by
  refine Eq.trans (b := lit0t0_153 i) ?_ (at_leaf (a := 153) lit0t0_153 (by decide +kernel) i hi)
  rw [lit0t, show i / 16384 = 1 by omega]
  show lit0t1_1 i = _
  rw [lit0t1_1, show i / 128 % 128 = 25 by omega]
  rfl
theorem leaf154 (i : ℕ) (hi : i / 128 = 154) : lit0t i = pat i := by
  refine Eq.trans (b := lit0t0_154 i) ?_ (at_leaf (a := 154) lit0t0_154 (by decide +kernel) i hi)
  rw [lit0t, show i / 16384 = 1 by omega]
  show lit0t1_1 i = _
  rw [lit0t1_1, show i / 128 % 128 = 26 by omega]
  rfl
theorem leaf155 (i : ℕ) (hi : i / 128 = 155) : lit0t i = pat i := by
  refine Eq.trans (b := lit0t0_155 i) ?_ (at_leaf (a := 155) lit0t0_155 (by decide +kernel) i hi)
  rw [lit0t, show i / 16384 = 1 by omega]
  show lit0t1_1 i = _
  rw [lit0t1_1, show i / 128 % 128 = 27 by omega]
  rfl
theorem leaf156 (i : ℕ) (hi : i / 128 = 156) : lit0t i = pat i := by
  refine Eq.trans (b := lit0t0_156 i) ?_ (at_leaf (a := 156) lit0t0_156 (by decide +kernel) i hi)
  rw [lit0t, show i / 16384 = 1 by omega]
  show lit0t1_1 i = _
  rw [lit0t1_1, show i / 128 % 128 = 28 by omega]
  rfl
theorem leaf157 (i : ℕ) (hi : i / 128 = 157) : lit0t i = pat i := by
  refine Eq.trans (b := lit0t0_157 i) ?_ (at_leaf (a := 157) lit0t0_157 (by decide +kernel) i hi)
  rw [lit0t, show i / 16384 = 1 by omega]
  show lit0t1_1 i = _
  rw [lit0t1_1, show i / 128 % 128 = 29 by omega]
  rfl
theorem leaf158 (i : ℕ) (hi : i / 128 = 158) : lit0t i = pat i := by
  refine Eq.trans (b := lit0t0_158 i) ?_ (at_leaf (a := 158) lit0t0_158 (by decide +kernel) i hi)
  rw [lit0t, show i / 16384 = 1 by omega]
  show lit0t1_1 i = _
  rw [lit0t1_1, show i / 128 % 128 = 30 by omega]
  rfl
theorem leaf159 (i : ℕ) (hi : i / 128 = 159) : lit0t i = pat i := by
  refine Eq.trans (b := lit0t0_159 i) ?_ (at_leaf (a := 159) lit0t0_159 (by decide +kernel) i hi)
  rw [lit0t, show i / 16384 = 1 by omega]
  show lit0t1_1 i = _
  rw [lit0t1_1, show i / 128 % 128 = 31 by omega]
  rfl
theorem leaf160 (i : ℕ) (hi : i / 128 = 160) : lit0t i = pat i := by
  refine Eq.trans (b := lit0t0_160 i) ?_ (at_leaf (a := 160) lit0t0_160 (by decide +kernel) i hi)
  rw [lit0t, show i / 16384 = 1 by omega]
  show lit0t1_1 i = _
  rw [lit0t1_1, show i / 128 % 128 = 32 by omega]
  rfl
theorem leaf161 (i : ℕ) (hi : i / 128 = 161) : lit0t i = pat i := by
  refine Eq.trans (b := lit0t0_161 i) ?_ (at_leaf (a := 161) lit0t0_161 (by decide +kernel) i hi)
  rw [lit0t, show i / 16384 = 1 by omega]
  show lit0t1_1 i = _
  rw [lit0t1_1, show i / 128 % 128 = 33 by omega]
  rfl
theorem leaf162 (i : ℕ) (hi : i / 128 = 162) : lit0t i = pat i := by
  refine Eq.trans (b := lit0t0_162 i) ?_ (at_leaf (a := 162) lit0t0_162 (by decide +kernel) i hi)
  rw [lit0t, show i / 16384 = 1 by omega]
  show lit0t1_1 i = _
  rw [lit0t1_1, show i / 128 % 128 = 34 by omega]
  rfl
theorem leaf163 (i : ℕ) (hi : i / 128 = 163) : lit0t i = pat i := by
  refine Eq.trans (b := lit0t0_163 i) ?_ (at_leaf (a := 163) lit0t0_163 (by decide +kernel) i hi)
  rw [lit0t, show i / 16384 = 1 by omega]
  show lit0t1_1 i = _
  rw [lit0t1_1, show i / 128 % 128 = 35 by omega]
  rfl
theorem leaf164 (i : ℕ) (hi : i / 128 = 164) : lit0t i = pat i := by
  refine Eq.trans (b := lit0t0_164 i) ?_ (at_leaf (a := 164) lit0t0_164 (by decide +kernel) i hi)
  rw [lit0t, show i / 16384 = 1 by omega]
  show lit0t1_1 i = _
  rw [lit0t1_1, show i / 128 % 128 = 36 by omega]
  rfl
theorem leaf165 (i : ℕ) (hi : i / 128 = 165) : lit0t i = pat i := by
  refine Eq.trans (b := lit0t0_165 i) ?_ (at_leaf (a := 165) lit0t0_165 (by decide +kernel) i hi)
  rw [lit0t, show i / 16384 = 1 by omega]
  show lit0t1_1 i = _
  rw [lit0t1_1, show i / 128 % 128 = 37 by omega]
  rfl
theorem leaf166 (i : ℕ) (hi : i / 128 = 166) : lit0t i = pat i := by
  refine Eq.trans (b := lit0t0_166 i) ?_ (at_leaf (a := 166) lit0t0_166 (by decide +kernel) i hi)
  rw [lit0t, show i / 16384 = 1 by omega]
  show lit0t1_1 i = _
  rw [lit0t1_1, show i / 128 % 128 = 38 by omega]
  rfl
theorem leaf167 (i : ℕ) (hi : i / 128 = 167) : lit0t i = pat i := by
  refine Eq.trans (b := lit0t0_167 i) ?_ (at_leaf (a := 167) lit0t0_167 (by decide +kernel) i hi)
  rw [lit0t, show i / 16384 = 1 by omega]
  show lit0t1_1 i = _
  rw [lit0t1_1, show i / 128 % 128 = 39 by omega]
  rfl
theorem leaf168 (i : ℕ) (hi : i / 128 = 168) : lit0t i = pat i := by
  refine Eq.trans (b := lit0t0_168 i) ?_ (at_leaf (a := 168) lit0t0_168 (by decide +kernel) i hi)
  rw [lit0t, show i / 16384 = 1 by omega]
  show lit0t1_1 i = _
  rw [lit0t1_1, show i / 128 % 128 = 40 by omega]
  rfl
theorem leaf169 (i : ℕ) (hi : i / 128 = 169) : lit0t i = pat i := by
  refine Eq.trans (b := lit0t0_169 i) ?_ (at_leaf (a := 169) lit0t0_169 (by decide +kernel) i hi)
  rw [lit0t, show i / 16384 = 1 by omega]
  show lit0t1_1 i = _
  rw [lit0t1_1, show i / 128 % 128 = 41 by omega]
  rfl
theorem leaf170 (i : ℕ) (hi : i / 128 = 170) : lit0t i = pat i := by
  refine Eq.trans (b := lit0t0_170 i) ?_ (at_leaf (a := 170) lit0t0_170 (by decide +kernel) i hi)
  rw [lit0t, show i / 16384 = 1 by omega]
  show lit0t1_1 i = _
  rw [lit0t1_1, show i / 128 % 128 = 42 by omega]
  rfl
theorem leaf171 (i : ℕ) (hi : i / 128 = 171) : lit0t i = pat i := by
  refine Eq.trans (b := lit0t0_171 i) ?_ (at_leaf (a := 171) lit0t0_171 (by decide +kernel) i hi)
  rw [lit0t, show i / 16384 = 1 by omega]
  show lit0t1_1 i = _
  rw [lit0t1_1, show i / 128 % 128 = 43 by omega]
  rfl
theorem leaf172 (i : ℕ) (hi : i / 128 = 172) : lit0t i = pat i := by
  refine Eq.trans (b := lit0t0_172 i) ?_ (at_leaf (a := 172) lit0t0_172 (by decide +kernel) i hi)
  rw [lit0t, show i / 16384 = 1 by omega]
  show lit0t1_1 i = _
  rw [lit0t1_1, show i / 128 % 128 = 44 by omega]
  rfl
theorem leaf173 (i : ℕ) (hi : i / 128 = 173) : lit0t i = pat i := by
  refine Eq.trans (b := lit0t0_173 i) ?_ (at_leaf (a := 173) lit0t0_173 (by decide +kernel) i hi)
  rw [lit0t, show i / 16384 = 1 by omega]
  show lit0t1_1 i = _
  rw [lit0t1_1, show i / 128 % 128 = 45 by omega]
  rfl
theorem leaf174 (i : ℕ) (hi : i / 128 = 174) : lit0t i = pat i := by
  refine Eq.trans (b := lit0t0_174 i) ?_ (at_leaf (a := 174) lit0t0_174 (by decide +kernel) i hi)
  rw [lit0t, show i / 16384 = 1 by omega]
  show lit0t1_1 i = _
  rw [lit0t1_1, show i / 128 % 128 = 46 by omega]
  rfl
theorem leaf175 (i : ℕ) (hi : i / 128 = 175) : lit0t i = pat i := by
  refine Eq.trans (b := lit0t0_175 i) ?_ (at_leaf (a := 175) lit0t0_175 (by decide +kernel) i hi)
  rw [lit0t, show i / 16384 = 1 by omega]
  show lit0t1_1 i = _
  rw [lit0t1_1, show i / 128 % 128 = 47 by omega]
  rfl
theorem leaf176 (i : ℕ) (hi : i / 128 = 176) : lit0t i = pat i := by
  refine Eq.trans (b := lit0t0_176 i) ?_ (at_leaf (a := 176) lit0t0_176 (by decide +kernel) i hi)
  rw [lit0t, show i / 16384 = 1 by omega]
  show lit0t1_1 i = _
  rw [lit0t1_1, show i / 128 % 128 = 48 by omega]
  rfl
theorem leaf177 (i : ℕ) (hi : i / 128 = 177) : lit0t i = pat i := by
  refine Eq.trans (b := lit0t0_177 i) ?_ (at_leaf (a := 177) lit0t0_177 (by decide +kernel) i hi)
  rw [lit0t, show i / 16384 = 1 by omega]
  show lit0t1_1 i = _
  rw [lit0t1_1, show i / 128 % 128 = 49 by omega]
  rfl
theorem leaf178 (i : ℕ) (hi : i / 128 = 178) : lit0t i = pat i := by
  refine Eq.trans (b := lit0t0_178 i) ?_ (at_leaf (a := 178) lit0t0_178 (by decide +kernel) i hi)
  rw [lit0t, show i / 16384 = 1 by omega]
  show lit0t1_1 i = _
  rw [lit0t1_1, show i / 128 % 128 = 50 by omega]
  rfl
theorem leaf179 (i : ℕ) (hi : i / 128 = 179) : lit0t i = pat i := by
  refine Eq.trans (b := lit0t0_179 i) ?_ (at_leaf (a := 179) lit0t0_179 (by decide +kernel) i hi)
  rw [lit0t, show i / 16384 = 1 by omega]
  show lit0t1_1 i = _
  rw [lit0t1_1, show i / 128 % 128 = 51 by omega]
  rfl
theorem leaf180 (i : ℕ) (hi : i / 128 = 180) : lit0t i = pat i := by
  refine Eq.trans (b := lit0t0_180 i) ?_ (at_leaf (a := 180) lit0t0_180 (by decide +kernel) i hi)
  rw [lit0t, show i / 16384 = 1 by omega]
  show lit0t1_1 i = _
  rw [lit0t1_1, show i / 128 % 128 = 52 by omega]
  rfl
theorem leaf181 (i : ℕ) (hi : i / 128 = 181) : lit0t i = pat i := by
  refine Eq.trans (b := lit0t0_181 i) ?_ (at_leaf (a := 181) lit0t0_181 (by decide +kernel) i hi)
  rw [lit0t, show i / 16384 = 1 by omega]
  show lit0t1_1 i = _
  rw [lit0t1_1, show i / 128 % 128 = 53 by omega]
  rfl
theorem leaf182 (i : ℕ) (hi : i / 128 = 182) : lit0t i = pat i := by
  refine Eq.trans (b := lit0t0_182 i) ?_ (at_leaf (a := 182) lit0t0_182 (by decide +kernel) i hi)
  rw [lit0t, show i / 16384 = 1 by omega]
  show lit0t1_1 i = _
  rw [lit0t1_1, show i / 128 % 128 = 54 by omega]
  rfl
theorem leaf183 (i : ℕ) (hi : i / 128 = 183) : lit0t i = pat i := by
  refine Eq.trans (b := lit0t0_183 i) ?_ (at_leaf (a := 183) lit0t0_183 (by decide +kernel) i hi)
  rw [lit0t, show i / 16384 = 1 by omega]
  show lit0t1_1 i = _
  rw [lit0t1_1, show i / 128 % 128 = 55 by omega]
  rfl
theorem leaf184 (i : ℕ) (hi : i / 128 = 184) : lit0t i = pat i := by
  refine Eq.trans (b := lit0t0_184 i) ?_ (at_leaf (a := 184) lit0t0_184 (by decide +kernel) i hi)
  rw [lit0t, show i / 16384 = 1 by omega]
  show lit0t1_1 i = _
  rw [lit0t1_1, show i / 128 % 128 = 56 by omega]
  rfl
theorem leaf185 (i : ℕ) (hi : i / 128 = 185) : lit0t i = pat i := by
  refine Eq.trans (b := lit0t0_185 i) ?_ (at_leaf (a := 185) lit0t0_185 (by decide +kernel) i hi)
  rw [lit0t, show i / 16384 = 1 by omega]
  show lit0t1_1 i = _
  rw [lit0t1_1, show i / 128 % 128 = 57 by omega]
  rfl
theorem leaf186 (i : ℕ) (hi : i / 128 = 186) : lit0t i = pat i := by
  refine Eq.trans (b := lit0t0_186 i) ?_ (at_leaf (a := 186) lit0t0_186 (by decide +kernel) i hi)
  rw [lit0t, show i / 16384 = 1 by omega]
  show lit0t1_1 i = _
  rw [lit0t1_1, show i / 128 % 128 = 58 by omega]
  rfl
theorem leaf187 (i : ℕ) (hi : i / 128 = 187) : lit0t i = pat i := by
  refine Eq.trans (b := lit0t0_187 i) ?_ (at_leaf (a := 187) lit0t0_187 (by decide +kernel) i hi)
  rw [lit0t, show i / 16384 = 1 by omega]
  show lit0t1_1 i = _
  rw [lit0t1_1, show i / 128 % 128 = 59 by omega]
  rfl
theorem leaf188 (i : ℕ) (hi : i / 128 = 188) : lit0t i = pat i := by
  refine Eq.trans (b := lit0t0_188 i) ?_ (at_leaf (a := 188) lit0t0_188 (by decide +kernel) i hi)
  rw [lit0t, show i / 16384 = 1 by omega]
  show lit0t1_1 i = _
  rw [lit0t1_1, show i / 128 % 128 = 60 by omega]
  rfl
theorem leaf189 (i : ℕ) (hi : i / 128 = 189) : lit0t i = pat i := by
  refine Eq.trans (b := lit0t0_189 i) ?_ (at_leaf (a := 189) lit0t0_189 (by decide +kernel) i hi)
  rw [lit0t, show i / 16384 = 1 by omega]
  show lit0t1_1 i = _
  rw [lit0t1_1, show i / 128 % 128 = 61 by omega]
  rfl
theorem leaf190 (i : ℕ) (hi : i / 128 = 190) : lit0t i = pat i := by
  refine Eq.trans (b := lit0t0_190 i) ?_ (at_leaf (a := 190) lit0t0_190 (by decide +kernel) i hi)
  rw [lit0t, show i / 16384 = 1 by omega]
  show lit0t1_1 i = _
  rw [lit0t1_1, show i / 128 % 128 = 62 by omega]
  rfl
theorem leaf191 (i : ℕ) (hi : i / 128 = 191) : lit0t i = pat i := by
  refine Eq.trans (b := lit0t0_191 i) ?_ (at_leaf (a := 191) lit0t0_191 (by decide +kernel) i hi)
  rw [lit0t, show i / 16384 = 1 by omega]
  show lit0t1_1 i = _
  rw [lit0t1_1, show i / 128 % 128 = 63 by omega]
  rfl
theorem leaf192 (i : ℕ) (hi : i / 128 = 192) : lit0t i = pat i := by
  refine Eq.trans (b := lit0t0_192 i) ?_ (at_leaf (a := 192) lit0t0_192 (by decide +kernel) i hi)
  rw [lit0t, show i / 16384 = 1 by omega]
  show lit0t1_1 i = _
  rw [lit0t1_1, show i / 128 % 128 = 64 by omega]
  rfl
theorem leaf193 (i : ℕ) (hi : i / 128 = 193) : lit0t i = pat i := by
  refine Eq.trans (b := lit0t0_193 i) ?_ (at_leaf (a := 193) lit0t0_193 (by decide +kernel) i hi)
  rw [lit0t, show i / 16384 = 1 by omega]
  show lit0t1_1 i = _
  rw [lit0t1_1, show i / 128 % 128 = 65 by omega]
  rfl
theorem leaf194 (i : ℕ) (hi : i / 128 = 194) : lit0t i = pat i := by
  refine Eq.trans (b := lit0t0_194 i) ?_ (at_leaf (a := 194) lit0t0_194 (by decide +kernel) i hi)
  rw [lit0t, show i / 16384 = 1 by omega]
  show lit0t1_1 i = _
  rw [lit0t1_1, show i / 128 % 128 = 66 by omega]
  rfl
theorem leaf195 (i : ℕ) (hi : i / 128 = 195) : lit0t i = pat i := by
  refine Eq.trans (b := lit0t0_195 i) ?_ (at_leaf (a := 195) lit0t0_195 (by decide +kernel) i hi)
  rw [lit0t, show i / 16384 = 1 by omega]
  show lit0t1_1 i = _
  rw [lit0t1_1, show i / 128 % 128 = 67 by omega]
  rfl
theorem leaf196 (i : ℕ) (hi : i / 128 = 196) : lit0t i = pat i := by
  refine Eq.trans (b := lit0t0_196 i) ?_ (at_leaf (a := 196) lit0t0_196 (by decide +kernel) i hi)
  rw [lit0t, show i / 16384 = 1 by omega]
  show lit0t1_1 i = _
  rw [lit0t1_1, show i / 128 % 128 = 68 by omega]
  rfl
theorem leaf197 (i : ℕ) (hi : i / 128 = 197) : lit0t i = pat i := by
  refine Eq.trans (b := lit0t0_197 i) ?_ (at_leaf (a := 197) lit0t0_197 (by decide +kernel) i hi)
  rw [lit0t, show i / 16384 = 1 by omega]
  show lit0t1_1 i = _
  rw [lit0t1_1, show i / 128 % 128 = 69 by omega]
  rfl
theorem leaf198 (i : ℕ) (hi : i / 128 = 198) : lit0t i = pat i := by
  refine Eq.trans (b := lit0t0_198 i) ?_ (at_leaf (a := 198) lit0t0_198 (by decide +kernel) i hi)
  rw [lit0t, show i / 16384 = 1 by omega]
  show lit0t1_1 i = _
  rw [lit0t1_1, show i / 128 % 128 = 70 by omega]
  rfl
theorem leaf199 (i : ℕ) (hi : i / 128 = 199) : lit0t i = pat i := by
  refine Eq.trans (b := lit0t0_199 i) ?_ (at_leaf (a := 199) lit0t0_199 (by decide +kernel) i hi)
  rw [lit0t, show i / 16384 = 1 by omega]
  show lit0t1_1 i = _
  rw [lit0t1_1, show i / 128 % 128 = 71 by omega]
  rfl
theorem leaf200 (i : ℕ) (hi : i / 128 = 200) : lit0t i = pat i := by
  refine Eq.trans (b := lit0t0_200 i) ?_ (at_leaf (a := 200) lit0t0_200 (by decide +kernel) i hi)
  rw [lit0t, show i / 16384 = 1 by omega]
  show lit0t1_1 i = _
  rw [lit0t1_1, show i / 128 % 128 = 72 by omega]
  rfl
theorem leaf201 (i : ℕ) (hi : i / 128 = 201) : lit0t i = pat i := by
  refine Eq.trans (b := lit0t0_201 i) ?_ (at_leaf (a := 201) lit0t0_201 (by decide +kernel) i hi)
  rw [lit0t, show i / 16384 = 1 by omega]
  show lit0t1_1 i = _
  rw [lit0t1_1, show i / 128 % 128 = 73 by omega]
  rfl
theorem leaf202 (i : ℕ) (hi : i / 128 = 202) : lit0t i = pat i := by
  refine Eq.trans (b := lit0t0_202 i) ?_ (at_leaf (a := 202) lit0t0_202 (by decide +kernel) i hi)
  rw [lit0t, show i / 16384 = 1 by omega]
  show lit0t1_1 i = _
  rw [lit0t1_1, show i / 128 % 128 = 74 by omega]
  rfl
theorem leaf203 (i : ℕ) (hi : i / 128 = 203) : lit0t i = pat i := by
  refine Eq.trans (b := lit0t0_203 i) ?_ (at_leaf (a := 203) lit0t0_203 (by decide +kernel) i hi)
  rw [lit0t, show i / 16384 = 1 by omega]
  show lit0t1_1 i = _
  rw [lit0t1_1, show i / 128 % 128 = 75 by omega]
  rfl
theorem leaf204 (i : ℕ) (hi : i / 128 = 204) : lit0t i = pat i := by
  refine Eq.trans (b := lit0t0_204 i) ?_ (at_leaf (a := 204) lit0t0_204 (by decide +kernel) i hi)
  rw [lit0t, show i / 16384 = 1 by omega]
  show lit0t1_1 i = _
  rw [lit0t1_1, show i / 128 % 128 = 76 by omega]
  rfl
theorem leaf205 (i : ℕ) (hi : i / 128 = 205) : lit0t i = pat i := by
  refine Eq.trans (b := lit0t0_205 i) ?_ (at_leaf (a := 205) lit0t0_205 (by decide +kernel) i hi)
  rw [lit0t, show i / 16384 = 1 by omega]
  show lit0t1_1 i = _
  rw [lit0t1_1, show i / 128 % 128 = 77 by omega]
  rfl
theorem leaf206 (i : ℕ) (hi : i / 128 = 206) : lit0t i = pat i := by
  refine Eq.trans (b := lit0t0_206 i) ?_ (at_leaf (a := 206) lit0t0_206 (by decide +kernel) i hi)
  rw [lit0t, show i / 16384 = 1 by omega]
  show lit0t1_1 i = _
  rw [lit0t1_1, show i / 128 % 128 = 78 by omega]
  rfl
theorem leaf207 (i : ℕ) (hi : i / 128 = 207) : lit0t i = pat i := by
  refine Eq.trans (b := lit0t0_207 i) ?_ (at_leaf (a := 207) lit0t0_207 (by decide +kernel) i hi)
  rw [lit0t, show i / 16384 = 1 by omega]
  show lit0t1_1 i = _
  rw [lit0t1_1, show i / 128 % 128 = 79 by omega]
  rfl
theorem leaf208 (i : ℕ) (hi : i / 128 = 208) : lit0t i = pat i := by
  refine Eq.trans (b := lit0t0_208 i) ?_ (at_leaf (a := 208) lit0t0_208 (by decide +kernel) i hi)
  rw [lit0t, show i / 16384 = 1 by omega]
  show lit0t1_1 i = _
  rw [lit0t1_1, show i / 128 % 128 = 80 by omega]
  rfl
theorem leaf209 (i : ℕ) (hi : i / 128 = 209) : lit0t i = pat i := by
  refine Eq.trans (b := lit0t0_209 i) ?_ (at_leaf (a := 209) lit0t0_209 (by decide +kernel) i hi)
  rw [lit0t, show i / 16384 = 1 by omega]
  show lit0t1_1 i = _
  rw [lit0t1_1, show i / 128 % 128 = 81 by omega]
  rfl
theorem leaf210 (i : ℕ) (hi : i / 128 = 210) : lit0t i = pat i := by
  refine Eq.trans (b := lit0t0_210 i) ?_ (at_leaf (a := 210) lit0t0_210 (by decide +kernel) i hi)
  rw [lit0t, show i / 16384 = 1 by omega]
  show lit0t1_1 i = _
  rw [lit0t1_1, show i / 128 % 128 = 82 by omega]
  rfl
theorem leaf211 (i : ℕ) (hi : i / 128 = 211) : lit0t i = pat i := by
  refine Eq.trans (b := lit0t0_211 i) ?_ (at_leaf (a := 211) lit0t0_211 (by decide +kernel) i hi)
  rw [lit0t, show i / 16384 = 1 by omega]
  show lit0t1_1 i = _
  rw [lit0t1_1, show i / 128 % 128 = 83 by omega]
  rfl
theorem leaf212 (i : ℕ) (hi : i / 128 = 212) : lit0t i = pat i := by
  refine Eq.trans (b := lit0t0_212 i) ?_ (at_leaf (a := 212) lit0t0_212 (by decide +kernel) i hi)
  rw [lit0t, show i / 16384 = 1 by omega]
  show lit0t1_1 i = _
  rw [lit0t1_1, show i / 128 % 128 = 84 by omega]
  rfl
theorem leaf213 (i : ℕ) (hi : i / 128 = 213) : lit0t i = pat i := by
  refine Eq.trans (b := lit0t0_213 i) ?_ (at_leaf (a := 213) lit0t0_213 (by decide +kernel) i hi)
  rw [lit0t, show i / 16384 = 1 by omega]
  show lit0t1_1 i = _
  rw [lit0t1_1, show i / 128 % 128 = 85 by omega]
  rfl
theorem leaf214 (i : ℕ) (hi : i / 128 = 214) : lit0t i = pat i := by
  refine Eq.trans (b := lit0t0_214 i) ?_ (at_leaf (a := 214) lit0t0_214 (by decide +kernel) i hi)
  rw [lit0t, show i / 16384 = 1 by omega]
  show lit0t1_1 i = _
  rw [lit0t1_1, show i / 128 % 128 = 86 by omega]
  rfl
theorem leaf215 (i : ℕ) (hi : i / 128 = 215) : lit0t i = pat i := by
  refine Eq.trans (b := lit0t0_215 i) ?_ (at_leaf (a := 215) lit0t0_215 (by decide +kernel) i hi)
  rw [lit0t, show i / 16384 = 1 by omega]
  show lit0t1_1 i = _
  rw [lit0t1_1, show i / 128 % 128 = 87 by omega]
  rfl
theorem leaf216 (i : ℕ) (hi : i / 128 = 216) : lit0t i = pat i := by
  refine Eq.trans (b := lit0t0_216 i) ?_ (at_leaf (a := 216) lit0t0_216 (by decide +kernel) i hi)
  rw [lit0t, show i / 16384 = 1 by omega]
  show lit0t1_1 i = _
  rw [lit0t1_1, show i / 128 % 128 = 88 by omega]
  rfl
theorem leaf217 (i : ℕ) (hi : i / 128 = 217) : lit0t i = pat i := by
  refine Eq.trans (b := lit0t0_217 i) ?_ (at_leaf (a := 217) lit0t0_217 (by decide +kernel) i hi)
  rw [lit0t, show i / 16384 = 1 by omega]
  show lit0t1_1 i = _
  rw [lit0t1_1, show i / 128 % 128 = 89 by omega]
  rfl
theorem leaf218 (i : ℕ) (hi : i / 128 = 218) : lit0t i = pat i := by
  refine Eq.trans (b := lit0t0_218 i) ?_ (at_leaf (a := 218) lit0t0_218 (by decide +kernel) i hi)
  rw [lit0t, show i / 16384 = 1 by omega]
  show lit0t1_1 i = _
  rw [lit0t1_1, show i / 128 % 128 = 90 by omega]
  rfl
theorem leaf219 (i : ℕ) (hi : i / 128 = 219) : lit0t i = pat i := by
  refine Eq.trans (b := lit0t0_219 i) ?_ (at_leaf (a := 219) lit0t0_219 (by decide +kernel) i hi)
  rw [lit0t, show i / 16384 = 1 by omega]
  show lit0t1_1 i = _
  rw [lit0t1_1, show i / 128 % 128 = 91 by omega]
  rfl
theorem leaf220 (i : ℕ) (hi : i / 128 = 220) : lit0t i = pat i := by
  refine Eq.trans (b := lit0t0_220 i) ?_ (at_leaf (a := 220) lit0t0_220 (by decide +kernel) i hi)
  rw [lit0t, show i / 16384 = 1 by omega]
  show lit0t1_1 i = _
  rw [lit0t1_1, show i / 128 % 128 = 92 by omega]
  rfl
theorem leaf221 (i : ℕ) (hi : i / 128 = 221) : lit0t i = pat i := by
  refine Eq.trans (b := lit0t0_221 i) ?_ (at_leaf (a := 221) lit0t0_221 (by decide +kernel) i hi)
  rw [lit0t, show i / 16384 = 1 by omega]
  show lit0t1_1 i = _
  rw [lit0t1_1, show i / 128 % 128 = 93 by omega]
  rfl
theorem leaf222 (i : ℕ) (hi : i / 128 = 222) : lit0t i = pat i := by
  refine Eq.trans (b := lit0t0_222 i) ?_ (at_leaf (a := 222) lit0t0_222 (by decide +kernel) i hi)
  rw [lit0t, show i / 16384 = 1 by omega]
  show lit0t1_1 i = _
  rw [lit0t1_1, show i / 128 % 128 = 94 by omega]
  rfl
theorem leaf223 (i : ℕ) (hi : i / 128 = 223) : lit0t i = pat i := by
  refine Eq.trans (b := lit0t0_223 i) ?_ (at_leaf (a := 223) lit0t0_223 (by decide +kernel) i hi)
  rw [lit0t, show i / 16384 = 1 by omega]
  show lit0t1_1 i = _
  rw [lit0t1_1, show i / 128 % 128 = 95 by omega]
  rfl

end Cert.KernelIdeal.Hand
end
-- ==== Proof.MatAll.lean ====
module

public import Mathlib.Tactic.IntervalCases
public import proofs.«01_k».proof.Proof.MatA
public import proofs.«01_k».proof.Proof.MatB
public import proofs.«01_k».proof.Proof.MatC

@[expose] public section

-- a match of 128 arms is unfolded arm by arm
set_option maxRecDepth 100000

noncomputable section

namespace Cert.KernelIdeal.Hand

open Idealize.ShloMosaic Cert.KernelIdeal

/-- The printed literal is the exponent matrix: at every row-major place its pattern is the formula's. -/
theorem lit0t_eq (i : ℕ) (hi : i < 28672) : lit0t i = pat i := by
  have hk : i / 128 < 224 := by omega
  interval_cases h : i / 128
  · exact leaf0 i h
  · exact leaf1 i h
  · exact leaf2 i h
  · exact leaf3 i h
  · exact leaf4 i h
  · exact leaf5 i h
  · exact leaf6 i h
  · exact leaf7 i h
  · exact leaf8 i h
  · exact leaf9 i h
  · exact leaf10 i h
  · exact leaf11 i h
  · exact leaf12 i h
  · exact leaf13 i h
  · exact leaf14 i h
  · exact leaf15 i h
  · exact leaf16 i h
  · exact leaf17 i h
  · exact leaf18 i h
  · exact leaf19 i h
  · exact leaf20 i h
  · exact leaf21 i h
  · exact leaf22 i h
  · exact leaf23 i h
  · exact leaf24 i h
  · exact leaf25 i h
  · exact leaf26 i h
  · exact leaf27 i h
  · exact leaf28 i h
  · exact leaf29 i h
  · exact leaf30 i h
  · exact leaf31 i h
  · exact leaf32 i h
  · exact leaf33 i h
  · exact leaf34 i h
  · exact leaf35 i h
  · exact leaf36 i h
  · exact leaf37 i h
  · exact leaf38 i h
  · exact leaf39 i h
  · exact leaf40 i h
  · exact leaf41 i h
  · exact leaf42 i h
  · exact leaf43 i h
  · exact leaf44 i h
  · exact leaf45 i h
  · exact leaf46 i h
  · exact leaf47 i h
  · exact leaf48 i h
  · exact leaf49 i h
  · exact leaf50 i h
  · exact leaf51 i h
  · exact leaf52 i h
  · exact leaf53 i h
  · exact leaf54 i h
  · exact leaf55 i h
  · exact leaf56 i h
  · exact leaf57 i h
  · exact leaf58 i h
  · exact leaf59 i h
  · exact leaf60 i h
  · exact leaf61 i h
  · exact leaf62 i h
  · exact leaf63 i h
  · exact leaf64 i h
  · exact leaf65 i h
  · exact leaf66 i h
  · exact leaf67 i h
  · exact leaf68 i h
  · exact leaf69 i h
  · exact leaf70 i h
  · exact leaf71 i h
  · exact leaf72 i h
  · exact leaf73 i h
  · exact leaf74 i h
  · exact leaf75 i h
  · exact leaf76 i h
  · exact leaf77 i h
  · exact leaf78 i h
  · exact leaf79 i h
  · exact leaf80 i h
  · exact leaf81 i h
  · exact leaf82 i h
  · exact leaf83 i h
  · exact leaf84 i h
  · exact leaf85 i h
  · exact leaf86 i h
  · exact leaf87 i h
  · exact leaf88 i h
  · exact leaf89 i h
  · exact leaf90 i h
  · exact leaf91 i h
  · exact leaf92 i h
  · exact leaf93 i h
  · exact leaf94 i h
  · exact leaf95 i h
  · exact leaf96 i h
  · exact leaf97 i h
  · exact leaf98 i h
  · exact leaf99 i h
  · exact leaf100 i h
  · exact leaf101 i h
  · exact leaf102 i h
  · exact leaf103 i h
  · exact leaf104 i h
  · exact leaf105 i h
  · exact leaf106 i h
  · exact leaf107 i h
  · exact leaf108 i h
  · exact leaf109 i h
  · exact leaf110 i h
  · exact leaf111 i h
  · exact leaf112 i h
  · exact leaf113 i h
  · exact leaf114 i h
  · exact leaf115 i h
  · exact leaf116 i h
  · exact leaf117 i h
  · exact leaf118 i h
  · exact leaf119 i h
  · exact leaf120 i h
  · exact leaf121 i h
  · exact leaf122 i h
  · exact leaf123 i h
  · exact leaf124 i h
  · exact leaf125 i h
  · exact leaf126 i h
  · exact leaf127 i h
  · exact leaf128 i h
  · exact leaf129 i h
  · exact leaf130 i h
  · exact leaf131 i h
  · exact leaf132 i h
  · exact leaf133 i h
  · exact leaf134 i h
  · exact leaf135 i h
  · exact leaf136 i h
  · exact leaf137 i h
  · exact leaf138 i h
  · exact leaf139 i h
  · exact leaf140 i h
  · exact leaf141 i h
  · exact leaf142 i h
  · exact leaf143 i h
  · exact leaf144 i h
  · exact leaf145 i h
  · exact leaf146 i h
  · exact leaf147 i h
  · exact leaf148 i h
  · exact leaf149 i h
  · exact leaf150 i h
  · exact leaf151 i h
  · exact leaf152 i h
  · exact leaf153 i h
  · exact leaf154 i h
  · exact leaf155 i h
  · exact leaf156 i h
  · exact leaf157 i h
  · exact leaf158 i h
  · exact leaf159 i h
  · exact leaf160 i h
  · exact leaf161 i h
  · exact leaf162 i h
  · exact leaf163 i h
  · exact leaf164 i h
  · exact leaf165 i h
  · exact leaf166 i h
  · exact leaf167 i h
  · exact leaf168 i h
  · exact leaf169 i h
  · exact leaf170 i h
  · exact leaf171 i h
  · exact leaf172 i h
  · exact leaf173 i h
  · exact leaf174 i h
  · exact leaf175 i h
  · exact leaf176 i h
  · exact leaf177 i h
  · exact leaf178 i h
  · exact leaf179 i h
  · exact leaf180 i h
  · exact leaf181 i h
  · exact leaf182 i h
  · exact leaf183 i h
  · exact leaf184 i h
  · exact leaf185 i h
  · exact leaf186 i h
  · exact leaf187 i h
  · exact leaf188 i h
  · exact leaf189 i h
  · exact leaf190 i h
  · exact leaf191 i h
  · exact leaf192 i h
  · exact leaf193 i h
  · exact leaf194 i h
  · exact leaf195 i h
  · exact leaf196 i h
  · exact leaf197 i h
  · exact leaf198 i h
  · exact leaf199 i h
  · exact leaf200 i h
  · exact leaf201 i h
  · exact leaf202 i h
  · exact leaf203 i h
  · exact leaf204 i h
  · exact leaf205 i h
  · exact leaf206 i h
  · exact leaf207 i h
  · exact leaf208 i h
  · exact leaf209 i h
  · exact leaf210 i h
  · exact leaf211 i h
  · exact leaf212 i h
  · exact leaf213 i h
  · exact leaf214 i h
  · exact leaf215 i h
  · exact leaf216 i h
  · exact leaf217 i h
  · exact leaf218 i h
  · exact leaf219 i h
  · exact leaf220 i h
  · exact leaf221 i h
  · exact leaf222 i h
  · exact leaf223 i h

end Cert.KernelIdeal.Hand
end
-- ==== Proof.Grid.lean ====
module

public import proofs.«01_k».proof.Proof.Chunk
public import proofs.«01_k».proof.Proof.MatAll
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem

/-- Where the windows of grid point `t` lie. -/
theorem idx : ∀ t : Fin cfg0.N, win0_0.index t = ![t.val % 16, t.val / 16] ∧ win0_1.index t = ![t.val % 16, 8 + t.val / 16] ∧
    win0_2.index t = ![t.val % 16, 16 + t.val / 16] ∧ win0_3.index t = ![t.val % 16, 24 + t.val / 16] ∧
    win0_4.index t = ![0, t.val / 16] ∧ win0_5.index t = ![0, 0] ∧ win0_6.index t = ![0, 0] ∧ win0_7.index t = ![0, t.val / 16, 0, 0] ∧ t.val / 16 < 8 :=
  (by decide +kernel : ∀ t : Fin grid0.N, _)

section Reads

variable (m : (l : Loc nD τ sig) → l.ty.Contents (Elt Ideal)) (c : Dev nD)

/-- The projections, the lower bound and the norm weight, as functions of plain numbers. -/
def argR (r k : ℕ) : EReal := if h : r < 9216 ∧ k < 8192 then (m ((c : Thread nD τ).loc main_arg0) : FVec Ideal S9216x8192 .f32) (ix2 (⟨r, h.1⟩ : Fin 9216) (⟨k, h.2⟩ : Fin 8192)) else 0
def argL (k : ℕ) : EReal := if h : k < 2048 then (m ((c : Thread nD τ).loc main_arg1) : FVec Ideal S2048 .f32) (ix1 (⟨k, h⟩ : Fin 2048)) else 0
def argN (k : Fin 128) : EReal := (m ((c : Thread nD τ).loc main_arg2) : FVec Ideal S128 .f32) (ix1 k)

theorem b0 (t : Fin cfg0.N) (x : Fin 512) (y : Fin 256) : (iblk m c 0 t : FVec Ideal S512x256 .f32) (ix2 x y) = argR m c (512 * (t.val % 16) + x) (256 * (t.val / 16) + y) := by
  have hi := idx t
  unfold argR
  rw [dif_pos (by omega)]
  blk_ext [iblk, V, idx t]
theorem b1 (t : Fin cfg0.N) (x : Fin 512) (y : Fin 256) : (iblk m c 1 t : FVec Ideal S512x256 .f32) (ix2 x y) = argR m c (512 * (t.val % 16) + x) (2048 + (256 * (t.val / 16) + y)) := by
  have hi := idx t
  unfold argR
  rw [dif_pos (by omega)]
  blk_ext [iblk, V, idx t]
theorem b2 (t : Fin cfg0.N) (x : Fin 512) (y : Fin 256) : (iblk m c 2 t : FVec Ideal S512x256 .f32) (ix2 x y) = argR m c (512 * (t.val % 16) + x) (4096 + (256 * (t.val / 16) + y)) := by
  have hi := idx t
  unfold argR
  rw [dif_pos (by omega)]
  blk_ext [iblk, V, idx t]
theorem b3 (t : Fin cfg0.N) (x : Fin 512) (y : Fin 256) : (iblk m c 3 t : FVec Ideal S512x256 .f32) (ix2 x y) = argR m c (512 * (t.val % 16) + x) (6144 + (256 * (t.val / 16) + y)) := by
  have hi := idx t
  unfold argR
  rw [dif_pos (by omega)]
  blk_ext [iblk, V, idx t]
theorem b4 (t : Fin cfg0.N) (y : Fin 256) : (iblk m c 4 t : FVec Ideal S1x256 .f32) (ix2 (0 : Fin 1) y) = argL m c (256 * (t.val / 16) + y) := by
  have hi := idx t
  unfold argL
  rw [dif_pos (by omega)]
  blk_simp [iblk]
  entry_read
  pointwise []
  blk_ext [iblk, V, idx t]
theorem b5 (t : Fin cfg0.N) (y : Fin 128) : (iblk m c 5 t : FVec Ideal S1x128 .f32) (ix2 (0 : Fin 1) y) = argN m c y := by
  unfold argN
  blk_simp [iblk]
  entry_read
  pointwise []
  blk_ext [iblk, V, idx t]

theorem b6 (t : Fin cfg0.N) (r : Fin 448) (u : Fin 64) : (iblk m c 6 t : FVec Ideal S448x64 .bf16) (ix2 r u) = (if one r u then (1 : EReal) else 0 : EReal) := by
  have hm : ∀ i : S448x64.Idx, (i 0 : ℕ) = r → (i 1 : ℕ) = u → Ideal.ofBits .bf16 (lit0 (S448x64.rowMajor i)) = if one r u then 1 else 0 := by
    intro i h0 h1
    have hv : (S448x64.rowMajor i : ℕ) = 64 * r + u := by
      rw [Shape.rowMajor_val_two]
      show (i 0 : ℕ) * 64 + (i 1 : ℕ) = _
      omega
    have : lit0 (S448x64.rowMajor i) = pat (64 * r + u) := by
      rw [← hv]; exact lit0t_eq _ (S448x64.rowMajor i).isLt
    rw [this, pat, show (64 * r.val + u.val) / 64 = r by omega, show (64 * r.val + u.val) % 64 = u by omega]
    split
    · exact Ideal.ofBits_one_bf16
    · exact Ideal.ofBits_zero_bf16
  blk_simp [iblk]
  entry_read
  refine hm _ ?_ ?_
  · blk_simp [idx t]
  · blk_simp [idx t]

theorem b7 (t : Fin cfg0.N) (x : S1x2x128x128.Idx) : (iblk m c 7 t : FVec Ideal S1x2x128x128 .f32) x = (0 : EReal) := by
  blk_simp [iblk]
  entry_read
  pointwise []

end Reads

end Cert.KernelIdeal.Hand
end
-- ==== Proof.ChunkS.lean ====
module

public import proofs.«01_k».proof.Proof.Body

@[expose] public section

set_option maxRecDepth 16384

noncomputable section

namespace Cert.KernelIdeal.Hand

open Cert.KernelIdeal Cert.KernelIdeal.Gen Idealize.ShloMosaic Idealize.ShloMosaic.TcCoe Idealize.SL.Sem

theorem S_0_0 (f v : FVec Ideal S64x128 .f32) (lb : FVec Ideal S1x128 .f32) (a : FVec Ideal S448x64 .bf16) (L : FVec Ideal S1x128x128 .f32) :
    k0_pay527 (k0_pay491 (k0_pay441 (k0_pay26 (k0_pay25 lb) f) (k0_pay392 (k0_pay80 a (k0_pay46 (k0_pay26 (k0_pay25 lb) f)))) (k0_pay408 (k0_pay80 a (k0_pay46 (k0_pay26 (k0_pay25 lb) f))))) (k0_pay459 v)) (k0_pay507 (k0_pay408 (k0_pay80 a (k0_pay46 (k0_pay26 (k0_pay25 lb) f))))) (k0_pay523 L) =
    Sp (Kp lb f) (Dp a (Gp (Kp lb f))) v (k0_pay523 L) := rfl

theorem S_0_1 (f v : FVec Ideal S64x128 .f32) (lb : FVec Ideal S1x128 .f32) (a : FVec Ideal S448x64 .bf16) (S : FVec Ideal S128x128 .f32) :
    k0_pay531 (k0_pay492 (k0_pay442 (k0_pay27 lb f) (k0_pay393 (k0_pay81 a (k0_pay47 (k0_pay27 lb f)))) (k0_pay409 (k0_pay81 a (k0_pay47 (k0_pay27 lb f))))) (k0_pay460 v)) (k0_pay508 (k0_pay409 (k0_pay81 a (k0_pay47 (k0_pay27 lb f))))) S =
    Sp (Kp lb f) (Dp a (Gp (Kp lb f))) v S := rfl

theorem S_0_2 (f v : FVec Ideal S64x128 .f32) (lb : FVec Ideal S1x128 .f32) (a : FVec Ideal S448x64 .bf16) (S : FVec Ideal S128x128 .f32) :
    k0_pay537 (k0_pay493 (k0_pay443 (k0_pay28 lb f) (k0_pay394 (k0_pay86 a (k0_pay82 (k0_pay48 (k0_pay28 lb f))) (k0_pay84 (k0_pay48 (k0_pay28 lb f))) (k0_pay85 (k0_pay48 (k0_pay28 lb f))))) (k0_pay410 (k0_pay86 a (k0_pay82 (k0_pay48 (k0_pay28 lb f))) (k0_pay84 (k0_pay48 (k0_pay28 lb f))) (k0_pay85 (k0_pay48 (k0_pay28 lb f)))))) (k0_pay461 v)) (k0_pay509 (k0_pay410 (k0_pay86 a (k0_pay82 (k0_pay48 (k0_pay28 lb f))) (k0_pay84 (k0_pay48 (k0_pay28 lb f))) (k0_pay85 (k0_pay48 (k0_pay28 lb f)))))) S =
    Sp (Kp lb f) (Dp a (Gp (Kp lb f))) v S := rfl

theorem S_0_3 (f v : FVec Ideal S64x128 .f32) (lb : FVec Ideal S1x128 .f32) (a : FVec Ideal S448x64 .bf16) (S : FVec Ideal S128x128 .f32) :
    k0_pay544 (k0_pay494 (k0_pay445 (k0_pay29 lb f) (k0_pay395 (k0_pay87 a (k0_pay49 (k0_pay29 lb f)))) (k0_pay444 (k0_pay411 (k0_pay87 a (k0_pay49 (k0_pay29 lb f)))))) (k0_pay462 v)) (k0_pay510 (k0_pay411 (k0_pay87 a (k0_pay49 (k0_pay29 lb f))))) S =
    Sp (Kp lb f) (Dp a (Gp (Kp lb f))) v S := rfl

theorem S_0_4 (f v : FVec Ideal S64x128 .f32) (lb : FVec Ideal S1x128 .f32) (a : FVec Ideal S448x64 .bf16) (S : FVec Ideal S128x128 .f32) :
    k0_pay550 (k0_pay495 (k0_pay446 (k0_pay30 lb f) (k0_pay396 (k0_pay88 a (k0_pay50 (k0_pay30 lb f)))) (k0_pay412 (k0_pay88 a (k0_pay50 (k0_pay30 lb f))))) (k0_pay463 v)) (k0_pay511 (k0_pay412 (k0_pay88 a (k0_pay50 (k0_pay30 lb f))))) S =
    Sp (Kp lb f) (Dp a (Gp (Kp lb f))) v S := rfl

theorem S_0_5 (f v : FVec Ideal S64x128 .f32) (lb : FVec Ideal S1x128 .f32) (a : FVec Ideal S448x64 .bf16) (S : FVec Ideal S128x128 .f32) :
    k0_pay556 (k0_pay496 (k0_pay447 (k0_pay31 lb f) (k0_pay397 (k0_pay89 a (k0_pay51 (k0_pay31 lb f)))) (k0_pay413 (k0_pay89 a (k0_pay51 (k0_pay31 lb f))))) (k0_pay464 v)) (k0_pay512 (k0_pay413 (k0_pay89 a (k0_pay51 (k0_pay31 lb f))))) S =
    Sp (Kp lb f) (Dp a (Gp (Kp lb f))) v S := rfl

theorem S_0_6 (f v : FVec Ideal S64x128 .f32) (lb : FVec Ideal S1x128 .f32) (a : FVec Ideal S448x64 .bf16) (S : FVec Ideal S128x128 .f32) :
    k0_pay561 (k0_pay497 (k0_pay448 (k0_pay32 lb f) (k0_pay398 (k0_pay94 a (k0_pay90 (k0_pay53 (k0_pay52 (k0_pay32 lb f)))) (k0_pay92 (k0_pay53 (k0_pay52 (k0_pay32 lb f)))) (k0_pay93 (k0_pay53 (k0_pay52 (k0_pay32 lb f)))))) (k0_pay414 (k0_pay94 a (k0_pay90 (k0_pay53 (k0_pay52 (k0_pay32 lb f)))) (k0_pay92 (k0_pay53 (k0_pay52 (k0_pay32 lb f)))) (k0_pay93 (k0_pay53 (k0_pay52 (k0_pay32 lb f))))))) (k0_pay465 v)) (k0_pay513 (k0_pay414 (k0_pay94 a (k0_pay90 (k0_pay53 (k0_pay52 (k0_pay32 lb f)))) (k0_pay92 (k0_pay53 (k0_pay52 (k0_pay32 lb f)))) (k0_pay93 (k0_pay53 (k0_pay52 (k0_pay32 lb f))))))) S =
    Sp (Kp lb f) (Dp a (Gp (Kp lb f))) v S := rfl

theorem S_0_7 (f v : FVec Ideal S64x128 .f32) (lb : FVec Ideal S1x128 .f32) (a : FVec Ideal S448x64 .bf16) (S : FVec Ideal S128x128 .f32) :
    k0_pay568 (k0_pay498 (k0_pay449 (k0_pay35 (k0_pay33 lb) f k0_pay34) (k0_pay399 (k0_pay95 a (k0_pay54 (k0_pay35 (k0_pay33 lb) f k0_pay34)))) (k0_pay415 (k0_pay95 a (k0_pay54 (k0_pay35 (k0_pay33 lb) f k0_pay34))))) (k0_pay466 v)) (k0_pay514 (k0_pay415 (k0_pay95 a (k0_pay54 (k0_pay35 (k0_pay33 lb) f k0_pay34))))) S =
    Sp (Kp lb f) (Dp a (Gp (Kp lb f))) v S := rfl

theorem S_1_0 (f v : FVec Ideal S64x128 .f32) (lb : FVec Ideal S1x128 .f32) (a : FVec Ideal S448x64 .bf16) (L : FVec Ideal S1x128x128 .f32) :
    k0_pay528 (k0_pay499 (k0_pay450 (k0_pay36 lb f) (k0_pay400 (k0_pay96 a (k0_pay55 (k0_pay36 lb f)))) (k0_pay416 (k0_pay96 a (k0_pay55 (k0_pay36 lb f))))) (k0_pay467 v)) (k0_pay515 (k0_pay416 (k0_pay96 a (k0_pay55 (k0_pay36 lb f))))) (k0_pay524 L) =
    Sp (Kp lb f) (Dp a (Gp (Kp lb f))) v (k0_pay523 L) := rfl

theorem S_1_1 (f v : FVec Ideal S64x128 .f32) (lb : FVec Ideal S1x128 .f32) (a : FVec Ideal S448x64 .bf16) (S : FVec Ideal S128x128 .f32) :
    k0_pay532 (k0_pay500 (k0_pay451 (k0_pay37 lb f) (k0_pay401 (k0_pay97 a (k0_pay56 (k0_pay37 lb f)))) (k0_pay417 (k0_pay97 a (k0_pay56 (k0_pay37 lb f))))) (k0_pay468 v)) (k0_pay516 (k0_pay417 (k0_pay97 a (k0_pay56 (k0_pay37 lb f))))) S =
    Sp (Kp lb f) (Dp a (Gp (Kp lb f))) v S := rfl

theorem S_1_2 (f v : FVec Ideal S64x128 .f32) (lb : FVec Ideal S1x128 .f32) (a : FVec Ideal S448x64 .bf16) (S : FVec Ideal S128x128 .f32) :
    k0_pay538 (k0_pay501 (k0_pay452 (k0_pay38 lb f) (k0_pay402 (k0_pay102 a (k0_pay98 (k0_pay57 (k0_pay38 lb f))) (k0_pay100 (k0_pay57 (k0_pay38 lb f))) (k0_pay101 (k0_pay57 (k0_pay38 lb f))))) (k0_pay418 (k0_pay102 a (k0_pay98 (k0_pay57 (k0_pay38 lb f))) (k0_pay100 (k0_pay57 (k0_pay38 lb f))) (k0_pay101 (k0_pay57 (k0_pay38 lb f)))))) (k0_pay469 v)) (k0_pay517 (k0_pay418 (k0_pay102 a (k0_pay98 (k0_pay57 (k0_pay38 lb f))) (k0_pay100 (k0_pay57 (k0_pay38 lb f))) (k0_pay101 (k0_pay57 (k0_pay38 lb f)))))) S =
    Sp (Kp lb f) (Dp a (Gp (Kp lb f))) v S := rfl

theorem S_1_3 (f v : FVec Ideal S64x128 .f32) (lb : FVec Ideal S1x128 .f32) (a : FVec Ideal S448x64 .bf16) (S : FVec Ideal S128x128 .f32) :
    k0_pay545 (k0_pay502 (k0_pay453 (k0_pay40 (k0_pay39 lb) f) (k0_pay403 (k0_pay103 a (k0_pay58 (k0_pay40 (k0_pay39 lb) f)))) (k0_pay419 (k0_pay103 a (k0_pay58 (k0_pay40 (k0_pay39 lb) f))))) (k0_pay470 v)) (k0_pay518 (k0_pay419 (k0_pay103 a (k0_pay58 (k0_pay40 (k0_pay39 lb) f))))) S =
    Sp (Kp lb f) (Dp a (Gp (Kp lb f))) v S := rfl

theorem S_1_4 (f v : FVec Ideal S64x128 .f32) (lb : FVec Ideal S1x128 .f32) (a : FVec Ideal S448x64 .bf16) (S : FVec Ideal S128x128 .f32) :
    k0_pay551 (k0_pay503 (k0_pay454 (k0_pay41 lb f) (k0_pay404 (k0_pay104 a (k0_pay59 (k0_pay41 lb f)))) (k0_pay420 (k0_pay104 a (k0_pay59 (k0_pay41 lb f))))) (k0_pay471 v)) (k0_pay519 (k0_pay420 (k0_pay104 a (k0_pay59 (k0_pay41 lb f))))) S =
    Sp (Kp lb f) (Dp a (Gp (Kp lb f))) v S := rfl

theorem S_1_5 (f v : FVec Ideal S64x128 .f32) (lb : FVec Ideal S1x128 .f32) (a : FVec Ideal S448x64 .bf16) (S : FVec Ideal S128x128 .f32) :
    k0_pay557 (k0_pay504 (k0_pay455 (k0_pay42 lb f) (k0_pay405 (k0_pay105 a (k0_pay60 (k0_pay42 lb f)))) (k0_pay421 (k0_pay105 a (k0_pay60 (k0_pay42 lb f))))) (k0_pay472 v)) (k0_pay520 (k0_pay421 (k0_pay105 a (k0_pay60 (k0_pay42 lb f))))) S =
    Sp (Kp lb f) (Dp a (Gp (Kp lb f))) v S := rfl

theorem S_1_6 (f v : FVec Ideal S64x128 .f32) (lb : FVec Ideal S1x128 .f32) (a : FVec Ideal S448x64 .bf16) (S : FVec Ideal S128x128 .f32) :
    k0_pay562 (k0_pay505 (k0_pay456 (k0_pay43 lb f) (k0_pay406 (k0_pay110 a (k0_pay106 (k0_pay61 (k0_pay43 lb f))) (k0_pay108 (k0_pay61 (k0_pay43 lb f))) (k0_pay109 (k0_pay61 (k0_pay43 lb f))))) (k0_pay422 (k0_pay110 a (k0_pay106 (k0_pay61 (k0_pay43 lb f))) (k0_pay108 (k0_pay61 (k0_pay43 lb f))) (k0_pay109 (k0_pay61 (k0_pay43 lb f)))))) (k0_pay473 v)) (k0_pay521 (k0_pay422 (k0_pay110 a (k0_pay106 (k0_pay61 (k0_pay43 lb f))) (k0_pay108 (k0_pay61 (k0_pay43 lb f))) (k0_pay109 (k0_pay61 (k0_pay43 lb f)))))) S =
    Sp (Kp lb f) (Dp a (Gp (Kp lb f))) v S := rfl

theorem S_1_7 (f v : FVec Ideal S64x128 .f32) (lb : FVec Ideal S1x128 .f32) (a : FVec Ideal S448x64 .bf16) (S : FVec Ideal S128x128 .f32) :
    k0_pay569 (k0_pay506 (k0_pay458 (k0_pay45 (k0_pay44 lb) f) (k0_pay407 (k0_pay111 a (k0_pay63 (k0_pay62 (k0_pay45 (k0_pay44 lb) f))))) (k0_pay457 (k0_pay423 (k0_pay111 a (k0_pay63 (k0_pay62 (k0_pay45 (k0_pay44 lb) f))))))) (k0_pay474 v)) (k0_pay522 (k0_pay423 (k0_pay111 a (k0_pay63 (k0_pay62 (k0_pay45 (k0_pay44 lb) f)))))) S =
    Sp (Kp lb f) (Dp a (Gp (Kp lb f))) v S := rfl

end Cert.KernelIdeal.Hand
end
-- ==== Proof.ChunkO0.lean ====
module

public import proofs.«01_k».proof.Proof.Body

@[expose] public section

set_option maxRecDepth 16384

noncomputable section

namespace Cert.KernelIdeal.Hand

open Cert.KernelIdeal Cert.KernelIdeal.Gen Idealize.ShloMosaic Idealize.ShloMosaic.TcCoe Idealize.SL.Sem

theorem O_0_0 (q f v g : FVec Ideal S64x128 .f32) (lb nw : FVec Ideal S1x128 .f32) (a : FVec Ideal S448x64 .bf16) (L : FVec Ideal S1x128x128 .f32) :
    k0_pay529 (k0_pay5 nw) (k0_pay525 (k0_pay424 (k0_pay64 q) (k0_pay80 a (k0_pay46 (k0_pay26 (k0_pay25 lb) f)))) (k0_pay475 (k0_pay376 (k0_pay23 (iota .tc S64x64 32 [0] iota_S64x64_d0_w32) (iota .tc S64x64 32 [1] iota_S64x64_d1_w32)) (k0_pay330 (k0_pay22 (iota .tc S64x64 32 [0] iota_S64x64_d0_w32) (iota .tc S64x64 32 [1] iota_S64x64_d1_w32)) (k0_pay285 (k0_pay21 (k0_pay19 (iota .tc S64x64 32 [0] iota_S64x64_d0_w32) (iota .tc S64x64 32 [1] iota_S64x64_d1_w32)) (k0_pay20 (iota .tc S64x64 32 [1] iota_S64x64_d1_w32))) (k0_pay242 (k0_pay18 (iota .tc S64x64 32 [0] iota_S64x64_d0_w32) (iota .tc S64x64 32 [1] iota_S64x64_d1_w32)) (k0_pay201 (k0_pay17 (k0_pay15 (iota .tc S64x64 32 [0] iota_S64x64_d0_w32) (iota .tc S64x64 32 [1] iota_S64x64_d1_w32)) (k0_pay16 (iota .tc S64x64 32 [1] iota_S64x64_d1_w32))) (k0_pay158 (k0_pay14 (iota .tc S64x64 32 [0] iota_S64x64_d0_w32) (iota .tc S64x64 32 [1] iota_S64x64_d1_w32)) (k0_pay112 (k0_pay24 (iota .tc S64x64 32 [0] iota_S64x64_d0_w32) (iota .tc S64x64 32 [1] iota_S64x64_d1_w32)) (k0_pay26 (k0_pay25 lb) f) (k0_pay64 q)) (k0_pay129 k0_pay6 (k0_pay26 (k0_pay25 lb) f) (k0_pay64 q) (k0_pay80 a (k0_pay46 (k0_pay26 (k0_pay25 lb) f))))) (k0_pay174 k0_pay7 (k0_pay26 (k0_pay25 lb) f) (k0_pay64 q) (k0_pay80 a (k0_pay46 (k0_pay26 (k0_pay25 lb) f))))) (k0_pay217 k0_pay8 (k0_pay26 (k0_pay25 lb) f) (k0_pay64 q) (k0_pay80 a (k0_pay46 (k0_pay26 (k0_pay25 lb) f))))) (k0_pay275 (k0_pay258 k0_pay9 (k0_pay26 (k0_pay25 lb) f) (k0_pay64 q) (k0_pay80 a (k0_pay46 (k0_pay26 (k0_pay25 lb) f)))))) (k0_pay319 (k0_pay301 (k0_pay12 k0_pay10 k0_pay11) (k0_pay26 (k0_pay25 lb) f) (k0_pay64 q) (k0_pay80 a (k0_pay46 (k0_pay26 (k0_pay25 lb) f)))))) (k0_pay364 (k0_pay346 (k0_pay13 (iota .tc S64x128 32 [0] iota_S64x128_d0_w32)) (k0_pay26 (k0_pay25 lb) f) (k0_pay64 q) (k0_pay80 a (k0_pay46 (k0_pay26 (k0_pay25 lb) f)))))) (k0_pay459 v)) L) g =
    Op (k0_pay5 nw) (Qp q) (Kp lb f) (Dp a (Gp (Kp lb f))) v (k0_pay523 L) g := rfl

theorem O_0_1 (q f v g : FVec Ideal S64x128 .f32) (lb nw : FVec Ideal S1x128 .f32) (a : FVec Ideal S448x64 .bf16) (S : FVec Ideal S128x128 .f32) :
    k0_pay533 (k0_pay5 nw) (k0_pay426 (k0_pay65 q) (k0_pay425 (k0_pay81 a (k0_pay47 (k0_pay27 lb f))))) (k0_pay476 (k0_pay377 (k0_pay23 (iota .tc S64x64 32 [0] iota_S64x64_d0_w32) (iota .tc S64x64 32 [1] iota_S64x64_d1_w32)) (k0_pay331 (k0_pay22 (iota .tc S64x64 32 [0] iota_S64x64_d0_w32) (iota .tc S64x64 32 [1] iota_S64x64_d1_w32)) (k0_pay286 (k0_pay21 (k0_pay19 (iota .tc S64x64 32 [0] iota_S64x64_d0_w32) (iota .tc S64x64 32 [1] iota_S64x64_d1_w32)) (k0_pay20 (iota .tc S64x64 32 [1] iota_S64x64_d1_w32))) (k0_pay243 (k0_pay18 (iota .tc S64x64 32 [0] iota_S64x64_d0_w32) (iota .tc S64x64 32 [1] iota_S64x64_d1_w32)) (k0_pay202 (k0_pay17 (k0_pay15 (iota .tc S64x64 32 [0] iota_S64x64_d0_w32) (iota .tc S64x64 32 [1] iota_S64x64_d1_w32)) (k0_pay16 (iota .tc S64x64 32 [1] iota_S64x64_d1_w32))) (k0_pay159 (k0_pay14 (iota .tc S64x64 32 [0] iota_S64x64_d0_w32) (iota .tc S64x64 32 [1] iota_S64x64_d1_w32)) (k0_pay113 (k0_pay24 (iota .tc S64x64 32 [0] iota_S64x64_d0_w32) (iota .tc S64x64 32 [1] iota_S64x64_d1_w32)) (k0_pay27 lb f) (k0_pay65 q)) (k0_pay130 k0_pay6 (k0_pay27 lb f) (k0_pay65 q) (k0_pay81 a (k0_pay47 (k0_pay27 lb f))))) (k0_pay175 k0_pay7 (k0_pay27 lb f) (k0_pay65 q) (k0_pay81 a (k0_pay47 (k0_pay27 lb f))))) (k0_pay218 k0_pay8 (k0_pay27 lb f) (k0_pay65 q) (k0_pay81 a (k0_pay47 (k0_pay27 lb f))))) (k0_pay276 (k0_pay259 k0_pay9 (k0_pay27 lb f) (k0_pay65 q) (k0_pay81 a (k0_pay47 (k0_pay27 lb f)))))) (k0_pay320 (k0_pay302 (k0_pay12 k0_pay10 k0_pay11) (k0_pay27 lb f) (k0_pay65 q) (k0_pay81 a (k0_pay47 (k0_pay27 lb f)))))) (k0_pay365 (k0_pay347 (k0_pay13 (iota .tc S64x128 32 [0] iota_S64x128_d0_w32)) (k0_pay27 lb f) (k0_pay65 q) (k0_pay81 a (k0_pay47 (k0_pay27 lb f)))))) (k0_pay460 v)) S g =
    Op (k0_pay5 nw) (Qp q) (Kp lb f) (Dp a (Gp (Kp lb f))) v S g := rfl

theorem O_0_2 (q f v g : FVec Ideal S64x128 .f32) (lb nw : FVec Ideal S1x128 .f32) (a : FVec Ideal S448x64 .bf16) (S : FVec Ideal S128x128 .f32) :
    k0_pay539 (k0_pay5 nw) (k0_pay427 (k0_pay66 q) (k0_pay394 (k0_pay86 a (k0_pay82 (k0_pay48 (k0_pay28 lb f))) (k0_pay84 (k0_pay48 (k0_pay28 lb f))) (k0_pay85 (k0_pay48 (k0_pay28 lb f)))))) (k0_pay477 (k0_pay378 (k0_pay23 (iota .tc S64x64 32 [0] iota_S64x64_d0_w32) (iota .tc S64x64 32 [1] iota_S64x64_d1_w32)) (k0_pay332 (k0_pay22 (iota .tc S64x64 32 [0] iota_S64x64_d0_w32) (iota .tc S64x64 32 [1] iota_S64x64_d1_w32)) (k0_pay287 (k0_pay21 (k0_pay19 (iota .tc S64x64 32 [0] iota_S64x64_d0_w32) (iota .tc S64x64 32 [1] iota_S64x64_d1_w32)) (k0_pay20 (iota .tc S64x64 32 [1] iota_S64x64_d1_w32))) (k0_pay244 (k0_pay18 (iota .tc S64x64 32 [0] iota_S64x64_d0_w32) (iota .tc S64x64 32 [1] iota_S64x64_d1_w32)) (k0_pay203 (k0_pay17 (k0_pay15 (iota .tc S64x64 32 [0] iota_S64x64_d0_w32) (iota .tc S64x64 32 [1] iota_S64x64_d1_w32)) (k0_pay16 (iota .tc S64x64 32 [1] iota_S64x64_d1_w32))) (k0_pay160 (k0_pay14 (iota .tc S64x64 32 [0] iota_S64x64_d0_w32) (iota .tc S64x64 32 [1] iota_S64x64_d1_w32)) (k0_pay114 (k0_pay24 (iota .tc S64x64 32 [0] iota_S64x64_d0_w32) (iota .tc S64x64 32 [1] iota_S64x64_d1_w32)) (k0_pay28 lb f) (k0_pay66 q)) (k0_pay133 (k0_pay131 k0_pay6 (k0_pay28 lb f) (k0_pay66 q)) (k0_pay132 (k0_pay86 a (k0_pay82 (k0_pay48 (k0_pay28 lb f))) (k0_pay84 (k0_pay48 (k0_pay28 lb f))) (k0_pay85 (k0_pay48 (k0_pay28 lb f))))))) (k0_pay176 k0_pay7 (k0_pay28 lb f) (k0_pay66 q) (k0_pay86 a (k0_pay82 (k0_pay48 (k0_pay28 lb f))) (k0_pay84 (k0_pay48 (k0_pay28 lb f))) (k0_pay85 (k0_pay48 (k0_pay28 lb f)))))) (k0_pay219 k0_pay8 (k0_pay28 lb f) (k0_pay66 q) (k0_pay86 a (k0_pay82 (k0_pay48 (k0_pay28 lb f))) (k0_pay84 (k0_pay48 (k0_pay28 lb f))) (k0_pay85 (k0_pay48 (k0_pay28 lb f)))))) (k0_pay260 k0_pay9 (k0_pay28 lb f) (k0_pay66 q) (k0_pay86 a (k0_pay82 (k0_pay48 (k0_pay28 lb f))) (k0_pay84 (k0_pay48 (k0_pay28 lb f))) (k0_pay85 (k0_pay48 (k0_pay28 lb f)))))) (k0_pay321 (k0_pay303 (k0_pay12 k0_pay10 k0_pay11) (k0_pay28 lb f) (k0_pay66 q) (k0_pay86 a (k0_pay82 (k0_pay48 (k0_pay28 lb f))) (k0_pay84 (k0_pay48 (k0_pay28 lb f))) (k0_pay85 (k0_pay48 (k0_pay28 lb f))))))) (k0_pay366 (k0_pay348 (k0_pay13 (iota .tc S64x128 32 [0] iota_S64x128_d0_w32)) (k0_pay28 lb f) (k0_pay66 q) (k0_pay86 a (k0_pay82 (k0_pay48 (k0_pay28 lb f))) (k0_pay84 (k0_pay48 (k0_pay28 lb f))) (k0_pay85 (k0_pay48 (k0_pay28 lb f))))))) (k0_pay461 v)) S g =
    Op (k0_pay5 nw) (Qp q) (Kp lb f) (Dp a (Gp (Kp lb f))) v S g := rfl

theorem O_0_3 (q f v g : FVec Ideal S64x128 .f32) (lb nw : FVec Ideal S1x128 .f32) (a : FVec Ideal S448x64 .bf16) (S : FVec Ideal S128x128 .f32) :
    k0_pay546 (k0_pay5 nw) (k0_pay428 (k0_pay67 q) (k0_pay395 (k0_pay87 a (k0_pay49 (k0_pay29 lb f))))) (k0_pay478 (k0_pay379 (k0_pay23 (iota .tc S64x64 32 [0] iota_S64x64_d0_w32) (iota .tc S64x64 32 [1] iota_S64x64_d1_w32)) (k0_pay333 (k0_pay22 (iota .tc S64x64 32 [0] iota_S64x64_d0_w32) (iota .tc S64x64 32 [1] iota_S64x64_d1_w32)) (k0_pay288 (k0_pay21 (k0_pay19 (iota .tc S64x64 32 [0] iota_S64x64_d0_w32) (iota .tc S64x64 32 [1] iota_S64x64_d1_w32)) (k0_pay20 (iota .tc S64x64 32 [1] iota_S64x64_d1_w32))) (k0_pay245 (k0_pay18 (iota .tc S64x64 32 [0] iota_S64x64_d0_w32) (iota .tc S64x64 32 [1] iota_S64x64_d1_w32)) (k0_pay204 (k0_pay17 (k0_pay15 (iota .tc S64x64 32 [0] iota_S64x64_d0_w32) (iota .tc S64x64 32 [1] iota_S64x64_d1_w32)) (k0_pay16 (iota .tc S64x64 32 [1] iota_S64x64_d1_w32))) (k0_pay161 (k0_pay14 (iota .tc S64x64 32 [0] iota_S64x64_d0_w32) (iota .tc S64x64 32 [1] iota_S64x64_d1_w32)) (k0_pay115 (k0_pay24 (iota .tc S64x64 32 [0] iota_S64x64_d0_w32) (iota .tc S64x64 32 [1] iota_S64x64_d1_w32)) (k0_pay29 lb f) (k0_pay67 q)) (k0_pay134 k0_pay6 (k0_pay29 lb f) (k0_pay67 q) (k0_pay87 a (k0_pay49 (k0_pay29 lb f))))) (k0_pay178 (k0_pay87 a (k0_pay49 (k0_pay29 lb f))) (k0_pay177 k0_pay7 (k0_pay29 lb f) (k0_pay67 q)))) (k0_pay220 k0_pay8 (k0_pay29 lb f) (k0_pay67 q) (k0_pay87 a (k0_pay49 (k0_pay29 lb f))))) (k0_pay261 k0_pay9 (k0_pay29 lb f) (k0_pay67 q) (k0_pay87 a (k0_pay49 (k0_pay29 lb f))))) (k0_pay322 (k0_pay304 (k0_pay12 k0_pay10 k0_pay11) (k0_pay29 lb f) (k0_pay67 q) (k0_pay87 a (k0_pay49 (k0_pay29 lb f)))))) (k0_pay367 (k0_pay349 (k0_pay13 (iota .tc S64x128 32 [0] iota_S64x128_d0_w32)) (k0_pay29 lb f) (k0_pay67 q) (k0_pay87 a (k0_pay49 (k0_pay29 lb f)))))) (k0_pay462 v)) S g =
    Op (k0_pay5 nw) (Qp q) (Kp lb f) (Dp a (Gp (Kp lb f))) v S g := rfl

theorem O_0_4 (q f v g : FVec Ideal S64x128 .f32) (lb nw : FVec Ideal S1x128 .f32) (a : FVec Ideal S448x64 .bf16) (S : FVec Ideal S128x128 .f32) :
    k0_pay552 (k0_pay5 nw) (k0_pay429 (k0_pay68 q) (k0_pay396 (k0_pay88 a (k0_pay50 (k0_pay30 lb f))))) (k0_pay479 (k0_pay380 (k0_pay23 (iota .tc S64x64 32 [0] iota_S64x64_d0_w32) (iota .tc S64x64 32 [1] iota_S64x64_d1_w32)) (k0_pay334 (k0_pay22 (iota .tc S64x64 32 [0] iota_S64x64_d0_w32) (iota .tc S64x64 32 [1] iota_S64x64_d1_w32)) (k0_pay289 (k0_pay21 (k0_pay19 (iota .tc S64x64 32 [0] iota_S64x64_d0_w32) (iota .tc S64x64 32 [1] iota_S64x64_d1_w32)) (k0_pay20 (iota .tc S64x64 32 [1] iota_S64x64_d1_w32))) (k0_pay246 (k0_pay18 (iota .tc S64x64 32 [0] iota_S64x64_d0_w32) (iota .tc S64x64 32 [1] iota_S64x64_d1_w32)) (k0_pay205 (k0_pay17 (k0_pay15 (iota .tc S64x64 32 [0] iota_S64x64_d0_w32) (iota .tc S64x64 32 [1] iota_S64x64_d1_w32)) (k0_pay16 (iota .tc S64x64 32 [1] iota_S64x64_d1_w32))) (k0_pay162 (k0_pay14 (iota .tc S64x64 32 [0] iota_S64x64_d0_w32) (iota .tc S64x64 32 [1] iota_S64x64_d1_w32)) (k0_pay116 (k0_pay24 (iota .tc S64x64 32 [0] iota_S64x64_d0_w32) (iota .tc S64x64 32 [1] iota_S64x64_d1_w32)) (k0_pay30 lb f) (k0_pay68 q)) (k0_pay135 k0_pay6 (k0_pay30 lb f) (k0_pay68 q) (k0_pay88 a (k0_pay50 (k0_pay30 lb f))))) (k0_pay179 k0_pay7 (k0_pay30 lb f) (k0_pay68 q) (k0_pay88 a (k0_pay50 (k0_pay30 lb f))))) (k0_pay221 k0_pay8 (k0_pay30 lb f) (k0_pay68 q) (k0_pay88 a (k0_pay50 (k0_pay30 lb f))))) (k0_pay263 (k0_pay262 k0_pay9 (k0_pay30 lb f) (k0_pay68 q) (k0_pay88 a (k0_pay50 (k0_pay30 lb f)))))) (k0_pay305 (k0_pay12 k0_pay10 k0_pay11) (k0_pay30 lb f) (k0_pay68 q) (k0_pay88 a (k0_pay50 (k0_pay30 lb f))))) (k0_pay368 (k0_pay350 (k0_pay13 (iota .tc S64x128 32 [0] iota_S64x128_d0_w32)) (k0_pay30 lb f) (k0_pay68 q) (k0_pay88 a (k0_pay50 (k0_pay30 lb f)))))) (k0_pay463 v)) S g =
    Op (k0_pay5 nw) (Qp q) (Kp lb f) (Dp a (Gp (Kp lb f))) v S g := rfl

theorem O_0_5 (q f v g : FVec Ideal S64x128 .f32) (lb nw : FVec Ideal S1x128 .f32) (a : FVec Ideal S448x64 .bf16) (S : FVec Ideal S128x128 .f32) :
    k0_pay558 (k0_pay5 nw) (k0_pay430 (k0_pay69 q) (k0_pay397 (k0_pay89 a (k0_pay51 (k0_pay31 lb f))))) (k0_pay480 (k0_pay381 (k0_pay23 (iota .tc S64x64 32 [0] iota_S64x64_d0_w32) (iota .tc S64x64 32 [1] iota_S64x64_d1_w32)) (k0_pay335 (k0_pay22 (iota .tc S64x64 32 [0] iota_S64x64_d0_w32) (iota .tc S64x64 32 [1] iota_S64x64_d1_w32)) (k0_pay290 (k0_pay21 (k0_pay19 (iota .tc S64x64 32 [0] iota_S64x64_d0_w32) (iota .tc S64x64 32 [1] iota_S64x64_d1_w32)) (k0_pay20 (iota .tc S64x64 32 [1] iota_S64x64_d1_w32))) (k0_pay247 (k0_pay18 (iota .tc S64x64 32 [0] iota_S64x64_d0_w32) (iota .tc S64x64 32 [1] iota_S64x64_d1_w32)) (k0_pay206 (k0_pay17 (k0_pay15 (iota .tc S64x64 32 [0] iota_S64x64_d0_w32) (iota .tc S64x64 32 [1] iota_S64x64_d1_w32)) (k0_pay16 (iota .tc S64x64 32 [1] iota_S64x64_d1_w32))) (k0_pay163 (k0_pay14 (iota .tc S64x64 32 [0] iota_S64x64_d0_w32) (iota .tc S64x64 32 [1] iota_S64x64_d1_w32)) (k0_pay117 (k0_pay24 (iota .tc S64x64 32 [0] iota_S64x64_d0_w32) (iota .tc S64x64 32 [1] iota_S64x64_d1_w32)) (k0_pay31 lb f) (k0_pay69 q)) (k0_pay147 (k0_pay136 k0_pay6 (k0_pay31 lb f) (k0_pay69 q) (k0_pay89 a (k0_pay51 (k0_pay31 lb f)))))) (k0_pay180 k0_pay7 (k0_pay31 lb f) (k0_pay69 q) (k0_pay89 a (k0_pay51 (k0_pay31 lb f))))) (k0_pay222 k0_pay8 (k0_pay31 lb f) (k0_pay69 q) (k0_pay89 a (k0_pay51 (k0_pay31 lb f))))) (k0_pay264 k0_pay9 (k0_pay31 lb f) (k0_pay69 q) (k0_pay89 a (k0_pay51 (k0_pay31 lb f))))) (k0_pay308 (k0_pay306 (k0_pay12 k0_pay10 k0_pay11) (k0_pay31 lb f) (k0_pay69 q)) (k0_pay307 (k0_pay89 a (k0_pay51 (k0_pay31 lb f)))))) (k0_pay369 (k0_pay351 (k0_pay13 (iota .tc S64x128 32 [0] iota_S64x128_d0_w32)) (k0_pay31 lb f) (k0_pay69 q) (k0_pay89 a (k0_pay51 (k0_pay31 lb f)))))) (k0_pay464 v)) S g =
    Op (k0_pay5 nw) (Qp q) (Kp lb f) (Dp a (Gp (Kp lb f))) v S g := rfl

theorem O_0_6 (q f v g : FVec Ideal S64x128 .f32) (lb nw : FVec Ideal S1x128 .f32) (a : FVec Ideal S448x64 .bf16) (S : FVec Ideal S128x128 .f32) :
    k0_pay564 (k0_pay563 (k0_pay5 nw) (k0_pay431 (k0_pay70 q) (k0_pay398 (k0_pay94 a (k0_pay90 (k0_pay53 (k0_pay52 (k0_pay32 lb f)))) (k0_pay92 (k0_pay53 (k0_pay52 (k0_pay32 lb f)))) (k0_pay93 (k0_pay53 (k0_pay52 (k0_pay32 lb f))))))) (k0_pay481 (k0_pay382 (k0_pay23 (iota .tc S64x64 32 [0] iota_S64x64_d0_w32) (iota .tc S64x64 32 [1] iota_S64x64_d1_w32)) (k0_pay336 (k0_pay22 (iota .tc S64x64 32 [0] iota_S64x64_d0_w32) (iota .tc S64x64 32 [1] iota_S64x64_d1_w32)) (k0_pay291 (k0_pay21 (k0_pay19 (iota .tc S64x64 32 [0] iota_S64x64_d0_w32) (iota .tc S64x64 32 [1] iota_S64x64_d1_w32)) (k0_pay20 (iota .tc S64x64 32 [1] iota_S64x64_d1_w32))) (k0_pay248 (k0_pay18 (iota .tc S64x64 32 [0] iota_S64x64_d0_w32) (iota .tc S64x64 32 [1] iota_S64x64_d1_w32)) (k0_pay207 (k0_pay17 (k0_pay15 (iota .tc S64x64 32 [0] iota_S64x64_d0_w32) (iota .tc S64x64 32 [1] iota_S64x64_d1_w32)) (k0_pay16 (iota .tc S64x64 32 [1] iota_S64x64_d1_w32))) (k0_pay164 (k0_pay14 (iota .tc S64x64 32 [0] iota_S64x64_d0_w32) (iota .tc S64x64 32 [1] iota_S64x64_d1_w32)) (k0_pay118 (k0_pay24 (iota .tc S64x64 32 [0] iota_S64x64_d0_w32) (iota .tc S64x64 32 [1] iota_S64x64_d1_w32)) (k0_pay32 lb f) (k0_pay70 q)) (k0_pay148 (k0_pay137 k0_pay6 (k0_pay32 lb f) (k0_pay70 q) (k0_pay94 a (k0_pay90 (k0_pay53 (k0_pay52 (k0_pay32 lb f)))) (k0_pay92 (k0_pay53 (k0_pay52 (k0_pay32 lb f)))) (k0_pay93 (k0_pay53 (k0_pay52 (k0_pay32 lb f)))))))) (k0_pay191 (k0_pay181 k0_pay7 (k0_pay32 lb f) (k0_pay70 q) (k0_pay94 a (k0_pay90 (k0_pay53 (k0_pay52 (k0_pay32 lb f)))) (k0_pay92 (k0_pay53 (k0_pay52 (k0_pay32 lb f)))) (k0_pay93 (k0_pay53 (k0_pay52 (k0_pay32 lb f)))))))) (k0_pay223 k0_pay8 (k0_pay32 lb f) (k0_pay70 q) (k0_pay94 a (k0_pay90 (k0_pay53 (k0_pay52 (k0_pay32 lb f)))) (k0_pay92 (k0_pay53 (k0_pay52 (k0_pay32 lb f)))) (k0_pay93 (k0_pay53 (k0_pay52 (k0_pay32 lb f))))))) (k0_pay265 k0_pay9 (k0_pay32 lb f) (k0_pay70 q) (k0_pay94 a (k0_pay90 (k0_pay53 (k0_pay52 (k0_pay32 lb f)))) (k0_pay92 (k0_pay53 (k0_pay52 (k0_pay32 lb f)))) (k0_pay93 (k0_pay53 (k0_pay52 (k0_pay32 lb f))))))) (k0_pay309 (k0_pay12 k0_pay10 k0_pay11) (k0_pay32 lb f) (k0_pay70 q) (k0_pay94 a (k0_pay90 (k0_pay53 (k0_pay52 (k0_pay32 lb f)))) (k0_pay92 (k0_pay53 (k0_pay52 (k0_pay32 lb f)))) (k0_pay93 (k0_pay53 (k0_pay52 (k0_pay32 lb f))))))) (k0_pay354 (k0_pay352 (k0_pay13 (iota .tc S64x128 32 [0] iota_S64x128_d0_w32)) (k0_pay32 lb f) (k0_pay70 q)) (k0_pay353 (k0_pay94 a (k0_pay90 (k0_pay53 (k0_pay52 (k0_pay32 lb f)))) (k0_pay92 (k0_pay53 (k0_pay52 (k0_pay32 lb f)))) (k0_pay93 (k0_pay53 (k0_pay52 (k0_pay32 lb f)))))))) (k0_pay465 v)) S) g =
    Op (k0_pay5 nw) (Qp q) (Kp lb f) (Dp a (Gp (Kp lb f))) v S g := rfl

theorem O_0_7 (q f v g : FVec Ideal S64x128 .f32) (lb nw : FVec Ideal S1x128 .f32) (a : FVec Ideal S448x64 .bf16) (S : FVec Ideal S128x128 .f32) :
    k0_pay571 (k0_pay5 nw) (k0_pay566 (k0_pay432 (k0_pay71 q) (k0_pay399 (k0_pay95 a (k0_pay54 (k0_pay35 (k0_pay33 lb) f k0_pay34))))) (k0_pay482 (k0_pay383 (k0_pay23 (iota .tc S64x64 32 [0] iota_S64x64_d0_w32) (iota .tc S64x64 32 [1] iota_S64x64_d1_w32)) (k0_pay337 (k0_pay22 (iota .tc S64x64 32 [0] iota_S64x64_d0_w32) (iota .tc S64x64 32 [1] iota_S64x64_d1_w32)) (k0_pay292 (k0_pay21 (k0_pay19 (iota .tc S64x64 32 [0] iota_S64x64_d0_w32) (iota .tc S64x64 32 [1] iota_S64x64_d1_w32)) (k0_pay20 (iota .tc S64x64 32 [1] iota_S64x64_d1_w32))) (k0_pay249 (k0_pay18 (iota .tc S64x64 32 [0] iota_S64x64_d0_w32) (iota .tc S64x64 32 [1] iota_S64x64_d1_w32)) (k0_pay208 (k0_pay17 (k0_pay15 (iota .tc S64x64 32 [0] iota_S64x64_d0_w32) (iota .tc S64x64 32 [1] iota_S64x64_d1_w32)) (k0_pay16 (iota .tc S64x64 32 [1] iota_S64x64_d1_w32))) (k0_pay165 (k0_pay14 (iota .tc S64x64 32 [0] iota_S64x64_d0_w32) (iota .tc S64x64 32 [1] iota_S64x64_d1_w32)) (k0_pay119 (k0_pay24 (iota .tc S64x64 32 [0] iota_S64x64_d0_w32) (iota .tc S64x64 32 [1] iota_S64x64_d1_w32)) (k0_pay35 (k0_pay33 lb) f k0_pay34) (k0_pay71 q)) (k0_pay149 (k0_pay138 k0_pay6 (k0_pay35 (k0_pay33 lb) f k0_pay34) (k0_pay71 q) (k0_pay95 a (k0_pay54 (k0_pay35 (k0_pay33 lb) f k0_pay34)))))) (k0_pay192 (k0_pay182 k0_pay7 (k0_pay35 (k0_pay33 lb) f k0_pay34) (k0_pay71 q) (k0_pay95 a (k0_pay54 (k0_pay35 (k0_pay33 lb) f k0_pay34)))))) (k0_pay233 (k0_pay224 k0_pay8 (k0_pay35 (k0_pay33 lb) f k0_pay34) (k0_pay71 q) (k0_pay95 a (k0_pay54 (k0_pay35 (k0_pay33 lb) f k0_pay34)))))) (k0_pay266 k0_pay9 (k0_pay35 (k0_pay33 lb) f k0_pay34) (k0_pay71 q) (k0_pay95 a (k0_pay54 (k0_pay35 (k0_pay33 lb) f k0_pay34))))) (k0_pay310 (k0_pay12 k0_pay10 k0_pay11) (k0_pay35 (k0_pay33 lb) f k0_pay34) (k0_pay71 q) (k0_pay95 a (k0_pay54 (k0_pay35 (k0_pay33 lb) f k0_pay34))))) (k0_pay355 (k0_pay13 (iota .tc S64x128 32 [0] iota_S64x128_d0_w32)) (k0_pay35 (k0_pay33 lb) f k0_pay34) (k0_pay71 q) (k0_pay95 a (k0_pay54 (k0_pay35 (k0_pay33 lb) f k0_pay34))))) (k0_pay466 v)) S) (k0_pay570 (k0_pay432 (k0_pay71 q) (k0_pay399 (k0_pay95 a (k0_pay54 (k0_pay35 (k0_pay33 lb) f k0_pay34))))) (k0_pay482 (k0_pay383 (k0_pay23 (iota .tc S64x64 32 [0] iota_S64x64_d0_w32) (iota .tc S64x64 32 [1] iota_S64x64_d1_w32)) (k0_pay337 (k0_pay22 (iota .tc S64x64 32 [0] iota_S64x64_d0_w32) (iota .tc S64x64 32 [1] iota_S64x64_d1_w32)) (k0_pay292 (k0_pay21 (k0_pay19 (iota .tc S64x64 32 [0] iota_S64x64_d0_w32) (iota .tc S64x64 32 [1] iota_S64x64_d1_w32)) (k0_pay20 (iota .tc S64x64 32 [1] iota_S64x64_d1_w32))) (k0_pay249 (k0_pay18 (iota .tc S64x64 32 [0] iota_S64x64_d0_w32) (iota .tc S64x64 32 [1] iota_S64x64_d1_w32)) (k0_pay208 (k0_pay17 (k0_pay15 (iota .tc S64x64 32 [0] iota_S64x64_d0_w32) (iota .tc S64x64 32 [1] iota_S64x64_d1_w32)) (k0_pay16 (iota .tc S64x64 32 [1] iota_S64x64_d1_w32))) (k0_pay165 (k0_pay14 (iota .tc S64x64 32 [0] iota_S64x64_d0_w32) (iota .tc S64x64 32 [1] iota_S64x64_d1_w32)) (k0_pay119 (k0_pay24 (iota .tc S64x64 32 [0] iota_S64x64_d0_w32) (iota .tc S64x64 32 [1] iota_S64x64_d1_w32)) (k0_pay35 (k0_pay33 lb) f k0_pay34) (k0_pay71 q)) (k0_pay149 (k0_pay138 k0_pay6 (k0_pay35 (k0_pay33 lb) f k0_pay34) (k0_pay71 q) (k0_pay95 a (k0_pay54 (k0_pay35 (k0_pay33 lb) f k0_pay34)))))) (k0_pay192 (k0_pay182 k0_pay7 (k0_pay35 (k0_pay33 lb) f k0_pay34) (k0_pay71 q) (k0_pay95 a (k0_pay54 (k0_pay35 (k0_pay33 lb) f k0_pay34)))))) (k0_pay233 (k0_pay224 k0_pay8 (k0_pay35 (k0_pay33 lb) f k0_pay34) (k0_pay71 q) (k0_pay95 a (k0_pay54 (k0_pay35 (k0_pay33 lb) f k0_pay34)))))) (k0_pay266 k0_pay9 (k0_pay35 (k0_pay33 lb) f k0_pay34) (k0_pay71 q) (k0_pay95 a (k0_pay54 (k0_pay35 (k0_pay33 lb) f k0_pay34))))) (k0_pay310 (k0_pay12 k0_pay10 k0_pay11) (k0_pay35 (k0_pay33 lb) f k0_pay34) (k0_pay71 q) (k0_pay95 a (k0_pay54 (k0_pay35 (k0_pay33 lb) f k0_pay34))))) (k0_pay355 (k0_pay13 (iota .tc S64x128 32 [0] iota_S64x128_d0_w32)) (k0_pay35 (k0_pay33 lb) f k0_pay34) (k0_pay71 q) (k0_pay95 a (k0_pay54 (k0_pay35 (k0_pay33 lb) f k0_pay34))))) (k0_pay466 v)) S) g =
    Op (k0_pay5 nw) (Qp q) (Kp lb f) (Dp a (Gp (Kp lb f))) v S g := rfl

end Cert.KernelIdeal.Hand
end
-- ==== Proof.ChunkO1.lean ====
module

public import proofs.«01_k».proof.Proof.Body

@[expose] public section

set_option maxRecDepth 16384

noncomputable section

namespace Cert.KernelIdeal.Hand

open Cert.KernelIdeal Cert.KernelIdeal.Gen Idealize.ShloMosaic Idealize.ShloMosaic.TcCoe Idealize.SL.Sem

theorem O_1_0 (q f v g : FVec Ideal S64x128 .f32) (lb nw : FVec Ideal S1x128 .f32) (a : FVec Ideal S448x64 .bf16) (L : FVec Ideal S1x128x128 .f32) :
    k0_pay530 (k0_pay5 nw) (k0_pay433 (k0_pay72 q) (k0_pay400 (k0_pay96 a (k0_pay55 (k0_pay36 lb f))))) (k0_pay483 (k0_pay384 (k0_pay23 (iota .tc S64x64 32 [0] iota_S64x64_d0_w32) (iota .tc S64x64 32 [1] iota_S64x64_d1_w32)) (k0_pay338 (k0_pay22 (iota .tc S64x64 32 [0] iota_S64x64_d0_w32) (iota .tc S64x64 32 [1] iota_S64x64_d1_w32)) (k0_pay293 (k0_pay21 (k0_pay19 (iota .tc S64x64 32 [0] iota_S64x64_d0_w32) (iota .tc S64x64 32 [1] iota_S64x64_d1_w32)) (k0_pay20 (iota .tc S64x64 32 [1] iota_S64x64_d1_w32))) (k0_pay250 (k0_pay18 (iota .tc S64x64 32 [0] iota_S64x64_d0_w32) (iota .tc S64x64 32 [1] iota_S64x64_d1_w32)) (k0_pay209 (k0_pay17 (k0_pay15 (iota .tc S64x64 32 [0] iota_S64x64_d0_w32) (iota .tc S64x64 32 [1] iota_S64x64_d1_w32)) (k0_pay16 (iota .tc S64x64 32 [1] iota_S64x64_d1_w32))) (k0_pay166 (k0_pay14 (iota .tc S64x64 32 [0] iota_S64x64_d0_w32) (iota .tc S64x64 32 [1] iota_S64x64_d1_w32)) (k0_pay120 (k0_pay24 (iota .tc S64x64 32 [0] iota_S64x64_d0_w32) (iota .tc S64x64 32 [1] iota_S64x64_d1_w32)) (k0_pay36 lb f) (k0_pay72 q)) (k0_pay150 (k0_pay139 k0_pay6 (k0_pay36 lb f) (k0_pay72 q) (k0_pay96 a (k0_pay55 (k0_pay36 lb f)))))) (k0_pay193 (k0_pay183 k0_pay7 (k0_pay36 lb f) (k0_pay72 q) (k0_pay96 a (k0_pay55 (k0_pay36 lb f)))))) (k0_pay234 (k0_pay225 k0_pay8 (k0_pay36 lb f) (k0_pay72 q) (k0_pay96 a (k0_pay55 (k0_pay36 lb f)))))) (k0_pay277 (k0_pay267 k0_pay9 (k0_pay36 lb f) (k0_pay72 q) (k0_pay96 a (k0_pay55 (k0_pay36 lb f)))))) (k0_pay311 (k0_pay12 k0_pay10 k0_pay11) (k0_pay36 lb f) (k0_pay72 q) (k0_pay96 a (k0_pay55 (k0_pay36 lb f))))) (k0_pay356 (k0_pay13 (iota .tc S64x128 32 [0] iota_S64x128_d0_w32)) (k0_pay36 lb f) (k0_pay72 q) (k0_pay96 a (k0_pay55 (k0_pay36 lb f))))) (k0_pay467 v)) (k0_pay526 L) (constant S64x128 FTy.f32 0#32) g =
    Op (k0_pay5 nw) (Qp q) (Kp lb f) (Dp a (Gp (Kp lb f))) v (k0_pay523 L) g := rfl

theorem O_1_1 (q f v g : FVec Ideal S64x128 .f32) (lb nw : FVec Ideal S1x128 .f32) (a : FVec Ideal S448x64 .bf16) (S : FVec Ideal S128x128 .f32) :
    k0_pay536 (k0_pay534 (k0_pay5 nw) (k0_pay434 (k0_pay73 q) (k0_pay401 (k0_pay97 a (k0_pay56 (k0_pay37 lb f))))) (k0_pay484 (k0_pay385 (k0_pay23 (iota .tc S64x64 32 [0] iota_S64x64_d0_w32) (iota .tc S64x64 32 [1] iota_S64x64_d1_w32)) (k0_pay339 (k0_pay22 (iota .tc S64x64 32 [0] iota_S64x64_d0_w32) (iota .tc S64x64 32 [1] iota_S64x64_d1_w32)) (k0_pay294 (k0_pay21 (k0_pay19 (iota .tc S64x64 32 [0] iota_S64x64_d0_w32) (iota .tc S64x64 32 [1] iota_S64x64_d1_w32)) (k0_pay20 (iota .tc S64x64 32 [1] iota_S64x64_d1_w32))) (k0_pay251 (k0_pay18 (iota .tc S64x64 32 [0] iota_S64x64_d0_w32) (iota .tc S64x64 32 [1] iota_S64x64_d1_w32)) (k0_pay210 (k0_pay17 (k0_pay15 (iota .tc S64x64 32 [0] iota_S64x64_d0_w32) (iota .tc S64x64 32 [1] iota_S64x64_d1_w32)) (k0_pay16 (iota .tc S64x64 32 [1] iota_S64x64_d1_w32))) (k0_pay167 (k0_pay14 (iota .tc S64x64 32 [0] iota_S64x64_d0_w32) (iota .tc S64x64 32 [1] iota_S64x64_d1_w32)) (k0_pay121 (k0_pay24 (iota .tc S64x64 32 [0] iota_S64x64_d0_w32) (iota .tc S64x64 32 [1] iota_S64x64_d1_w32)) (k0_pay37 lb f) (k0_pay73 q)) (k0_pay151 (k0_pay140 k0_pay6 (k0_pay37 lb f) (k0_pay73 q) (k0_pay97 a (k0_pay56 (k0_pay37 lb f)))))) (k0_pay194 (k0_pay184 k0_pay7 (k0_pay37 lb f) (k0_pay73 q) (k0_pay97 a (k0_pay56 (k0_pay37 lb f)))))) (k0_pay235 (k0_pay226 k0_pay8 (k0_pay37 lb f) (k0_pay73 q) (k0_pay97 a (k0_pay56 (k0_pay37 lb f)))))) (k0_pay278 (k0_pay268 k0_pay9 (k0_pay37 lb f) (k0_pay73 q) (k0_pay97 a (k0_pay56 (k0_pay37 lb f)))))) (k0_pay323 (k0_pay312 (k0_pay12 k0_pay10 k0_pay11) (k0_pay37 lb f) (k0_pay73 q) (k0_pay97 a (k0_pay56 (k0_pay37 lb f)))))) (k0_pay357 (k0_pay13 (iota .tc S64x128 32 [0] iota_S64x128_d0_w32)) (k0_pay37 lb f) (k0_pay73 q) (k0_pay97 a (k0_pay56 (k0_pay37 lb f))))) (k0_pay468 v)) S) (k0_pay535 g) =
    Op (k0_pay5 nw) (Qp q) (Kp lb f) (Dp a (Gp (Kp lb f))) v S g := rfl

theorem O_1_2 (q f v g : FVec Ideal S64x128 .f32) (lb nw : FVec Ideal S1x128 .f32) (a : FVec Ideal S448x64 .bf16) (S : FVec Ideal S128x128 .f32) :
    k0_pay542 (k0_pay540 (k0_pay435 (k0_pay74 q) (k0_pay402 (k0_pay102 a (k0_pay98 (k0_pay57 (k0_pay38 lb f))) (k0_pay100 (k0_pay57 (k0_pay38 lb f))) (k0_pay101 (k0_pay57 (k0_pay38 lb f)))))) (k0_pay485 (k0_pay386 (k0_pay23 (iota .tc S64x64 32 [0] iota_S64x64_d0_w32) (iota .tc S64x64 32 [1] iota_S64x64_d1_w32)) (k0_pay340 (k0_pay22 (iota .tc S64x64 32 [0] iota_S64x64_d0_w32) (iota .tc S64x64 32 [1] iota_S64x64_d1_w32)) (k0_pay295 (k0_pay21 (k0_pay19 (iota .tc S64x64 32 [0] iota_S64x64_d0_w32) (iota .tc S64x64 32 [1] iota_S64x64_d1_w32)) (k0_pay20 (iota .tc S64x64 32 [1] iota_S64x64_d1_w32))) (k0_pay252 (k0_pay18 (iota .tc S64x64 32 [0] iota_S64x64_d0_w32) (iota .tc S64x64 32 [1] iota_S64x64_d1_w32)) (k0_pay211 (k0_pay17 (k0_pay15 (iota .tc S64x64 32 [0] iota_S64x64_d0_w32) (iota .tc S64x64 32 [1] iota_S64x64_d1_w32)) (k0_pay16 (iota .tc S64x64 32 [1] iota_S64x64_d1_w32))) (k0_pay168 (k0_pay14 (iota .tc S64x64 32 [0] iota_S64x64_d0_w32) (iota .tc S64x64 32 [1] iota_S64x64_d1_w32)) (k0_pay123 (k0_pay24 (iota .tc S64x64 32 [0] iota_S64x64_d0_w32) (iota .tc S64x64 32 [1] iota_S64x64_d1_w32)) (FloatOps.ofBits FTy.f32 0#32) (k0_pay122 (k0_pay38 lb f) (k0_pay74 q))) (k0_pay152 (k0_pay141 k0_pay6 (k0_pay38 lb f) (k0_pay74 q) (k0_pay102 a (k0_pay98 (k0_pay57 (k0_pay38 lb f))) (k0_pay100 (k0_pay57 (k0_pay38 lb f))) (k0_pay101 (k0_pay57 (k0_pay38 lb f))))))) (k0_pay195 (k0_pay185 k0_pay7 (k0_pay38 lb f) (k0_pay74 q) (k0_pay102 a (k0_pay98 (k0_pay57 (k0_pay38 lb f))) (k0_pay100 (k0_pay57 (k0_pay38 lb f))) (k0_pay101 (k0_pay57 (k0_pay38 lb f))))))) (k0_pay236 (k0_pay227 k0_pay8 (k0_pay38 lb f) (k0_pay74 q) (k0_pay102 a (k0_pay98 (k0_pay57 (k0_pay38 lb f))) (k0_pay100 (k0_pay57 (k0_pay38 lb f))) (k0_pay101 (k0_pay57 (k0_pay38 lb f))))))) (k0_pay279 (k0_pay269 k0_pay9 (k0_pay38 lb f) (k0_pay74 q) (k0_pay102 a (k0_pay98 (k0_pay57 (k0_pay38 lb f))) (k0_pay100 (k0_pay57 (k0_pay38 lb f))) (k0_pay101 (k0_pay57 (k0_pay38 lb f))))))) (k0_pay324 (k0_pay313 (k0_pay12 k0_pay10 k0_pay11) (k0_pay38 lb f) (k0_pay74 q) (k0_pay102 a (k0_pay98 (k0_pay57 (k0_pay38 lb f))) (k0_pay100 (k0_pay57 (k0_pay38 lb f))) (k0_pay101 (k0_pay57 (k0_pay38 lb f))))))) (k0_pay370 (k0_pay358 (k0_pay13 (iota .tc S64x128 32 [0] iota_S64x128_d0_w32)) (k0_pay38 lb f) (k0_pay74 q) (k0_pay102 a (k0_pay98 (k0_pay57 (k0_pay38 lb f))) (k0_pay100 (k0_pay57 (k0_pay38 lb f))) (k0_pay101 (k0_pay57 (k0_pay38 lb f))))))) (k0_pay469 v)) S) (k0_pay541 (k0_pay5 nw)) g =
    Op (k0_pay5 nw) (Qp q) (Kp lb f) (Dp a (Gp (Kp lb f))) v S g := rfl

theorem O_1_3 (q f v g : FVec Ideal S64x128 .f32) (lb nw : FVec Ideal S1x128 .f32) (a : FVec Ideal S448x64 .bf16) (S : FVec Ideal S128x128 .f32) :
    k0_pay548 (k0_pay5 nw) (k0_pay543 (k0_pay436 (k0_pay75 q) (k0_pay403 (k0_pay103 a (k0_pay58 (k0_pay40 (k0_pay39 lb) f))))) (k0_pay486 (k0_pay387 (k0_pay23 (iota .tc S64x64 32 [0] iota_S64x64_d0_w32) (iota .tc S64x64 32 [1] iota_S64x64_d1_w32)) (k0_pay341 (k0_pay22 (iota .tc S64x64 32 [0] iota_S64x64_d0_w32) (iota .tc S64x64 32 [1] iota_S64x64_d1_w32)) (k0_pay296 (k0_pay21 (k0_pay19 (iota .tc S64x64 32 [0] iota_S64x64_d0_w32) (iota .tc S64x64 32 [1] iota_S64x64_d1_w32)) (k0_pay20 (iota .tc S64x64 32 [1] iota_S64x64_d1_w32))) (k0_pay253 (k0_pay18 (iota .tc S64x64 32 [0] iota_S64x64_d0_w32) (iota .tc S64x64 32 [1] iota_S64x64_d1_w32)) (k0_pay212 (k0_pay17 (k0_pay15 (iota .tc S64x64 32 [0] iota_S64x64_d0_w32) (iota .tc S64x64 32 [1] iota_S64x64_d1_w32)) (k0_pay16 (iota .tc S64x64 32 [1] iota_S64x64_d1_w32))) (k0_pay169 (k0_pay14 (iota .tc S64x64 32 [0] iota_S64x64_d0_w32) (iota .tc S64x64 32 [1] iota_S64x64_d1_w32)) (k0_pay124 (k0_pay24 (iota .tc S64x64 32 [0] iota_S64x64_d0_w32) (iota .tc S64x64 32 [1] iota_S64x64_d1_w32)) (k0_pay40 (k0_pay39 lb) f) (k0_pay75 q)) (k0_pay153 (k0_pay142 k0_pay6 (k0_pay40 (k0_pay39 lb) f) (k0_pay75 q) (k0_pay103 a (k0_pay58 (k0_pay40 (k0_pay39 lb) f)))))) (k0_pay196 (k0_pay186 k0_pay7 (k0_pay40 (k0_pay39 lb) f) (k0_pay75 q) (k0_pay103 a (k0_pay58 (k0_pay40 (k0_pay39 lb) f)))))) (k0_pay237 (k0_pay228 k0_pay8 (k0_pay40 (k0_pay39 lb) f) (k0_pay75 q) (k0_pay103 a (k0_pay58 (k0_pay40 (k0_pay39 lb) f)))))) (k0_pay280 (k0_pay270 k0_pay9 (k0_pay40 (k0_pay39 lb) f) (k0_pay75 q) (k0_pay103 a (k0_pay58 (k0_pay40 (k0_pay39 lb) f)))))) (k0_pay325 (k0_pay314 (k0_pay12 k0_pay10 k0_pay11) (k0_pay40 (k0_pay39 lb) f) (k0_pay75 q) (k0_pay103 a (k0_pay58 (k0_pay40 (k0_pay39 lb) f)))))) (k0_pay371 (k0_pay359 (k0_pay13 (iota .tc S64x128 32 [0] iota_S64x128_d0_w32)) (k0_pay40 (k0_pay39 lb) f) (k0_pay75 q) (k0_pay103 a (k0_pay58 (k0_pay40 (k0_pay39 lb) f)))))) (k0_pay470 v)) S) (k0_pay547 (k0_pay436 (k0_pay75 q) (k0_pay403 (k0_pay103 a (k0_pay58 (k0_pay40 (k0_pay39 lb) f))))) (k0_pay486 (k0_pay387 (k0_pay23 (iota .tc S64x64 32 [0] iota_S64x64_d0_w32) (iota .tc S64x64 32 [1] iota_S64x64_d1_w32)) (k0_pay341 (k0_pay22 (iota .tc S64x64 32 [0] iota_S64x64_d0_w32) (iota .tc S64x64 32 [1] iota_S64x64_d1_w32)) (k0_pay296 (k0_pay21 (k0_pay19 (iota .tc S64x64 32 [0] iota_S64x64_d0_w32) (iota .tc S64x64 32 [1] iota_S64x64_d1_w32)) (k0_pay20 (iota .tc S64x64 32 [1] iota_S64x64_d1_w32))) (k0_pay253 (k0_pay18 (iota .tc S64x64 32 [0] iota_S64x64_d0_w32) (iota .tc S64x64 32 [1] iota_S64x64_d1_w32)) (k0_pay212 (k0_pay17 (k0_pay15 (iota .tc S64x64 32 [0] iota_S64x64_d0_w32) (iota .tc S64x64 32 [1] iota_S64x64_d1_w32)) (k0_pay16 (iota .tc S64x64 32 [1] iota_S64x64_d1_w32))) (k0_pay169 (k0_pay14 (iota .tc S64x64 32 [0] iota_S64x64_d0_w32) (iota .tc S64x64 32 [1] iota_S64x64_d1_w32)) (k0_pay124 (k0_pay24 (iota .tc S64x64 32 [0] iota_S64x64_d0_w32) (iota .tc S64x64 32 [1] iota_S64x64_d1_w32)) (k0_pay40 (k0_pay39 lb) f) (k0_pay75 q)) (k0_pay153 (k0_pay142 k0_pay6 (k0_pay40 (k0_pay39 lb) f) (k0_pay75 q) (k0_pay103 a (k0_pay58 (k0_pay40 (k0_pay39 lb) f)))))) (k0_pay196 (k0_pay186 k0_pay7 (k0_pay40 (k0_pay39 lb) f) (k0_pay75 q) (k0_pay103 a (k0_pay58 (k0_pay40 (k0_pay39 lb) f)))))) (k0_pay237 (k0_pay228 k0_pay8 (k0_pay40 (k0_pay39 lb) f) (k0_pay75 q) (k0_pay103 a (k0_pay58 (k0_pay40 (k0_pay39 lb) f)))))) (k0_pay280 (k0_pay270 k0_pay9 (k0_pay40 (k0_pay39 lb) f) (k0_pay75 q) (k0_pay103 a (k0_pay58 (k0_pay40 (k0_pay39 lb) f)))))) (k0_pay325 (k0_pay314 (k0_pay12 k0_pay10 k0_pay11) (k0_pay40 (k0_pay39 lb) f) (k0_pay75 q) (k0_pay103 a (k0_pay58 (k0_pay40 (k0_pay39 lb) f)))))) (k0_pay371 (k0_pay359 (k0_pay13 (iota .tc S64x128 32 [0] iota_S64x128_d0_w32)) (k0_pay40 (k0_pay39 lb) f) (k0_pay75 q) (k0_pay103 a (k0_pay58 (k0_pay40 (k0_pay39 lb) f)))))) (k0_pay470 v)) S) (FloatOps.ofBits FTy.f32 897988541#32) g =
    Op (k0_pay5 nw) (Qp q) (Kp lb f) (Dp a (Gp (Kp lb f))) v S g := rfl

theorem O_1_4 (q f v g : FVec Ideal S64x128 .f32) (lb nw : FVec Ideal S1x128 .f32) (a : FVec Ideal S448x64 .bf16) (S : FVec Ideal S128x128 .f32) :
    k0_pay554 (k0_pay5 nw) (k0_pay549 (k0_pay437 (k0_pay76 q) (k0_pay404 (k0_pay104 a (k0_pay59 (k0_pay41 lb f))))) (k0_pay487 (k0_pay388 (k0_pay23 (iota .tc S64x64 32 [0] iota_S64x64_d0_w32) (iota .tc S64x64 32 [1] iota_S64x64_d1_w32)) (k0_pay342 (k0_pay22 (iota .tc S64x64 32 [0] iota_S64x64_d0_w32) (iota .tc S64x64 32 [1] iota_S64x64_d1_w32)) (k0_pay297 (k0_pay21 (k0_pay19 (iota .tc S64x64 32 [0] iota_S64x64_d0_w32) (iota .tc S64x64 32 [1] iota_S64x64_d1_w32)) (k0_pay20 (iota .tc S64x64 32 [1] iota_S64x64_d1_w32))) (k0_pay254 (k0_pay18 (iota .tc S64x64 32 [0] iota_S64x64_d0_w32) (iota .tc S64x64 32 [1] iota_S64x64_d1_w32)) (k0_pay213 (k0_pay17 (k0_pay15 (iota .tc S64x64 32 [0] iota_S64x64_d0_w32) (iota .tc S64x64 32 [1] iota_S64x64_d1_w32)) (k0_pay16 (iota .tc S64x64 32 [1] iota_S64x64_d1_w32))) (k0_pay170 (k0_pay14 (iota .tc S64x64 32 [0] iota_S64x64_d0_w32) (iota .tc S64x64 32 [1] iota_S64x64_d1_w32)) (k0_pay125 (k0_pay24 (iota .tc S64x64 32 [0] iota_S64x64_d0_w32) (iota .tc S64x64 32 [1] iota_S64x64_d1_w32)) (k0_pay41 lb f) (k0_pay76 q)) (k0_pay154 (k0_pay143 k0_pay6 (k0_pay41 lb f) (k0_pay76 q) (k0_pay104 a (k0_pay59 (k0_pay41 lb f)))))) (k0_pay197 (k0_pay187 k0_pay7 (k0_pay41 lb f) (k0_pay76 q) (k0_pay104 a (k0_pay59 (k0_pay41 lb f)))))) (k0_pay238 (k0_pay229 k0_pay8 (k0_pay41 lb f) (k0_pay76 q) (k0_pay104 a (k0_pay59 (k0_pay41 lb f)))))) (k0_pay281 (k0_pay271 k0_pay9 (k0_pay41 lb f) (k0_pay76 q) (k0_pay104 a (k0_pay59 (k0_pay41 lb f)))))) (k0_pay326 (k0_pay315 (k0_pay12 k0_pay10 k0_pay11) (k0_pay41 lb f) (k0_pay76 q) (k0_pay104 a (k0_pay59 (k0_pay41 lb f)))))) (k0_pay372 (k0_pay360 (k0_pay13 (iota .tc S64x128 32 [0] iota_S64x128_d0_w32)) (k0_pay41 lb f) (k0_pay76 q) (k0_pay104 a (k0_pay59 (k0_pay41 lb f)))))) (k0_pay471 v)) S) (k0_pay553 (k0_pay437 (k0_pay76 q) (k0_pay404 (k0_pay104 a (k0_pay59 (k0_pay41 lb f))))) (k0_pay487 (k0_pay388 (k0_pay23 (iota .tc S64x64 32 [0] iota_S64x64_d0_w32) (iota .tc S64x64 32 [1] iota_S64x64_d1_w32)) (k0_pay342 (k0_pay22 (iota .tc S64x64 32 [0] iota_S64x64_d0_w32) (iota .tc S64x64 32 [1] iota_S64x64_d1_w32)) (k0_pay297 (k0_pay21 (k0_pay19 (iota .tc S64x64 32 [0] iota_S64x64_d0_w32) (iota .tc S64x64 32 [1] iota_S64x64_d1_w32)) (k0_pay20 (iota .tc S64x64 32 [1] iota_S64x64_d1_w32))) (k0_pay254 (k0_pay18 (iota .tc S64x64 32 [0] iota_S64x64_d0_w32) (iota .tc S64x64 32 [1] iota_S64x64_d1_w32)) (k0_pay213 (k0_pay17 (k0_pay15 (iota .tc S64x64 32 [0] iota_S64x64_d0_w32) (iota .tc S64x64 32 [1] iota_S64x64_d1_w32)) (k0_pay16 (iota .tc S64x64 32 [1] iota_S64x64_d1_w32))) (k0_pay170 (k0_pay14 (iota .tc S64x64 32 [0] iota_S64x64_d0_w32) (iota .tc S64x64 32 [1] iota_S64x64_d1_w32)) (k0_pay125 (k0_pay24 (iota .tc S64x64 32 [0] iota_S64x64_d0_w32) (iota .tc S64x64 32 [1] iota_S64x64_d1_w32)) (k0_pay41 lb f) (k0_pay76 q)) (k0_pay154 (k0_pay143 k0_pay6 (k0_pay41 lb f) (k0_pay76 q) (k0_pay104 a (k0_pay59 (k0_pay41 lb f)))))) (k0_pay197 (k0_pay187 k0_pay7 (k0_pay41 lb f) (k0_pay76 q) (k0_pay104 a (k0_pay59 (k0_pay41 lb f)))))) (k0_pay238 (k0_pay229 k0_pay8 (k0_pay41 lb f) (k0_pay76 q) (k0_pay104 a (k0_pay59 (k0_pay41 lb f)))))) (k0_pay281 (k0_pay271 k0_pay9 (k0_pay41 lb f) (k0_pay76 q) (k0_pay104 a (k0_pay59 (k0_pay41 lb f)))))) (k0_pay326 (k0_pay315 (k0_pay12 k0_pay10 k0_pay11) (k0_pay41 lb f) (k0_pay76 q) (k0_pay104 a (k0_pay59 (k0_pay41 lb f)))))) (k0_pay372 (k0_pay360 (k0_pay13 (iota .tc S64x128 32 [0] iota_S64x128_d0_w32)) (k0_pay41 lb f) (k0_pay76 q) (k0_pay104 a (k0_pay59 (k0_pay41 lb f)))))) (k0_pay471 v)) S) g =
    Op (k0_pay5 nw) (Qp q) (Kp lb f) (Dp a (Gp (Kp lb f))) v S g := rfl

theorem O_1_5 (q f v g : FVec Ideal S64x128 .f32) (lb nw : FVec Ideal S1x128 .f32) (a : FVec Ideal S448x64 .bf16) (S : FVec Ideal S128x128 .f32) :
    k0_pay559 (k0_pay5 nw) (k0_pay555 (k0_pay438 (k0_pay77 q) (k0_pay405 (k0_pay105 a (k0_pay60 (k0_pay42 lb f))))) (k0_pay488 (k0_pay389 (k0_pay23 (iota .tc S64x64 32 [0] iota_S64x64_d0_w32) (iota .tc S64x64 32 [1] iota_S64x64_d1_w32)) (k0_pay343 (k0_pay22 (iota .tc S64x64 32 [0] iota_S64x64_d0_w32) (iota .tc S64x64 32 [1] iota_S64x64_d1_w32)) (k0_pay298 (k0_pay21 (k0_pay19 (iota .tc S64x64 32 [0] iota_S64x64_d0_w32) (iota .tc S64x64 32 [1] iota_S64x64_d1_w32)) (k0_pay20 (iota .tc S64x64 32 [1] iota_S64x64_d1_w32))) (k0_pay255 (k0_pay18 (iota .tc S64x64 32 [0] iota_S64x64_d0_w32) (iota .tc S64x64 32 [1] iota_S64x64_d1_w32)) (k0_pay214 (k0_pay17 (k0_pay15 (iota .tc S64x64 32 [0] iota_S64x64_d0_w32) (iota .tc S64x64 32 [1] iota_S64x64_d1_w32)) (k0_pay16 (iota .tc S64x64 32 [1] iota_S64x64_d1_w32))) (k0_pay171 (k0_pay14 (iota .tc S64x64 32 [0] iota_S64x64_d0_w32) (iota .tc S64x64 32 [1] iota_S64x64_d1_w32)) (k0_pay126 (k0_pay24 (iota .tc S64x64 32 [0] iota_S64x64_d0_w32) (iota .tc S64x64 32 [1] iota_S64x64_d1_w32)) (k0_pay42 lb f) (k0_pay77 q)) (k0_pay155 (k0_pay144 k0_pay6 (k0_pay42 lb f) (k0_pay77 q) (k0_pay105 a (k0_pay60 (k0_pay42 lb f)))))) (k0_pay198 (k0_pay188 k0_pay7 (k0_pay42 lb f) (k0_pay77 q) (k0_pay105 a (k0_pay60 (k0_pay42 lb f)))))) (k0_pay239 (k0_pay230 k0_pay8 (k0_pay42 lb f) (k0_pay77 q) (k0_pay105 a (k0_pay60 (k0_pay42 lb f)))))) (k0_pay282 (k0_pay272 k0_pay9 (k0_pay42 lb f) (k0_pay77 q) (k0_pay105 a (k0_pay60 (k0_pay42 lb f)))))) (k0_pay327 (k0_pay316 (k0_pay12 k0_pay10 k0_pay11) (k0_pay42 lb f) (k0_pay77 q) (k0_pay105 a (k0_pay60 (k0_pay42 lb f)))))) (k0_pay373 (k0_pay361 (k0_pay13 (iota .tc S64x128 32 [0] iota_S64x128_d0_w32)) (k0_pay42 lb f) (k0_pay77 q) (k0_pay105 a (k0_pay60 (k0_pay42 lb f)))))) (k0_pay472 v)) S) g =
    Op (k0_pay5 nw) (Qp q) (Kp lb f) (Dp a (Gp (Kp lb f))) v S g := rfl

theorem O_1_6 (q f v g : FVec Ideal S64x128 .f32) (lb nw : FVec Ideal S1x128 .f32) (a : FVec Ideal S448x64 .bf16) (S : FVec Ideal S128x128 .f32) :
    k0_pay565 (k0_pay5 nw) (k0_pay560 (k0_pay439 (k0_pay78 q) (k0_pay406 (k0_pay110 a (k0_pay106 (k0_pay61 (k0_pay43 lb f))) (k0_pay108 (k0_pay61 (k0_pay43 lb f))) (k0_pay109 (k0_pay61 (k0_pay43 lb f)))))) (k0_pay489 (k0_pay390 (k0_pay23 (iota .tc S64x64 32 [0] iota_S64x64_d0_w32) (iota .tc S64x64 32 [1] iota_S64x64_d1_w32)) (k0_pay344 (k0_pay22 (iota .tc S64x64 32 [0] iota_S64x64_d0_w32) (iota .tc S64x64 32 [1] iota_S64x64_d1_w32)) (k0_pay299 (k0_pay21 (k0_pay19 (iota .tc S64x64 32 [0] iota_S64x64_d0_w32) (iota .tc S64x64 32 [1] iota_S64x64_d1_w32)) (k0_pay20 (iota .tc S64x64 32 [1] iota_S64x64_d1_w32))) (k0_pay256 (k0_pay18 (iota .tc S64x64 32 [0] iota_S64x64_d0_w32) (iota .tc S64x64 32 [1] iota_S64x64_d1_w32)) (k0_pay215 (k0_pay17 (k0_pay15 (iota .tc S64x64 32 [0] iota_S64x64_d0_w32) (iota .tc S64x64 32 [1] iota_S64x64_d1_w32)) (k0_pay16 (iota .tc S64x64 32 [1] iota_S64x64_d1_w32))) (k0_pay172 (k0_pay14 (iota .tc S64x64 32 [0] iota_S64x64_d0_w32) (iota .tc S64x64 32 [1] iota_S64x64_d1_w32)) (k0_pay127 (k0_pay24 (iota .tc S64x64 32 [0] iota_S64x64_d0_w32) (iota .tc S64x64 32 [1] iota_S64x64_d1_w32)) (k0_pay43 lb f) (k0_pay78 q)) (k0_pay156 (k0_pay145 k0_pay6 (k0_pay43 lb f) (k0_pay78 q)) (k0_pay146 (k0_pay110 a (k0_pay106 (k0_pay61 (k0_pay43 lb f))) (k0_pay108 (k0_pay61 (k0_pay43 lb f))) (k0_pay109 (k0_pay61 (k0_pay43 lb f))))))) (k0_pay199 (k0_pay189 k0_pay7 (k0_pay43 lb f) (k0_pay78 q) (k0_pay110 a (k0_pay106 (k0_pay61 (k0_pay43 lb f))) (k0_pay108 (k0_pay61 (k0_pay43 lb f))) (k0_pay109 (k0_pay61 (k0_pay43 lb f))))))) (k0_pay240 (k0_pay231 k0_pay8 (k0_pay43 lb f) (k0_pay78 q) (k0_pay110 a (k0_pay106 (k0_pay61 (k0_pay43 lb f))) (k0_pay108 (k0_pay61 (k0_pay43 lb f))) (k0_pay109 (k0_pay61 (k0_pay43 lb f))))))) (k0_pay283 (k0_pay273 k0_pay9 (k0_pay43 lb f) (k0_pay78 q) (k0_pay110 a (k0_pay106 (k0_pay61 (k0_pay43 lb f))) (k0_pay108 (k0_pay61 (k0_pay43 lb f))) (k0_pay109 (k0_pay61 (k0_pay43 lb f))))))) (k0_pay328 (k0_pay317 (k0_pay12 k0_pay10 k0_pay11) (k0_pay43 lb f) (k0_pay78 q) (k0_pay110 a (k0_pay106 (k0_pay61 (k0_pay43 lb f))) (k0_pay108 (k0_pay61 (k0_pay43 lb f))) (k0_pay109 (k0_pay61 (k0_pay43 lb f))))))) (k0_pay374 (k0_pay362 (k0_pay13 (iota .tc S64x128 32 [0] iota_S64x128_d0_w32)) (k0_pay43 lb f) (k0_pay78 q) (k0_pay110 a (k0_pay106 (k0_pay61 (k0_pay43 lb f))) (k0_pay108 (k0_pay61 (k0_pay43 lb f))) (k0_pay109 (k0_pay61 (k0_pay43 lb f))))))) v) S) g =
    Op (k0_pay5 nw) (Qp q) (Kp lb f) (Dp a (Gp (Kp lb f))) v S g := rfl

theorem O_1_7 (q f v g : FVec Ideal S64x128 .f32) (lb nw : FVec Ideal S1x128 .f32) (a : FVec Ideal S448x64 .bf16) (S : FVec Ideal S128x128 .f32) :
    k0_pay572 (k0_pay5 nw) (k0_pay567 (k0_pay440 (k0_pay79 q) (k0_pay407 (k0_pay111 a (k0_pay63 (k0_pay62 (k0_pay45 (k0_pay44 lb) f)))))) (k0_pay490 (k0_pay391 (k0_pay23 (iota .tc S64x64 32 [0] iota_S64x64_d0_w32) (iota .tc S64x64 32 [1] iota_S64x64_d1_w32)) (k0_pay345 (k0_pay22 (iota .tc S64x64 32 [0] iota_S64x64_d0_w32) (iota .tc S64x64 32 [1] iota_S64x64_d1_w32)) (k0_pay300 (k0_pay21 (k0_pay19 (iota .tc S64x64 32 [0] iota_S64x64_d0_w32) (iota .tc S64x64 32 [1] iota_S64x64_d1_w32)) (k0_pay20 (iota .tc S64x64 32 [1] iota_S64x64_d1_w32))) (k0_pay257 (k0_pay18 (iota .tc S64x64 32 [0] iota_S64x64_d0_w32) (iota .tc S64x64 32 [1] iota_S64x64_d1_w32)) (k0_pay216 (k0_pay17 (k0_pay15 (iota .tc S64x64 32 [0] iota_S64x64_d0_w32) (iota .tc S64x64 32 [1] iota_S64x64_d1_w32)) (k0_pay16 (iota .tc S64x64 32 [1] iota_S64x64_d1_w32))) (k0_pay173 (k0_pay14 (iota .tc S64x64 32 [0] iota_S64x64_d0_w32) (iota .tc S64x64 32 [1] iota_S64x64_d1_w32)) (k0_pay128 (k0_pay24 (iota .tc S64x64 32 [0] iota_S64x64_d0_w32) (iota .tc S64x64 32 [1] iota_S64x64_d1_w32)) (k0_pay45 (k0_pay44 lb) f) (k0_pay79 q)) (k0_pay157 k0_pay6 (k0_pay45 (k0_pay44 lb) f) (k0_pay79 q) (k0_pay111 a (k0_pay63 (k0_pay62 (k0_pay45 (k0_pay44 lb) f)))))) (k0_pay200 (k0_pay111 a (k0_pay63 (k0_pay62 (k0_pay45 (k0_pay44 lb) f)))) (k0_pay190 k0_pay7 (k0_pay45 (k0_pay44 lb) f) (k0_pay79 q)))) (k0_pay241 (k0_pay232 k0_pay8 (k0_pay45 (k0_pay44 lb) f) (k0_pay79 q) (k0_pay111 a (k0_pay63 (k0_pay62 (k0_pay45 (k0_pay44 lb) f))))))) (k0_pay284 (k0_pay274 k0_pay9 (k0_pay45 (k0_pay44 lb) f) (k0_pay79 q) (k0_pay111 a (k0_pay63 (k0_pay62 (k0_pay45 (k0_pay44 lb) f))))))) (k0_pay329 (k0_pay318 (k0_pay12 k0_pay10 k0_pay11) (k0_pay45 (k0_pay44 lb) f) (k0_pay79 q) (k0_pay111 a (k0_pay63 (k0_pay62 (k0_pay45 (k0_pay44 lb) f))))))) (k0_pay375 (k0_pay363 (k0_pay13 (iota .tc S64x128 32 [0] iota_S64x128_d0_w32)) (k0_pay45 (k0_pay44 lb) f) (k0_pay79 q) (k0_pay111 a (k0_pay63 (k0_pay62 (k0_pay45 (k0_pay44 lb) f))))))) v) S) g =
    Op (k0_pay5 nw) (Qp q) (Kp lb f) (Dp a (Gp (Kp lb f))) v S g := rfl

end Cert.KernelIdeal.Hand
end
-- ==== Proof.State.lean ====
module

public import proofs.«01_k».proof.Proof.ChunkS
public import proofs.«01_k».proof.Proof.ChunkO0
public import proofs.«01_k».proof.Proof.ChunkO1
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem

attribute [local irreducible] Op Sp Kp Dp Gp Qp

/-- Two stores over earlier ones: where one of the two covers, the earlier ones do not matter. -/
theorem canon_two {s : Shape} {e : EltTy} {Val : EltTy → Type} [∀ e, Nonempty (Val e)] (r0 r1 : Rect s) (w0 : r0.shape.Idx → Val e) (w1 : r1.shape.Idx → Val e)
    (L : List (View.Piece Val s e)) (y : s.Idx) (h : (∃ x, r0.emb x = y) ∨ ∃ x, r1.emb x = y) :
    View.canon (⟨r0, w0⟩ :: ⟨r1, w1⟩ :: L) y = View.canon [⟨r0, w0⟩, ⟨r1, w1⟩] y := by
  by_cases h0 : y ∈ r0.set
  · obtain ⟨x, hx⟩ := r0.exists_idx_of_mem h0
    obtain rfl : r0.emb x = y := hx
    rw [View.canon_cons_emb, View.canon_cons_emb]
  · rcases h with ⟨x, rfl⟩ | ⟨x, rfl⟩
    · exact absurd (by rw [← Rect.map_emb_univ]; exact Finset.mem_map_of_mem _ (Finset.mem_univ x)) h0
    · rw [View.canon_cons_of_not_mem ⟨r0, w0⟩ _ h0, View.canon_cons_of_not_mem ⟨r0, w0⟩ _ h0, View.canon_cons_emb, View.canon_cons_emb]

set_option maxHeartbeats 1600000 in
/-- What a grid point of this case leaves in the scratch: the state of head `j` after the eight chunks. -/
theorem sout_A (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S448x64 .bf16) (harg9 : arg9.IsWhole) (arg10 : Memref sig .tc .vmem S1x2x128x128 .f32) (harg10 : arg10.IsWhole) (arg11 : Memref sig .tc .vmem S512x256 .bf16) (harg11 : arg11.IsWhole) (arg12 : Memref sig .tc .vmem S1x2x128x128 .f32) (harg12 : arg12.IsWhole) (arg13 : Memref sig .tc .vmem S2x128x128 .f32) (harg13 : arg13.IsWhole) (hc0 : cond0_0 i) (hc1 : ¬cond0_1 i) (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S448x64 .bf16) (x7 : Vec Ideal S1x2x128x128 .f32)
    (y : S2x128x128.Idx) (j : Fin 2) (z : S128x128.Idx) (hy0 : (y 0 : ℕ) = j) (hy1 : (y 1 : ℕ) = z 0) (hy2 : (y 2 : ℕ) = z 1) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 y = BS ⟨x0, x1, x2, x3, x4, x5, x6⟩ j (s0load x7 j) 8 z := by
  frame_out
  simp (disch := decide) only [View.readCov_skip, View.readCov_cons_toLoadRect]
  rw [canon_two]
  swap
  · rcases (show (y 0 : ℕ) = 0 ∨ (y 0 : ℕ) = 1 by have := j.isLt; omega) with h | h
    · right
      refine ⟨ix3 (0 : Fin 1) (z 0) (z 1), funext fun a => Fin.ext ?_⟩
      fin_cases a
      · show 0 + 1 * 0 = (y 0 : ℕ); omega
      · show 0 + 1 * (z 0 : ℕ) = (y 1 : ℕ); omega
      · show 0 + 1 * (z 1 : ℕ) = (y 2 : ℕ); omega
    · left
      refine ⟨ix3 (0 : Fin 1) (z 0) (z 1), funext fun a => Fin.ext ?_⟩
      fin_cases a
      · show 1 + 1 * 0 = (y 0 : ℕ); omega
      · show 0 + 1 * (z 0 : ℕ) = (y 1 : ℕ); omega
      · show 0 + 1 * (z 1 : ℕ) = (y 2 : ℕ); omega
  canon_tiles x h
  case piece0 =>
    obtain rfl : j = 1 := by ext; show (j:ℕ) = 1; omega
    refine (cast574 _ x z (by omega) (by omega)).trans ?_
    rw [S_1_7, S_1_6, S_1_5, S_1_4, S_1_3, S_1_2, S_1_1, S_1_0]
    rfl
  case piece1 =>
    obtain rfl : j = 0 := by ext; show (j:ℕ) = 0; omega
    refine (cast573 _ x z (by omega) (by omega)).trans ?_
    rw [S_0_7, S_0_6, S_0_5, S_0_4, S_0_3, S_0_2, S_0_1, S_0_0]
    rfl

set_option maxHeartbeats 1600000 in
/-- What a grid point of this case leaves in the scratch: the state of head `j` after the eight chunks. -/
theorem sout_B (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S448x64 .bf16) (harg9 : arg9.IsWhole) (arg10 : Memref sig .tc .vmem S1x2x128x128 .f32) (harg10 : arg10.IsWhole) (arg11 : Memref sig .tc .vmem S512x256 .bf16) (harg11 : arg11.IsWhole) (arg12 : Memref sig .tc .vmem S1x2x128x128 .f32) (harg12 : arg12.IsWhole) (arg13 : Memref sig .tc .vmem S2x128x128 .f32) (harg13 : arg13.IsWhole) (hc0 : ¬cond0_0 i) (hc1 : ¬cond0_1 i) (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S448x64 .bf16) (x7 : Vec Ideal S1x2x128x128 .f32) (xs0 : Vec Ideal S2x128x128 .f32)
    (y : S2x128x128.Idx) (j : Fin 2) (z : S128x128.Idx) (hy0 : (y 0 : ℕ) = j) (hy1 : (y 1 : ℕ) = z 0) (hy2 : (y 2 : ℕ) = z 1) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y = BS ⟨x0, x1, x2, x3, x4, x5, x6⟩ j (sload xs0 j.val (hsl j)) 8 z := by
  frame_out
  canon_tiles x h
  case piece0 =>
    obtain rfl : j = 1 := by ext; show (j:ℕ) = 1; omega
    refine (cast574 _ x z (by omega) (by omega)).trans ?_
    rw [S_1_7, S_1_6, S_1_5, S_1_4, S_1_3, S_1_2, S_1_1, S_1_0]
    rfl
  case piece1 =>
    obtain rfl : j = 0 := by ext; show (j:ℕ) = 0; omega
    refine (cast573 _ x z (by omega) (by omega)).trans ?_
    rw [S_0_7, S_0_6, S_0_5, S_0_4, S_0_3, S_0_2, S_0_1, S_0_0]
    rfl

set_option maxHeartbeats 1600000 in
/-- What a grid point of this case leaves in the scratch: the state of head `j` after the eight chunks. -/
theorem sout_C (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S448x64 .bf16) (harg9 : arg9.IsWhole) (arg10 : Memref sig .tc .vmem S1x2x128x128 .f32) (harg10 : arg10.IsWhole) (arg11 : Memref sig .tc .vmem S512x256 .bf16) (harg11 : arg11.IsWhole) (arg12 : Memref sig .tc .vmem S1x2x128x128 .f32) (harg12 : arg12.IsWhole) (arg13 : Memref sig .tc .vmem S2x128x128 .f32) (harg13 : arg13.IsWhole) (hc0 : ¬cond0_0 i) (hc1 : cond0_1 i) (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S448x64 .bf16) (x7 : Vec Ideal S1x2x128x128 .f32) (xs0 : Vec Ideal S2x128x128 .f32)
    (y : S2x128x128.Idx) (j : Fin 2) (z : S128x128.Idx) (hy0 : (y 0 : ℕ) = j) (hy1 : (y 1 : ℕ) = z 0) (hy2 : (y 2 : ℕ) = z 1) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y = BS ⟨x0, x1, x2, x3, x4, x5, x6⟩ j (sload xs0 j.val (hsl j)) 8 z := by
  frame_out
  canon_tiles x h
  case piece0 =>
    obtain rfl : j = 1 := by ext; show (j:ℕ) = 1; omega
    refine (cast574 _ x z (by omega) (by omega)).trans ?_
    rw [S_1_7, S_1_6, S_1_5, S_1_4, S_1_3, S_1_2, S_1_1, S_1_0]
    rfl
  case piece1 =>
    obtain rfl : j = 0 := by ext; show (j:ℕ) = 0; omega
    refine (cast573 _ x z (by omega) (by omega)).trans ?_
    rw [S_0_7, S_0_6, S_0_5, S_0_4, S_0_3, S_0_2, S_0_1, S_0_0]
    rfl

set_option maxHeartbeats 1600000 in
/-- What the last grid point of a head group leaves in the state block: the state of head `j`, transposed. -/
theorem out_C9 (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S448x64 .bf16) (harg9 : arg9.IsWhole) (arg10 : Memref sig .tc .vmem S1x2x128x128 .f32) (harg10 : arg10.IsWhole) (arg11 : Memref sig .tc .vmem S512x256 .bf16) (harg11 : arg11.IsWhole) (arg12 : Memref sig .tc .vmem S1x2x128x128 .f32) (harg12 : arg12.IsWhole) (arg13 : Memref sig .tc .vmem S2x128x128 .f32) (harg13 : arg13.IsWhole) (hc0 : ¬cond0_0 i) (hc1 : cond0_1 i) (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S448x64 .bf16) (x7 : Vec Ideal S1x2x128x128 .f32) (xs0 : Vec Ideal S2x128x128 .f32)
    (y : S1x2x128x128.Idx) (j : Fin 2) (z : S128x128.Idx) (hy1 : (y 1 : ℕ) = j) (hy2 : (y 2 : ℕ) = z 1) (hy3 : (y 3 : ℕ) = z 0) :
    out0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y = BS ⟨x0, x1, x2, x3, x4, x5, x6⟩ j (sload xs0 j.val (hsl j)) 8 z := by
  frame_out
  canon_tiles x h
  case piece0 =>
    obtain rfl : j = 1 := by ext; show (j:ℕ) = 1; omega
    refine (cast2 _ x z (by omega) (by omega)).trans ?_
    rw [S_1_7, S_1_6, S_1_5, S_1_4, S_1_3, S_1_2, S_1_1, S_1_0]
    rfl
  case piece1 =>
    obtain rfl : j = 0 := by ext; show (j:ℕ) = 0; omega
    refine (cast1 _ x z (by omega) (by omega)).trans ?_
    rw [S_0_7, S_0_6, S_0_5, S_0_4, S_0_3, S_0_2, S_0_1, S_0_0]
    rfl

end Cert.KernelIdeal.Hand
end
-- ==== Proof.Sweep.lean ====
module

public import proofs.«01_k».proof.Proof.Grid
public import proofs.«01_k».proof.Proof.State

@[expose] public section

set_option maxRecDepth 16384

noncomputable section

namespace Cert.KernelIdeal.Hand

open Cert.KernelIdeal Cert.KernelIdeal.Gen Idealize.ShloMosaic Idealize.ShloMosaic.TcCoe Idealize.SL.Sem

theorem tile_at (x : FVec Ideal S512x256 .f32) (r k : ℕ) (h : ∀ a, (![r, k] : Fin 2 → Nat) a + S64x128.size a ≤ S512x256.size a)
    (t : Fin 64) (c : Fin 128) (hr : r + 64 ≤ 512) (hk : k + 128 ≤ 256) :
    tile x r k h (ix2 t c) = x (ix2 (⟨r + t, by omega⟩ : Fin 512) (⟨k + c, by omega⟩ : Fin 256)) := by
  unfold tile
  refine congrArg x (funext fun a => Fin.ext ?_)
  fin_cases a
  · show r + 1 * (t : ℕ) = r + t; omega
  · show k + 1 * (c : ℕ) = k + c; omega

theorem lrow_at (x : FVec Ideal S1x256 .f32) (k : ℕ) (h : ∀ a, (![0, k] : Fin 2 → Nat) a + S1x128.size a ≤ S1x256.size a)
    (c : Fin 128) (hk : k + 128 ≤ 256) :
    lrow x k h (ix2 (0 : Fin 1) c) = x (ix2 (0 : Fin 1) (⟨k + c, by omega⟩ : Fin 256)) := by
  unfold lrow
  refine congrArg x (funext fun a => Fin.ext ?_)
  fin_cases a
  · rfl
  · show k + 1 * (c : ℕ) = k + c; omega

theorem sload_at (x : FVec Ideal S2x128x128 .f32) (j : Fin 2) (y z : Fin 128) :
    sload x j.val (hsl j) (ix2 y z) = x (ix3 j y z) := by
  unfold sload
  pointwise [k0_pay523]
  blk_ext

theorem s0load_at (x : FVec Ideal S1x2x128x128 .f32) (j : Fin 2) (hx : ∀ i, x i = 0) (y z : Fin 128) :
    s0load x j (ix2 y z) = 0 := by
  unfold s0load
  pointwise [k0_pay523, k0_pay3]
  exact hx _

section Blocks

variable (m : (l : Loc nD τ sig) → l.ty.Contents (Elt Ideal)) (c : Dev nD)

/-- The blocks grid point `t` reads. -/
def blk (t : Fin cfg0.N) : Blocks := ⟨iblk m c 0 t, iblk m c 1 t, iblk m c 2 t, iblk m c 3 t, iblk m c 4 t, iblk m c 5 t, iblk m c 6 t⟩

variable (t : Fin cfg0.N) (j : Fin 2) (i : Fin 8)

theorem BK_at (u : Fin 64) (x : Fin 128) :
    BK (blk m c t) j i (ix2 u x) = Gla.Kc (argR m c) (argL m c) (8 * (t.val % 16) + i) (2 * (t.val / 16) + j) u x := by
  unfold BK Gla.Kc
  rw [Kp_at, tile_at _ _ _ _ _ _ (by omega) (by omega), lrow_at _ _ _ _ (by omega)]
  refine congrArg₂ (· * ·) (congrArg (1 - ·) ((b4 m c t _).trans (congrArg (argL m c) ?_))) (congrArg (fun x => Ideal.logistic (-x)) ((b1 m c t _ _).trans (congrArg₂ (argR m c) ?_ ?_)))
    <;> dsimp only <;> omega

theorem BQ_at (u : Fin 64) (x : Fin 128) :
    BQ (blk m c t) j i (ix2 u x) = Gla.Qc (argR m c) (8 * (t.val % 16) + i) (2 * (t.val / 16) + j) u x := by
  unfold BQ Gla.Qc
  rw [Qp_at, tile_at _ _ _ _ _ _ (by omega) (by omega)]
  refine congrArg (fun x => x * Ideal.logistic x) ((b0 m c t _ _).trans (congrArg₂ (argR m c) ?_ ?_))
    <;> dsimp only <;> omega

theorem BV_at (u : Fin 64) (x : Fin 128) :
    BV (blk m c t) j i (ix2 u x) = Gla.Vc (argR m c) (8 * (t.val % 16) + i) (2 * (t.val / 16) + j) u x := by
  unfold BV Gla.Vc
  rw [tile_at _ _ _ _ _ _ (by omega) (by omega)]
  refine (b2 m c t _ _).trans (congrArg₂ (argR m c) ?_ ?_)
    <;> dsimp only <;> omega

theorem BG_at (u : Fin 64) (x : Fin 128) :
    BG (blk m c t) j i (ix2 u x) = Gla.Wc (argR m c) (8 * (t.val % 16) + i) (2 * (t.val / 16) + j) u x := by
  unfold BG Gla.Wc
  rw [tile_at _ _ _ _ _ _ (by omega) (by omega)]
  refine (b3 m c t _ _).trans (congrArg₂ (argR m c) ?_ ?_)
    <;> dsimp only <;> omega

variable (hL : ∀ k, argL m c k ≠ ⊥ ∧ argL m c k ≠ ⊤)
include hL

theorem BS_at (S : FVec Ideal S128x128 .f32)
    (hS : ∀ x y, S (ix2 y x) = Gla.St (argR m c) (argL m c) (2 * (t.val / 16) + j) (8 * (t.val % 16)) x y) :
    ∀ n ≤ 8, ∀ x y, BS (blk m c t) j S n (ix2 y x) = Gla.St (argR m c) (argL m c) (2 * (t.val / 16) + j) (8 * (t.val % 16) + n) x y
  | 0, _, x, y => hS x y
  | n + 1, h, x, y => by
    rw [BS, dif_pos (by omega)]
    exact Sp_eq _ (b6 m c t) _ _ _ _ _ _ (BK_at m c t j ⟨n, by omega⟩) (BV_at m c t j ⟨n, by omega⟩) (BS_at S hS n (by omega))
      (Gla.lg_real _ _ hL _ _) x y

theorem BO_at (S : FVec Ideal S128x128 .f32)
    (hS : ∀ x y, S (ix2 y x) = Gla.St (argR m c) (argL m c) (2 * (t.val / 16) + j) (8 * (t.val % 16)) x y) (u : Fin 64) (x : Fin 128) :
    BO (blk m c t) j S i (ix2 u x) = Gla.Out (argR m c) (argL m c) (argN m c) (2 * (t.val / 16) + j) (8 * (t.val % 16) + i) u x := by
  refine Op_eq _ _ (b6 m c t) _ _ _ _ _ _ _ _ _ _ _ (fun x => ?_) (BQ_at m c t j i) (BK_at m c t j i) (BV_at m c t j i) (BG_at m c t j i)
    (BS_at m c t j hL S hS i.val (by omega)) (Gla.lg_real _ _ hL _ _) u x
  refine Eq.trans ?_ (b5 m c t x)
  show k0_pay5 (iblk m c 5 t) (ix2 (0 : Fin 1) x) = _
  pointwise [k0_pay5]

end Blocks

end Cert.KernelIdeal.Hand
end
-- ==== Proof.OutA.lean ====
module

public import proofs.«01_k».proof.Proof.ChunkS
public import proofs.«01_k».proof.Proof.ChunkO0
public import proofs.«01_k».proof.Proof.ChunkO1
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem

attribute [local irreducible] Op Sp Kp Dp Gp Qp

set_option maxHeartbeats 1600000 in
/-- What a grid point of this case leaves in the output block: chunk `n` of head `j`. -/
theorem out_A8 (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S448x64 .bf16) (harg9 : arg9.IsWhole) (arg10 : Memref sig .tc .vmem S1x2x128x128 .f32) (harg10 : arg10.IsWhole) (arg11 : Memref sig .tc .vmem S512x256 .bf16) (harg11 : arg11.IsWhole) (arg12 : Memref sig .tc .vmem S1x2x128x128 .f32) (harg12 : arg12.IsWhole) (arg13 : Memref sig .tc .vmem S2x128x128 .f32) (harg13 : arg13.IsWhole) (hc0 : cond0_0 i) (hc1 : ¬cond0_1 i) (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S448x64 .bf16) (x7 : Vec Ideal S1x2x128x128 .f32)
    (y : S512x256.Idx) (j : Fin 2) (n : Fin 8) (z : S64x128.Idx) (hy0 : (y 0 : ℕ) = 64 * n + z 0) (hy1 : (y 1 : ℕ) = 128 * j + z 1) :
    out0_A_8 c i arg3 harg3 arg4 harg4 arg5 harg5 arg6 harg6 arg7 harg7 arg8 harg8 arg9 harg9 arg10 harg10 arg11 harg11 arg12 harg12 arg13 harg13 hc0 hc1 x0 x1 x2 x3 x4 x5 x6 x7 y = BO ⟨x0, x1, x2, x3, x4, x5, x6⟩ j (s0load x7 j) n z := by
  frame_out
  simp (disch := decide) only [View.readCov_skip, View.readCov_cons_toLoadRect]
  canon_tiles x h
  all_goals
    have hx0 : (x 0 : ℕ) < 64 := (x 0).isLt
    have hx1 : (x 1 : ℕ) < 128 := (x 1).isLt
    have hz0 : (z 0 : ℕ) < 64 := (z 0).isLt
    have hz1 : (z 1 : ℕ) < 128 := (z 1).isLt
    obtain ⟨hj, hzz1⟩ : (j : ℕ) = (y 1 : ℕ) / 128 ∧ (z 1 : ℕ) = (y 1 : ℕ) % 128 := by omega
    obtain ⟨hi, hzz0⟩ : (n : ℕ) = (y 0 : ℕ) / 64 ∧ (z 0 : ℕ) = (y 0 : ℕ) % 64 := by omega
    obtain rfl : x = z := by
      funext a; fin_cases a
      · exact Fin.ext (by show (x 0:ℕ) = z 0; omega)
      · exact Fin.ext (by show (x 1:ℕ) = z 1; omega)
  case piece0 =>
    obtain rfl : j = 1 := by ext; show (j:ℕ) = 1; omega
    obtain rfl : n = 7 := by ext; show (n:ℕ) = 7; omega
    refine (congrFun (O_1_7 _ _ _ _ _ _ _ _) x).trans ?_
    rw [S_1_6, S_1_5, S_1_4, S_1_3, S_1_2, S_1_1, S_1_0]
    rfl
  case piece1 =>
    obtain rfl : j = 0 := by ext; show (j:ℕ) = 0; omega
    obtain rfl : n = 7 := by ext; show (n:ℕ) = 7; omega
    refine (congrFun (O_0_7 _ _ _ _ _ _ _ _) x).trans ?_
    rw [S_0_6, S_0_5, S_0_4, S_0_3, S_0_2, S_0_1, S_0_0]
    rfl
  case piece2 =>
    obtain rfl : j = 1 := by ext; show (j:ℕ) = 1; omega
    obtain rfl : n = 6 := by ext; show (n:ℕ) = 6; omega
    refine (congrFun (O_1_6 _ _ _ _ _ _ _ _) x).trans ?_
    rw [S_1_5, S_1_4, S_1_3, S_1_2, S_1_1, S_1_0]
    rfl
  case piece3 =>
    obtain rfl : j = 0 := by ext; show (j:ℕ) = 0; omega
    obtain rfl : n = 6 := by ext; show (n:ℕ) = 6; omega
    refine (congrFun (O_0_6 _ _ _ _ _ _ _ _) x).trans ?_
    rw [S_0_5, S_0_4, S_0_3, S_0_2, S_0_1, S_0_0]
    rfl
  case piece4 =>
    obtain rfl : j = 1 := by ext; show (j:ℕ) = 1; omega
    obtain rfl : n = 5 := by ext; show (n:ℕ) = 5; omega
    refine (congrFun (O_1_5 _ _ _ _ _ _ _ _) x).trans ?_
    rw [S_1_4, S_1_3, S_1_2, S_1_1, S_1_0]
    rfl
  case piece5 =>
    obtain rfl : j = 0 := by ext; show (j:ℕ) = 0; omega
    obtain rfl : n = 5 := by ext; show (n:ℕ) = 5; omega
    refine (congrFun (O_0_5 _ _ _ _ _ _ _ _) x).trans ?_
    rw [S_0_4, S_0_3, S_0_2, S_0_1, S_0_0]
    rfl
  case piece6 =>
    obtain rfl : j = 1 := by ext; show (j:ℕ) = 1; omega
    obtain rfl : n = 4 := by ext; show (n:ℕ) = 4; omega
    refine (congrFun (O_1_4 _ _ _ _ _ _ _ _) x).trans ?_
    rw [S_1_3, S_1_2, S_1_1, S_1_0]
    rfl
  case piece7 =>
    obtain rfl : j = 0 := by ext; show (j:ℕ) = 0; omega
    obtain rfl : n = 4 := by ext; show (n:ℕ) = 4; omega
    refine (congrFun (O_0_4 _ _ _ _ _ _ _ _) x).trans ?_
    rw [S_0_3, S_0_2, S_0_1, S_0_0]
    rfl
  case piece8 =>
    obtain rfl : j = 1 := by ext; show (j:ℕ) = 1; omega
    obtain rfl : n = 3 := by ext; show (n:ℕ) = 3; omega
    refine (congrFun (O_1_3 _ _ _ _ _ _ _ _) x).trans ?_
    rw [S_1_2, S_1_1, S_1_0]
    rfl
  case piece9 =>
    obtain rfl : j = 0 := by ext; show (j:ℕ) = 0; omega
    obtain rfl : n = 3 := by ext; show (n:ℕ) = 3; omega
    refine (congrFun (O_0_3 _ _ _ _ _ _ _ _) x).trans ?_
    rw [S_0_2, S_0_1, S_0_0]
    rfl
  case piece10 =>
    obtain rfl : j = 1 := by ext; show (j:ℕ) = 1; omega
    obtain rfl : n = 2 := by ext; show (n:ℕ) = 2; omega
    refine (congrFun (O_1_2 _ _ _ _ _ _ _ _) x).trans ?_
    rw [S_1_1, S_1_0]
    rfl
  case piece11 =>
    obtain rfl : j = 0 := by ext; show (j:ℕ) = 0; omega
    obtain rfl : n = 2 := by ext; show (n:ℕ) = 2; omega
    refine (congrFun (O_0_2 _ _ _ _ _ _ _ _) x).trans ?_
    rw [S_0_1, S_0_0]
    rfl
  case piece12 =>
    obtain rfl : j = 1 := by ext; show (j:ℕ) = 1; omega
    obtain rfl : n = 1 := by ext; show (n:ℕ) = 1; omega
    refine (congrFun (O_1_1 _ _ _ _ _ _ _ _) x).trans ?_
    rw [S_1_0]
    rfl
  case piece13 =>
    obtain rfl : j = 0 := by ext; show (j:ℕ) = 0; omega
    obtain rfl : n = 1 := by ext; show (n:ℕ) = 1; omega
    refine (congrFun (O_0_1 _ _ _ _ _ _ _ _) x).trans ?_
    rw [S_0_0]
    rfl
  case piece14 =>
    obtain rfl : j = 1 := by ext; show (j:ℕ) = 1; omega
    obtain rfl : n = 0 := by ext; show (n:ℕ) = 0; omega
    refine (congrFun (O_1_0 _ _ _ _ _ _ _ _) x).trans ?_
    rfl
  case piece15 =>
    obtain rfl : j = 0 := by ext; show (j:ℕ) = 0; omega
    obtain rfl : n = 0 := by ext; show (n:ℕ) = 0; omega
    refine (congrFun (O_0_0 _ _ _ _ _ _ _ _) x).trans ?_
    rfl

end Cert.KernelIdeal.Hand
end
-- ==== Proof.OutB.lean ====
module

public import proofs.«01_k».proof.Proof.ChunkS
public import proofs.«01_k».proof.Proof.ChunkO0
public import proofs.«01_k».proof.Proof.ChunkO1
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem

attribute [local irreducible] Op Sp Kp Dp Gp Qp

set_option maxHeartbeats 1600000 in
/-- What a grid point of this case leaves in the output block: chunk `n` of head `j`. -/
theorem out_B8 (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S448x64 .bf16) (harg9 : arg9.IsWhole) (arg10 : Memref sig .tc .vmem S1x2x128x128 .f32) (harg10 : arg10.IsWhole) (arg11 : Memref sig .tc .vmem S512x256 .bf16) (harg11 : arg11.IsWhole) (arg12 : Memref sig .tc .vmem S1x2x128x128 .f32) (harg12 : arg12.IsWhole) (arg13 : Memref sig .tc .vmem S2x128x128 .f32) (harg13 : arg13.IsWhole) (hc0 : ¬cond0_0 i) (hc1 : ¬cond0_1 i) (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S448x64 .bf16) (x7 : Vec Ideal S1x2x128x128 .f32) (xs0 : Vec Ideal S2x128x128 .f32)
    (y : S512x256.Idx) (j : Fin 2) (n : Fin 8) (z : S64x128.Idx) (hy0 : (y 0 : ℕ) = 64 * n + z 0) (hy1 : (y 1 : ℕ) = 128 * j + z 1) :
    out0_B_8 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y = BO ⟨x0, x1, x2, x3, x4, x5, x6⟩ j (sload xs0 j.val (hsl j)) n z := by
  frame_out
  canon_tiles x h
  all_goals
    have hx0 : (x 0 : ℕ) < 64 := (x 0).isLt
    have hx1 : (x 1 : ℕ) < 128 := (x 1).isLt
    have hz0 : (z 0 : ℕ) < 64 := (z 0).isLt
    have hz1 : (z 1 : ℕ) < 128 := (z 1).isLt
    obtain ⟨hj, hzz1⟩ : (j : ℕ) = (y 1 : ℕ) / 128 ∧ (z 1 : ℕ) = (y 1 : ℕ) % 128 := by omega
    obtain ⟨hi, hzz0⟩ : (n : ℕ) = (y 0 : ℕ) / 64 ∧ (z 0 : ℕ) = (y 0 : ℕ) % 64 := by omega
    obtain rfl : x = z := by
      funext a; fin_cases a
      · exact Fin.ext (by show (x 0:ℕ) = z 0; omega)
      · exact Fin.ext (by show (x 1:ℕ) = z 1; omega)
  case piece0 =>
    obtain rfl : j = 1 := by ext; show (j:ℕ) = 1; omega
    obtain rfl : n = 7 := by ext; show (n:ℕ) = 7; omega
    refine (congrFun (O_1_7 _ _ _ _ _ _ _ _) x).trans ?_
    rw [S_1_6, S_1_5, S_1_4, S_1_3, S_1_2, S_1_1, S_1_0]
    rfl
  case piece1 =>
    obtain rfl : j = 0 := by ext; show (j:ℕ) = 0; omega
    obtain rfl : n = 7 := by ext; show (n:ℕ) = 7; omega
    refine (congrFun (O_0_7 _ _ _ _ _ _ _ _) x).trans ?_
    rw [S_0_6, S_0_5, S_0_4, S_0_3, S_0_2, S_0_1, S_0_0]
    rfl
  case piece2 =>
    obtain rfl : j = 1 := by ext; show (j:ℕ) = 1; omega
    obtain rfl : n = 6 := by ext; show (n:ℕ) = 6; omega
    refine (congrFun (O_1_6 _ _ _ _ _ _ _ _) x).trans ?_
    rw [S_1_5, S_1_4, S_1_3, S_1_2, S_1_1, S_1_0]
    rfl
  case piece3 =>
    obtain rfl : j = 0 := by ext; show (j:ℕ) = 0; omega
    obtain rfl : n = 6 := by ext; show (n:ℕ) = 6; omega
    refine (congrFun (O_0_6 _ _ _ _ _ _ _ _) x).trans ?_
    rw [S_0_5, S_0_4, S_0_3, S_0_2, S_0_1, S_0_0]
    rfl
  case piece4 =>
    obtain rfl : j = 1 := by ext; show (j:ℕ) = 1; omega
    obtain rfl : n = 5 := by ext; show (n:ℕ) = 5; omega
    refine (congrFun (O_1_5 _ _ _ _ _ _ _ _) x).trans ?_
    rw [S_1_4, S_1_3, S_1_2, S_1_1, S_1_0]
    rfl
  case piece5 =>
    obtain rfl : j = 0 := by ext; show (j:ℕ) = 0; omega
    obtain rfl : n = 5 := by ext; show (n:ℕ) = 5; omega
    refine (congrFun (O_0_5 _ _ _ _ _ _ _ _) x).trans ?_
    rw [S_0_4, S_0_3, S_0_2, S_0_1, S_0_0]
    rfl
  case piece6 =>
    obtain rfl : j = 1 := by ext; show (j:ℕ) = 1; omega
    obtain rfl : n = 4 := by ext; show (n:ℕ) = 4; omega
    refine (congrFun (O_1_4 _ _ _ _ _ _ _ _) x).trans ?_
    rw [S_1_3, S_1_2, S_1_1, S_1_0]
    rfl
  case piece7 =>
    obtain rfl : j = 0 := by ext; show (j:ℕ) = 0; omega
    obtain rfl : n = 4 := by ext; show (n:ℕ) = 4; omega
    refine (congrFun (O_0_4 _ _ _ _ _ _ _ _) x).trans ?_
    rw [S_0_3, S_0_2, S_0_1, S_0_0]
    rfl
  case piece8 =>
    obtain rfl : j = 1 := by ext; show (j:ℕ) = 1; omega
    obtain rfl : n = 3 := by ext; show (n:ℕ) = 3; omega
    refine (congrFun (O_1_3 _ _ _ _ _ _ _ _) x).trans ?_
    rw [S_1_2, S_1_1, S_1_0]
    rfl
  case piece9 =>
    obtain rfl : j = 0 := by ext; show (j:ℕ) = 0; omega
    obtain rfl : n = 3 := by ext; show (n:ℕ) = 3; omega
    refine (congrFun (O_0_3 _ _ _ _ _ _ _ _) x).trans ?_
    rw [S_0_2, S_0_1, S_0_0]
    rfl
  case piece10 =>
    obtain rfl : j = 1 := by ext; show (j:ℕ) = 1; omega
    obtain rfl : n = 2 := by ext; show (n:ℕ) = 2; omega
    refine (congrFun (O_1_2 _ _ _ _ _ _ _ _) x).trans ?_
    rw [S_1_1, S_1_0]
    rfl
  case piece11 =>
    obtain rfl : j = 0 := by ext; show (j:ℕ) = 0; omega
    obtain rfl : n = 2 := by ext; show (n:ℕ) = 2; omega
    refine (congrFun (O_0_2 _ _ _ _ _ _ _ _) x).trans ?_
    rw [S_0_1, S_0_0]
    rfl
  case piece12 =>
    obtain rfl : j = 1 := by ext; show (j:ℕ) = 1; omega
    obtain rfl : n = 1 := by ext; show (n:ℕ) = 1; omega
    refine (congrFun (O_1_1 _ _ _ _ _ _ _ _) x).trans ?_
    rw [S_1_0]
    rfl
  case piece13 =>
    obtain rfl : j = 0 := by ext; show (j:ℕ) = 0; omega
    obtain rfl : n = 1 := by ext; show (n:ℕ) = 1; omega
    refine (congrFun (O_0_1 _ _ _ _ _ _ _ _) x).trans ?_
    rw [S_0_0]
    rfl
  case piece14 =>
    obtain rfl : j = 1 := by ext; show (j:ℕ) = 1; omega
    obtain rfl : n = 0 := by ext; show (n:ℕ) = 0; omega
    refine (congrFun (O_1_0 _ _ _ _ _ _ _ _) x).trans ?_
    rfl
  case piece15 =>
    obtain rfl : j = 0 := by ext; show (j:ℕ) = 0; omega
    obtain rfl : n = 0 := by ext; show (n:ℕ) = 0; omega
    refine (congrFun (O_0_0 _ _ _ _ _ _ _ _) x).trans ?_
    rfl

end Cert.KernelIdeal.Hand
end
-- ==== Proof.OutC.lean ====
module

public import proofs.«01_k».proof.Proof.ChunkS
public import proofs.«01_k».proof.Proof.ChunkO0
public import proofs.«01_k».proof.Proof.ChunkO1
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem

attribute [local irreducible] Op Sp Kp Dp Gp Qp

set_option maxHeartbeats 1600000 in
/-- What a grid point of this case leaves in the output block: chunk `n` of head `j`. -/
theorem out_C8 (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S448x64 .bf16) (harg9 : arg9.IsWhole) (arg10 : Memref sig .tc .vmem S1x2x128x128 .f32) (harg10 : arg10.IsWhole) (arg11 : Memref sig .tc .vmem S512x256 .bf16) (harg11 : arg11.IsWhole) (arg12 : Memref sig .tc .vmem S1x2x128x128 .f32) (harg12 : arg12.IsWhole) (arg13 : Memref sig .tc .vmem S2x128x128 .f32) (harg13 : arg13.IsWhole) (hc0 : ¬cond0_0 i) (hc1 : cond0_1 i) (x0 : Vec Ideal S512x256 .f32) (x1 : Vec Ideal S512x256 .f32) (x2 : Vec Ideal S512x256 .f32) (x3 : Vec Ideal S512x256 .f32) (x4 : Vec Ideal S1x256 .f32) (x5 : Vec Ideal S1x128 .f32) (x6 : Vec Ideal S448x64 .bf16) (x7 : Vec Ideal S1x2x128x128 .f32) (xs0 : Vec Ideal S2x128x128 .f32)
    (y : S512x256.Idx) (j : Fin 2) (n : Fin 8) (z : S64x128.Idx) (hy0 : (y 0 : ℕ) = 64 * n + z 0) (hy1 : (y 1 : ℕ) = 128 * j + z 1) :
    out0_C_8 c i arg3 harg3 arg4 harg4 arg5 harg5 arg6 harg6 arg7 harg7 arg8 harg8 arg9 harg9 arg10 harg10 arg11 harg11 arg12 harg12 arg13 harg13 hc0 hc1 x0 x1 x2 x3 x4 x5 x6 x7 xs0 y = BO ⟨x0, x1, x2, x3, x4, x5, x6⟩ j (sload xs0 j.val (hsl j)) n z := by
  frame_out
  canon_tiles x h
  all_goals
    have hx0 : (x 0 : ℕ) < 64 := (x 0).isLt
    have hx1 : (x 1 : ℕ) < 128 := (x 1).isLt
    have hz0 : (z 0 : ℕ) < 64 := (z 0).isLt
    have hz1 : (z 1 : ℕ) < 128 := (z 1).isLt
    obtain ⟨hj, hzz1⟩ : (j : ℕ) = (y 1 : ℕ) / 128 ∧ (z 1 : ℕ) = (y 1 : ℕ) % 128 := by omega
    obtain ⟨hi, hzz0⟩ : (n : ℕ) = (y 0 : ℕ) / 64 ∧ (z 0 : ℕ) = (y 0 : ℕ) % 64 := by omega
    obtain rfl : x = z := by
      funext a; fin_cases a
      · exact Fin.ext (by show (x 0:ℕ) = z 0; omega)
      · exact Fin.ext (by show (x 1:ℕ) = z 1; omega)
  case piece0 =>
    obtain rfl : j = 1 := by ext; show (j:ℕ) = 1; omega
    obtain rfl : n = 7 := by ext; show (n:ℕ) = 7; omega
    refine (congrFun (O_1_7 _ _ _ _ _ _ _ _) x).trans ?_
    rw [S_1_6, S_1_5, S_1_4, S_1_3, S_1_2, S_1_1, S_1_0]
    rfl
  case piece1 =>
    obtain rfl : j = 0 := by ext; show (j:ℕ) = 0; omega
    obtain rfl : n = 7 := by ext; show (n:ℕ) = 7; omega
    refine (congrFun (O_0_7 _ _ _ _ _ _ _ _) x).trans ?_
    rw [S_0_6, S_0_5, S_0_4, S_0_3, S_0_2, S_0_1, S_0_0]
    rfl
  case piece2 =>
    obtain rfl : j = 1 := by ext; show (j:ℕ) = 1; omega
    obtain rfl : n = 6 := by ext; show (n:ℕ) = 6; omega
    refine (congrFun (O_1_6 _ _ _ _ _ _ _ _) x).trans ?_
    rw [S_1_5, S_1_4, S_1_3, S_1_2, S_1_1, S_1_0]
    rfl
  case piece3 =>
    obtain rfl : j = 0 := by ext; show (j:ℕ) = 0; omega
    obtain rfl : n = 6 := by ext; show (n:ℕ) = 6; omega
    refine (congrFun (O_0_6 _ _ _ _ _ _ _ _) x).trans ?_
    rw [S_0_5, S_0_4, S_0_3, S_0_2, S_0_1, S_0_0]
    rfl
  case piece4 =>
    obtain rfl : j = 1 := by ext; show (j:ℕ) = 1; omega
    obtain rfl : n = 5 := by ext; show (n:ℕ) = 5; omega
    refine (congrFun (O_1_5 _ _ _ _ _ _ _ _) x).trans ?_
    rw [S_1_4, S_1_3, S_1_2, S_1_1, S_1_0]
    rfl
  case piece5 =>
    obtain rfl : j = 0 := by ext; show (j:ℕ) = 0; omega
    obtain rfl : n = 5 := by ext; show (n:ℕ) = 5; omega
    refine (congrFun (O_0_5 _ _ _ _ _ _ _ _) x).trans ?_
    rw [S_0_4, S_0_3, S_0_2, S_0_1, S_0_0]
    rfl
  case piece6 =>
    obtain rfl : j = 1 := by ext; show (j:ℕ) = 1; omega
    obtain rfl : n = 4 := by ext; show (n:ℕ) = 4; omega
    refine (congrFun (O_1_4 _ _ _ _ _ _ _ _) x).trans ?_
    rw [S_1_3, S_1_2, S_1_1, S_1_0]
    rfl
  case piece7 =>
    obtain rfl : j = 0 := by ext; show (j:ℕ) = 0; omega
    obtain rfl : n = 4 := by ext; show (n:ℕ) = 4; omega
    refine (congrFun (O_0_4 _ _ _ _ _ _ _ _) x).trans ?_
    rw [S_0_3, S_0_2, S_0_1, S_0_0]
    rfl
  case piece8 =>
    obtain rfl : j = 1 := by ext; show (j:ℕ) = 1; omega
    obtain rfl : n = 3 := by ext; show (n:ℕ) = 3; omega
    refine (congrFun (O_1_3 _ _ _ _ _ _ _ _) x).trans ?_
    rw [S_1_2, S_1_1, S_1_0]
    rfl
  case piece9 =>
    obtain rfl : j = 0 := by ext; show (j:ℕ) = 0; omega
    obtain rfl : n = 3 := by ext; show (n:ℕ) = 3; omega
    refine (congrFun (O_0_3 _ _ _ _ _ _ _ _) x).trans ?_
    rw [S_0_2, S_0_1, S_0_0]
    rfl
  case piece10 =>
    obtain rfl : j = 1 := by ext; show (j:ℕ) = 1; omega
    obtain rfl : n = 2 := by ext; show (n:ℕ) = 2; omega
    refine (congrFun (O_1_2 _ _ _ _ _ _ _ _) x).trans ?_
    rw [S_1_1, S_1_0]
    rfl
  case piece11 =>
    obtain rfl : j = 0 := by ext; show (j:ℕ) = 0; omega
    obtain rfl : n = 2 := by ext; show (n:ℕ) = 2; omega
    refine (congrFun (O_0_2 _ _ _ _ _ _ _ _) x).trans ?_
    rw [S_0_1, S_0_0]
    rfl
  case piece12 =>
    obtain rfl : j = 1 := by ext; show (j:ℕ) = 1; omega
    obtain rfl : n = 1 := by ext; show (n:ℕ) = 1; omega
    refine (congrFun (O_1_1 _ _ _ _ _ _ _ _) x).trans ?_
    rw [S_1_0]
    rfl
  case piece13 =>
    obtain rfl : j = 0 := by ext; show (j:ℕ) = 0; omega
    obtain rfl : n = 1 := by ext; show (n:ℕ) = 1; omega
    refine (congrFun (O_0_1 _ _ _ _ _ _ _ _) x).trans ?_
    rw [S_0_0]
    rfl
  case piece14 =>
    obtain rfl : j = 1 := by ext; show (j:ℕ) = 1; omega
    obtain rfl : n = 0 := by ext; show (n:ℕ) = 0; omega
    refine (congrFun (O_1_0 _ _ _ _ _ _ _ _) x).trans ?_
    rfl
  case piece15 =>
    obtain rfl : j = 0 := by ext; show (j:ℕ) = 0; omega
    obtain rfl : n = 0 := by ext; show (n:ℕ) = 0; omega
    refine (congrFun (O_0_0 _ _ _ _ _ _ _ _) x).trans ?_
    rfl

end Cert.KernelIdeal.Hand
end
-- ==== Proof.Final.lean ====
module

public import proofs.«01_k».proof.Proof.Sweep
public import proofs.«01_k».proof.Proof.OutA
public import proofs.«01_k».proof.Proof.OutB
public import proofs.«01_k».proof.Proof.OutC

@[expose] public section

set_option maxRecDepth 16384

noncomputable section

namespace Cert.KernelIdeal.Hand

open Cert.KernelIdeal Cert.KernelIdeal.Gen Idealize.ShloMosaic Idealize.ShloMosaic.TcCoe Idealize.SL.Sem

variable (m : (l : Loc nD τ sig) → l.ty.Contents (Elt Ideal)) (c : Dev nD)
variable (hL : ∀ k, argL m c k ≠ ⊥ ∧ argL m c k ≠ ⊤)

/-- The state before a head group's first chunk: zero. -/
theorem init_at (t : Fin cfg0.N) (h0 : t.val % 16 = 0) (j : Fin 2) (x y : Fin 128) :
    s0load (iblk m c 7 t) j (ix2 y x) = Gla.St (argR m c) (argL m c) (2 * (t.val / 16) + j) (8 * (t.val % 16)) x y := by
  rw [h0]
  exact s0load_at _ j (b7 m c t) y x

include hL

/-- What the scratch holds after point `n`. -/
theorem sc_at : ∀ (n : ℕ) (hn : n < cfg0.N) (j : Fin 2) (x y : Fin 128),
    (outsAt0 m c n hn).2.2 (ix3 j y x) = Gla.St (argR m c) (argL m c) (2 * (n / 16) + j) (8 * (n % 16) + 8) x y := by
  intro n
  induction n with
  | zero =>
    intro hn j x y
    rw [outsAt0_A m c ⟨0, hn⟩ (by rfl) (by show ¬(0 % 16 = 15); omega)]
    dsimp only
    rw [sout_A c _ _ _ _ _ _ _ _ _ _ _ _ _ _ _ _ _ _ _ _ _ _ _ _ _ _ _ _ _ _ _ _ _ (ix3 j y x) j (ix2 y x) rfl rfl rfl]
    exact BS_at m c ⟨0, hn⟩ j hL _ (init_at m c ⟨0, hn⟩ rfl j) 8 le_rfl x y
  | succ n ih =>
    intro hn j x y
    by_cases h0 : (n + 1) % 16 = 0
    · rw [outsAt0_A m c ⟨n + 1, hn⟩ h0 (by dsimp only; omega)]
      dsimp only
      rw [sout_A c _ _ _ _ _ _ _ _ _ _ _ _ _ _ _ _ _ _ _ _ _ _ _ _ _ _ _ _ _ _ _ _ _ (ix3 j y x) j (ix2 y x) rfl rfl rfl]
      exact BS_at m c ⟨n + 1, hn⟩ j hL _ (init_at m c ⟨n + 1, hn⟩ h0 j) 8 le_rfl x y
    · have hS : ∀ x y, sload (outsAt0 m c n (by omega)).2.2 j.val (hsl j) (ix2 y x) =
          Gla.St (argR m c) (argL m c) (2 * ((n + 1) / 16) + j) (8 * ((n + 1) % 16)) x y := fun x y => by
        rw [sload_at, ih (by omega) j x y, show n / 16 = (n + 1) / 16 by omega, show 8 * (n % 16) + 8 = 8 * ((n + 1) % 16) by omega]
      by_cases h1 : (n + 1) % 16 = 15
      · rw [outsAt0_C m c ⟨n + 1, hn⟩ h0 h1]
        dsimp only
        rw [sout_C c _ _ _ _ _ _ _ _ _ _ _ _ _ _ _ _ _ _ _ _ _ _ _ _ _ _ _ _ _ _ _ _ _ _ (ix3 j y x) j (ix2 y x) rfl rfl rfl]
        exact BS_at m c ⟨n + 1, hn⟩ j hL _ hS 8 le_rfl x y
      · rw [outsAt0_B m c ⟨n + 1, hn⟩ h0 h1]
        dsimp only
        rw [sout_B c _ _ _ _ _ _ _ _ _ _ _ _ _ _ _ _ _ _ _ _ _ _ _ _ _ _ _ _ _ _ _ _ _ _ (ix3 j y x) j (ix2 y x) rfl rfl rfl]
        exact BS_at m c ⟨n + 1, hn⟩ j hL _ hS 8 le_rfl x y

/-- The state a later point of a head group starts from. -/
theorem prev_at (t : Fin cfg0.N) (h0 : ¬t.val % 16 = 0) (j : Fin 2) (x y : Fin 128) :
    sload (outsAt0 m c (t.val - 1) (Nat.lt_of_le_of_lt (Nat.sub_le _ _) t.isLt)).2.2 j.val (hsl j) (ix2 y x) =
      Gla.St (argR m c) (argL m c) (2 * (t.val / 16) + j) (8 * (t.val % 16)) x y := by
  rw [sload_at, sc_at m c hL _ _ j x y, show (t.val - 1) / 16 = t.val / 16 by omega, show 8 * ((t.val - 1) % 16) + 8 = 8 * (t.val % 16) by omega]

/-- The output block of a point. -/
theorem o8_at (t : Fin cfg0.N) (j : Fin 2) (i : Fin 8) (u : Fin 64) (x : Fin 128) (y : S512x256.Idx)
    (hy0 : (y 0 : ℕ) = 64 * i + u) (hy1 : (y 1 : ℕ) = 128 * j + x) :
    (outsAt0 m c t.val t.isLt).1 y = Gla.Out (argR m c) (argL m c) (argN m c) (2 * (t.val / 16) + j) (8 * (t.val % 16) + i) u x := by
  by_cases h0 : t.val % 16 = 0
  · rw [outsAt0_A m c t h0 (by omega)]
    dsimp only
    rw [out_A8 c _ _ _ _ _ _ _ _ _ _ _ _ _ _ _ _ _ _ _ _ _ _ _ _ _ _ _ _ _ _ _ _ _ y j i (ix2 u x) hy0 hy1]
    exact BO_at m c t j i hL _ (init_at m c t h0 j) u x
  · by_cases h1 : t.val % 16 = 15
    · rw [outsAt0_C m c t h0 h1]
      dsimp only
      rw [out_C8 c _ _ _ _ _ _ _ _ _ _ _ _ _ _ _ _ _ _ _ _ _ _ _ _ _ _ _ _ _ _ _ _ _ _ y j i (ix2 u x) hy0 hy1]
      exact BO_at m c t j i hL _ (prev_at m c hL t h0 j) u x
    · rw [outsAt0_B m c t h0 h1]
      dsimp only
      rw [out_B8 c _ _ _ _ _ _ _ _ _ _ _ _ _ _ _ _ _ _ _ _ _ _ _ _ _ _ _ _ _ _ _ _ _ _ y j i (ix2 u x) hy0 hy1]
      exact BO_at m c t j i hL _ (prev_at m c hL t h0 j) u x

/-- The state block a head group's last point writes. -/
theorem o9_at (t : Fin cfg0.N) (h1 : t.val % 16 = 15) (j : Fin 2) (x z : Fin 128) (y : S1x2x128x128.Idx)
    (hy1 : (y 1 : ℕ) = j) (hy2 : (y 2 : ℕ) = x) (hy3 : (y 3 : ℕ) = z) :
    (outsAt0 m c t.val t.isLt).2.1 y = Gla.St (argR m c) (argL m c) (2 * (t.val / 16) + j) 128 x z := by
  rw [outsAt0_C m c t (by omega) h1]
  dsimp only
  rw [out_C9 c _ _ _ _ _ _ _ _ _ _ _ _ _ _ _ _ _ _ _ _ _ _ _ _ _ _ _ _ _ _ _ _ _ _ y j (ix2 z x) hy1 hy2 hy3]
  have := BS_at m c t j hL _ (prev_at m c hL t (by omega) j) 8 le_rfl x z
  rw [h1] at this
  exact this

/-- The kernel's output. -/
theorem G8_at (T : Fin 8192) (K : Fin 2048) :
    (Value.G8 m c : FVec Ideal S8192x2048 .bf16) (ix2 T K) =
      Gla.Out (argR m c) (argL m c) (argN m c) (K / 128) (T / 64) ⟨T % 64, by omega⟩ ⟨K % 128, by omega⟩ := by
  have hN : cfg0.N = 128 := N_0
  have hp : Value.pt8Of (ix2 T K) = T / 512 + 16 * (K / 256) := by
    show 1 * (T.val / 512 - 0) + 16 * (K.val / 256 - 0) = _
    omega
  have hlt : Value.pt8Of (ix2 T K) < cfg0.N := by rw [hp, hN]; omega
  refine (dif_pos hlt).trans ?_
  rw [← Value.outsAt0_sweep m c _ hlt]
  refine (o8_at m c hL ⟨Value.pt8Of (ix2 T K), hlt⟩ ⟨K / 128 % 2, by omega⟩ ⟨T / 64 % 8, by omega⟩ ⟨T % 64, by omega⟩ ⟨K % 128, by omega⟩ _ ?_ ?_).trans ?_
  · show T.val % 512 = 64 * (T / 64 % 8) + T % 64
    omega
  · show K.val % 256 = 128 * (K / 128 % 2) + K % 128
    omega
  · dsimp only
    rw [hp, show 2 * ((T.val / 512 + 16 * (K.val / 256)) / 16) + K.val / 128 % 2 = K / 128 by omega,
      show 8 * ((T.val / 512 + 16 * (K.val / 256)) % 16) + T.val / 64 % 8 = T / 64 by omega]

/-- The kernel's final states. -/
theorem G9_at (h : Fin 16) (x z : Fin 128) :
    (Value.G9 m c : FVec Ideal S1x16x128x128 .f32) (ix4 (0 : Fin 1) h x z) = Gla.St (argR m c) (argL m c) h 128 x z := by
  have hN : cfg0.N = 128 := N_0
  have hp : Value.pt9Of (ix4 (0 : Fin 1) h x z) = 16 * (h / 2) + 15 := by
    show 16 * (8 * (0 / 1 - 0) + 1 * (h.val / 2 - 0) + 1 * (x.val / 128 - 0) + 1 * (z.val / 128 - 0)) + 15 = _
    omega
  have hlt : Value.pt9Of (ix4 (0 : Fin 1) h x z) < cfg0.N := by rw [hp, hN]; omega
  refine (dif_pos hlt).trans ?_
  rw [← Value.outsAt0_sweep m c _ hlt]
  refine (o9_at m c hL ⟨Value.pt9Of (ix4 (0 : Fin 1) h x z), hlt⟩ ?_ ⟨h % 2, by omega⟩ x z _ ?_ ?_ ?_).trans ?_
  · dsimp only
    rw [hp]; omega
  · show h.val % 2 = h % 2
    rfl
  · show x.val % 128 = x
    omega
  · show z.val % 128 = z
    omega
  · dsimp only
    rw [hp, show 2 * ((16 * (h.val / 2) + 15) / 16) + h.val % 2 = h by omega]

end Cert.KernelIdeal.Hand
end
-- ==== Proof.LoopA.lean ====
module

public import proofs.«01_k».proof.Proof.Spec
public import proofs.«01_k».proof.Proof.Gen.ReferenceIdeal.Run
public import Idealize.ShloMosaic.Lib.DynamicIndex

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem

/-- A chunk of a stack at a loop counter `n`. -/
theorem row_at (x : FVec Ideal S128x1x64x16x128 .f32) (st : Fin 5 → ℤ) (n : Fin 128) (hs : ∀ a, st a = ((![n.val, 0, 0, 0, 0] : Fin 5 → ℕ) a : ℤ))
    (t : Fin 64) (h : Fin 16) (c : Fin 128) :
    shapeCast S1x64x16x128 (Host.dynamicSlice S1x1x64x16x128 x st sliceFits_S128x1x64x16x128_S1x1x64x16x128) shapeCasts_S1x1x64x16x128_S1x64x16x128 (ix4 (0 : Fin 1) t h c) = x (ix5 n (0 : Fin 1) t h c) := by
  have hoff : S128x1x64x16x128.Slices ![n.val, 0, 0, 0, 0] S1x1x64x16x128 := ⟨rfl, fun a => by
    have := n.isLt
    fin_cases a
    · show n.val + 1 ≤ 128; omega
    · show 0 + 1 ≤ 1; omega
    · show 0 + 64 ≤ 64; omega
    · show 0 + 16 ≤ 16; omega
    · show 0 + 128 ≤ 128; omega⟩
  rw [Host.dynamicSlice_eq_extractStridedSlice _ x st _ sliceFits_S128x1x64x16x128_S1x1x64x16x128 hoff hs]
  pointwise []

variable (V : Valuation τ sig (Elt Ideal)) (n : Fin 128) (hn : V (Proc.devRef .tc main_v40_5) = fun _ => BitVec.ofNat 32 n)

include hn in
/-- Where the slices of trip `n` start. -/
theorem start_at (a : Fin 5) : (((![V (Proc.devRef .tc main_v40_5), constantI S_ 32 0#32, constantI S_ 32 0#32, constantI S_ 32 0#32, constantI S_ 32 0#32] : Fin 5 → (⟨S_, .i32⟩ : BufTy).Contents (Elt Ideal))) a (Shape.Idx.first h_S_)).toInt = ((![n.val, 0, 0, 0, 0] : Fin 5 → ℕ) a : ℤ) := by
  fin_cases a
  · show (V (Proc.devRef .tc main_v40_5) (Shape.Idx.first h_S_)).toInt = (n.val : ℤ)
    rw [hn]
    exact (by decide : ∀ n : Fin 128, (BitVec.ofNat 32 n.val).toInt = (n.val : ℤ)) n
  all_goals rfl

include hn

theorem q_at (t : Fin 64) (h : Fin 16) (c : Fin 128) : (res_main_while0b_v63 V : FVec Ideal S1x64x16x128 .f32) (ix4 (0 : Fin 1) t h c) = (V (Proc.devRef .tc main_v40_0) : FVec Ideal S128x1x64x16x128 .f32) (ix5 n (0 : Fin 1) t h c) :=
  row_at _ _ n (start_at V n hn) t h c
theorem k_at (t : Fin 64) (h : Fin 16) (c : Fin 128) : (res_main_while0b_v64 V : FVec Ideal S1x64x16x128 .f32) (ix4 (0 : Fin 1) t h c) = (V (Proc.devRef .tc main_v40_1) : FVec Ideal S128x1x64x16x128 .f32) (ix5 n (0 : Fin 1) t h c) :=
  row_at _ _ n (start_at V n hn) t h c
theorem v_at (t : Fin 64) (h : Fin 16) (c : Fin 128) : (res_main_while0b_v66 V : FVec Ideal S1x64x16x128 .f32) (ix4 (0 : Fin 1) t h c) = (V (Proc.devRef .tc main_v40_3) : FVec Ideal S128x1x64x16x128 .f32) (ix5 n (0 : Fin 1) t h c) :=
  row_at _ _ n (start_at V n hn) t h c

omit hn

/-- The window of a running sum over a chunk's rows. -/
def win (u : Fin 64) : (⟨S1x64x16x128.rank, ![1, 64, 1, 1]⟩ : Shape).Idx := fun a => match a with
  | ⟨0, _⟩ => (0 : Fin 1)
  | ⟨1, _⟩ => u
  | ⟨2, _⟩ => (0 : Fin 1)
  | ⟨3, _⟩ => (0 : Fin 1)

def winE : Fin 64 ≃ (⟨S1x64x16x128.rank, ![1, 64, 1, 1]⟩ : Shape).Idx where
  toFun := win
  invFun w := w (1 : Fin 4)
  left_inv u := rfl
  right_inv w := funext fun a => match a with
    | ⟨0, _⟩ => Subsingleton.elim (α := Fin 1) _ _
    | ⟨1, _⟩ => rfl
    | ⟨2, _⟩ => Subsingleton.elim (α := Fin 1) _ _
    | ⟨3, _⟩ => Subsingleton.elim (α := Fin 1) _ _

theorem foldl_sum {ι : Type} (l : List ι) (f : ι → EReal) (z : EReal) : l.foldl (fun r n => r + f n) z = z + (l.map f).sum := by
  induction l generalizing z with
  | nil => simp
  | cons a l ih => rw [List.foldl_cons, ih, List.map_cons, List.sum_cons, add_assoc]

/-- A running sum over a chunk's rows at an index. -/
theorem cumsum_at (x : FVec Ideal S1x64x16x128 .f32) (v : FVec Ideal S_ .f32) (hv : v (Shape.Idx.first h_S_) = (0 : EReal)) (t : Fin 64) (h : Fin 16) (c : Fin 128) :
    Host.reduceWindowAdd ![1, 64, 1, 1] ![1, 1, 1, 1] ![0, 63, 0, 0] ![0, 0, 0, 0] x v reduceWindows_S1x64x16x128_S1x64x16x128_w1s1p0_0_w64s1p63_0_w1s1p0_0_w1s1p0_0 h_S_ (ix4 (0 : Fin 1) t h c) =
      (∑ u : Fin 64, if u ≤ t then x (ix4 (0 : Fin 1) u h c) else 0 : EReal) := by
  show Host.reduceWindow (· + ·) ![1, 64, 1, 1] ![1, 1, 1, 1] ![0, 63, 0, 0] ![0, 0, 0, 0] x (fun _ => v (Shape.Idx.first h_S_)) reduceWindows_S1x64x16x128_S1x64x16x128_w1s1p0_0_w64s1p63_0_w1s1p0_0_w1s1p0_0 h_S_ (ix4 (0 : Fin 1) t h c) = _
  unfold Host.reduceWindow
  dsimp only
  rw [foldl_sum, hv, zero_add, ← List.ofFn_eq_map, List.sum_ofFn]
  refine (Fintype.sum_equiv ((Shape.rowMajor (⟨4, ![1, 64, 1, 1]⟩ : Shape)).symm.trans winE.symm) _
    (fun w : Fin 64 => if w + (t + 1) ≤ t then x (ix4 (0 : Fin 1) (w + (t + 1)) h c) else (0 : EReal)) (fun i => ?_)).trans
    (Equiv.sum_comp (Equiv.addRight (t + 1)) (fun u : Fin 64 => if u ≤ t then x (ix4 (0 : Fin 1) u h c) else (0 : EReal)))
  obtain ⟨w, he⟩ := winE.surjective ((Shape.rowMajor (⟨4, ![1, 64, 1, 1]⟩ : Shape)).symm i)
  refine Eq.trans ?_ (congrArg (fun w : Fin 64 => if w + (t + 1) ≤ t then x (ix4 (0 : Fin 1) (w + (t + 1)) h c) else (0 : EReal))
    ((congrArg winE.symm he.symm).trans (Equiv.symm_apply_apply winE w))).symm
  have r0 : ((Shape.rowMajor (⟨4, ![1, 64, 1, 1]⟩ : Shape)).symm i 0).val = 0 := by rw [← he]; rfl
  have r1 : ((Shape.rowMajor (⟨4, ![1, 64, 1, 1]⟩ : Shape)).symm i 1).val = w := by rw [← he]; rfl
  have r2 : ((Shape.rowMajor (⟨4, ![1, 64, 1, 1]⟩ : Shape)).symm i 2).val = 0 := by rw [← he]; rfl
  have r3 : ((Shape.rowMajor (⟨4, ![1, 64, 1, 1]⟩ : Shape)).symm i 3).val = 0 := by rw [← he]; rfl
  have ht := t.isLt
  have hw := w.isLt
  have hval : (w + (t + 1) : Fin 64).val = (w.val + t.val + 1) % 64 := by
    rw [Fin.val_add, Fin.val_add]; show (w.val + (t.val + 1) % 64) % 64 = _; omega
  by_cases hle : 63 ≤ t.val + w.val
  · rw [if_pos (by rw [Fin.le_def, hval]; omega), dif_pos ?_]
    · refine congrArg x (funext fun a => Fin.ext ?_)
      fin_cases a
      · show 0 * 1 + ((Shape.rowMajor (⟨4, ![1, 64, 1, 1]⟩ : Shape)).symm i 0).val - 0 = 0
        omega
      · show t.val * 1 + ((Shape.rowMajor (⟨4, ![1, 64, 1, 1]⟩ : Shape)).symm i 1).val - 63 = (w + (t + 1) : Fin 64).val
        rw [hval]; omega
      · show h.val * 1 + ((Shape.rowMajor (⟨4, ![1, 64, 1, 1]⟩ : Shape)).symm i 2).val - 0 = h.val
        omega
      · show c.val * 1 + ((Shape.rowMajor (⟨4, ![1, 64, 1, 1]⟩ : Shape)).symm i 3).val - 0 = c.val
        omega
    · intro a
      fin_cases a
      · show 0 ≤ 0 * 1 + ((Shape.rowMajor (⟨4, ![1, 64, 1, 1]⟩ : Shape)).symm i 0).val ∧ 0 * 1 + ((Shape.rowMajor (⟨4, ![1, 64, 1, 1]⟩ : Shape)).symm i 0).val - 0 < 1
        omega
      · show 63 ≤ t.val * 1 + ((Shape.rowMajor (⟨4, ![1, 64, 1, 1]⟩ : Shape)).symm i 1).val ∧ t.val * 1 + ((Shape.rowMajor (⟨4, ![1, 64, 1, 1]⟩ : Shape)).symm i 1).val - 63 < 64
        omega
      · show 0 ≤ h.val * 1 + ((Shape.rowMajor (⟨4, ![1, 64, 1, 1]⟩ : Shape)).symm i 2).val ∧ h.val * 1 + ((Shape.rowMajor (⟨4, ![1, 64, 1, 1]⟩ : Shape)).symm i 2).val - 0 < 16
        omega
      · show 0 ≤ c.val * 1 + ((Shape.rowMajor (⟨4, ![1, 64, 1, 1]⟩ : Shape)).symm i 3).val ∧ c.val * 1 + ((Shape.rowMajor (⟨4, ![1, 64, 1, 1]⟩ : Shape)).symm i 3).val - 0 < 128
        omega
  · rw [if_neg (by rw [Fin.le_def, hval]; omega), dif_neg ?_]
    intro hin
    have := (hin 1).1
    change 63 ≤ t.val * 1 + ((Shape.rowMajor (⟨4, ![1, 64, 1, 1]⟩ : Shape)).symm i 1).val at this
    omega

include hn

/-- The running sums of trip `n`. -/
theorem g_at (t : Fin 64) (h : Fin 16) (c : Fin 128) : (res_main_while0b_v67 V : FVec Ideal S1x64x16x128 .f32) (ix4 (0 : Fin 1) t h c) =
    Gla.gcs (fun u c => (V (Proc.devRef .tc main_v40_2) : FVec Ideal S128x1x64x16x128 .f32) (ix5 n (0 : Fin 1) u h c)) t c := by
  refine (cumsum_at _ _ ?_ t h c).trans ?_
  · exact Ideal.ofBits_zero_f32
  · unfold Gla.gcs
    refine Finset.sum_congr rfl fun u _ => ?_
    exact congrArg (fun z => if u ≤ t then z else (0 : EReal)) (row_at _ _ n (start_at V n hn) u h c)

end Cert.ReferenceIdeal.Hand
end
-- ==== Proof.LoopB.lean ====
module

public import proofs.«01_k».proof.Proof.Spec
public import proofs.«01_k».proof.Proof.Gen.ReferenceIdeal.Run
public import Idealize.ShloMosaic.Lib.DynamicIndex

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem

variable (V : Valuation τ sig (Elt Ideal))

/-- Query, key gate, running sum and value of head `h` in a trip, and its state. -/
def vq (h : Fin 16) : Gla.M 64 128 := fun t c => (res_main_while0b_v63 V : FVec Ideal S1x64x16x128 .f32) (ix4 (0 : Fin 1) t h c)
def vk (h : Fin 16) : Gla.M 64 128 := fun t c => (res_main_while0b_v64 V : FVec Ideal S1x64x16x128 .f32) (ix4 (0 : Fin 1) t h c)
def vv (h : Fin 16) : Gla.M 64 128 := fun t c => (res_main_while0b_v66 V : FVec Ideal S1x64x16x128 .f32) (ix4 (0 : Fin 1) t h c)
def vg (h : Fin 16) : Gla.M 64 128 := fun t c => (res_main_while0b_v67 V : FVec Ideal S1x64x16x128 .f32) (ix4 (0 : Fin 1) t h c)
def vs (h : Fin 16) : Gla.M 128 128 := fun x y => (V (Proc.devRef .tc main_v40_6) : FVec Ideal S1x16x128x128 .f32) (ix4 (0 : Fin 1) h x y)

theorem last_at (h : Fin 16) (c : Fin 128) : (res_main_while0b_v91 V : FVec Ideal S1x16x128 .f32) (ix3 (0 : Fin 1) h c) = vg V h 63 c := by
  unfold res_main_while0b_v91 vg
  pointwise []

/-- The state after a trip. -/
theorem step6_at (h : Fin 16) (x y : Fin 128) : (step_main_v40_6 V : FVec Ideal S1x16x128x128 .f32) (ix4 (0 : Fin 1) h x y) =
    (Ideal.exp (vg V h 63 x) * vs V h x y + ∑ s : Fin 64, vk V h s x * Ideal.exp (vg V h 63 x - vg V h s x) * vv V h s y : EReal) := by
  unfold step_main_v40_6
  simp only [id]
  pointwise []
  simp only [← last_at]
  rfl

/-- The values a trip writes. -/
def pay (Q K C W : FVec Ideal S1x64x16x128 .f32) (S : FVec Ideal S1x16x128x128 .f32) (B : IVec S1x64x64x1x1 1) : FVec Ideal S1x64x16x128 .f32 := addf (transpose S1x64x16x128 [0, 3, 1, 2] (Host.dotGeneral dot_S1x16x128x128_S1x64x16x128_S1x16x128x64_2_3_3_1_01_02 none S (mulf Q (Host.exp C))) transposes_S1x16x128x64_S1x64x16x128_0_3_1_2) (transpose S1x64x16x128 [0, 3, 1, 2] (Host.dotGeneral dot_S1x64x16x128_S1x64x16x64_S1x16x128x64_1_3_3_1_02_02 none W (transpose S1x64x16x64 [0, 1, 3, 2] (Host.reduceAdd (mulf (mulf (broadcastInDim S1x64x64x16x128 ![0, 1, 2, 3, 4] bcast_S1x64x1x16x128_S1x64x64x16x128_0_1_2_3_4 (broadcastInDim S1x64x1x16x128 ![0, 1, 3, 4] bcast_S1x64x16x128_S1x64x1x16x128_0_1_3_4 Q)) (broadcastInDim S1x64x64x16x128 ![0, 1, 2, 3, 4] bcast_S1x1x64x16x128_S1x64x64x16x128_0_1_2_3_4 (broadcastInDim S1x1x64x16x128 ![0, 2, 3, 4] bcast_S1x64x16x128_S1x1x64x16x128_0_2_3_4 K))) (select (broadcastInDim S1x64x64x16x128 ![0, 1, 2, 3, 4] bcast_S1x64x64x1x1_S1x64x64x16x128_0_1_2_3_4 B) (Host.exp (select (broadcastInDim S1x64x64x16x128 ![0, 1, 2, 3, 4] bcast_S1x64x64x1x1_S1x64x64x16x128_0_1_2_3_4 B) (subf (broadcastInDim S1x64x64x16x128 ![0, 1, 2, 3, 4] bcast_S1x64x1x16x128_S1x64x64x16x128_0_1_2_3_4 (broadcastInDim S1x64x1x16x128 ![0, 1, 3, 4] bcast_S1x64x16x128_S1x64x1x16x128_0_1_3_4 C)) (broadcastInDim S1x64x64x16x128 ![0, 1, 2, 3, 4] bcast_S1x1x64x16x128_S1x64x64x16x128_0_1_2_3_4 (broadcastInDim S1x1x64x16x128 ![0, 2, 3, 4] bcast_S1x64x16x128_S1x1x64x16x128_0_2_3_4 C))) (broadcastInDim S1x64x64x16x128 ![] bcast_S_S1x64x64x16x128 (id (constant S_ .f32 0x00000000#32))))) (broadcastInDim S1x64x64x16x128 ![] bcast_S_S1x64x64x16x128 (id (constant S_ .f32 0x00000000#32))))) (constant S_ .f32 0x00000000#32) reducesTo_S1x64x64x16x128_S1x64x64x16_d4 h_S_) transposes_S1x64x64x16_S1x64x16x64_0_1_3_2)) transposes_S1x16x128x64_S1x64x16x128_0_3_1_2)

theorem step7_eq : step_main_v40_7 V = Host.dynamicUpdateSlice (V (Proc.devRef .tc main_v40_7)) (broadcastInDim S1x1x64x16x128 ![1, 2, 3, 4] bcast_S1x64x16x128_S1x1x64x16x128_1_2_3_4 (pay (res_main_while0b_v63 V) (res_main_while0b_v64 V) (res_main_while0b_v67 V) (res_main_while0b_v66 V) (V (Proc.devRef .tc main_v40_6)) (V (Proc.devRef .tc main_v40_4)))) (fun k => (((![V (Proc.devRef .tc main_v40_5), constantI S_ 32 0#32, constantI S_ 32 0#32, constantI S_ 32 0#32, constantI S_ 32 0#32] : Fin 5 → (⟨S_, .i32⟩ : BufTy).Contents (Elt Ideal))) k (Shape.Idx.first h_S_)).toInt) updateFits_S128x1x64x16x128_S1x1x64x16x128 := by
  delta step_main_v40_7 pay; rfl

/-- The values of a trip at an index. -/
theorem pay_at (Q K C W : FVec Ideal S1x64x16x128 .f32) (S : FVec Ideal S1x16x128x128 .f32) (B : IVec S1x64x64x1x1 1)
    (hm : ∀ t s : Fin 64, B (ix5 (0 : Fin 1) t s (0 : Fin 1) (0 : Fin 1)) = if s ≤ t then 1#1 else 0#1) (t : Fin 64) (h : Fin 16) (c : Fin 128) :
    pay Q K C W S B (ix4 (0 : Fin 1) t h c) =
    (∑ s : Fin 64, (∑ x : Fin 128, Q (ix4 (0 : Fin 1) t h x) * K (ix4 (0 : Fin 1) s h x) * (if s ≤ t then Ideal.exp (C (ix4 (0 : Fin 1) t h x) - C (ix4 (0 : Fin 1) s h x)) else 0)) * W (ix4 (0 : Fin 1) s h c)
      + ∑ x : Fin 128, Q (ix4 (0 : Fin 1) t h x) * Ideal.exp (C (ix4 (0 : Fin 1) t h x)) * S (ix4 (0 : Fin 1) h x c) : EReal) := by
  unfold pay
  pointwise [hm]
  rw [add_comm]
  refine congrArg₂ (· + ·) (Finset.sum_congr rfl fun s _ => ?_) (Finset.sum_congr rfl fun x _ => mul_comm _ _)
  rw [mul_comm]
  refine congrArg (· * W (ix4 (0 : Fin 1) s h c)) (Finset.sum_congr rfl fun x _ => ?_)
  refine congrArg (Q (ix4 (0 : Fin 1) t h x) * K (ix4 (0 : Fin 1) s h x) * ·) ?_
  by_cases hst : s ≤ t
  · rw [if_pos hst, if_pos hst]; rfl
  · rw [if_neg hst, if_neg hst]; exact Ideal.ofBits_zero_f32

end Cert.ReferenceIdeal.Hand
end
-- ==== Proof.Entry.lean ====
module

public import proofs.«01_k».proof.Proof.Spec
public import proofs.«01_k».proof.Proof.Gen.ReferenceIdeal.Run
public import Idealize.ShloMosaic.Lib.DynamicIndex

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem
open Idealize.ShloMosaic.StableHlo

variable (m : (l : Loc nD τ sig) → l.ty.Contents (Elt Ideal)) (c : Dev nD)

/-- The projections, the lower bound and the norm weight, as functions of plain numbers. -/
def argR (r k : ℕ) : EReal := if h : r < 9216 ∧ k < 8192 then (m ((c : Thread nD τ).loc main_arg0) : FVec Ideal S9216x8192 .f32) (ix2 (⟨r, h.1⟩ : Fin 9216) (⟨k, h.2⟩ : Fin 8192)) else 0
def argL (k : ℕ) : EReal := if h : k < 2048 then (m ((c : Thread nD τ).loc main_arg1) : FVec Ideal S2048 .f32) (ix1 (⟨k, h⟩ : Fin 2048)) else 0
def argN (k : Fin 128) : EReal := (m ((c : Thread nD τ).loc main_arg2) : FVec Ideal S128 .f32) (ix1 k)

/-- The projections' columns of one kind. -/
def sl0 (A : FVec Ideal S9216x8192 .f32) : FVec Ideal S1x8192x2048 .f32 := shapeCast S1x8192x2048 (extractStridedSlice S8192x2048 ![0, 0] A slices_S9216x8192_S8192x2048_0_0) shapeCasts_S8192x2048_S1x8192x2048
def sl1 (A : FVec Ideal S9216x8192 .f32) : FVec Ideal S1x8192x2048 .f32 := shapeCast S1x8192x2048 (extractStridedSlice S8192x2048 ![0, 2048] A slices_S9216x8192_S8192x2048_0_2048) shapeCasts_S8192x2048_S1x8192x2048
def sl2 (A : FVec Ideal S9216x8192 .f32) : FVec Ideal S1x8192x2048 .f32 := shapeCast S1x8192x2048 (extractStridedSlice S8192x2048 ![0, 4096] A slices_S9216x8192_S8192x2048_0_4096) shapeCasts_S8192x2048_S1x8192x2048

/-- An array of all rows as a stack of chunks. -/
def stk (x : FVec Ideal S1x8192x2048 .f32) : FVec Ideal S128x1x64x16x128 .f32 :=
  transpose S128x1x64x16x128 [1, 0, 2, 3, 4] (shapeCast S1x128x64x16x128 (shapeCast S1x8192x16x128 x shapeCasts_S1x8192x2048_S1x8192x16x128) shapeCasts_S1x8192x16x128_S1x128x64x16x128) transposes_S1x128x64x16x128_S128x1x64x16x128_1_0_2_3_4

def one3 : FVec Ideal S1x8192x2048 .f32 := broadcastInDim S1x8192x2048 ![] bcast_S_S1x8192x2048 (constant S_ .f32 0x3F800000#32)

/-- Queries, key gates and log gates of all rows. -/
def qall (a : FVec Ideal S1x8192x2048 .f32) : FVec Ideal S1x8192x2048 .f32 := mulf a (Host.divf one3 (addf one3 (Host.exp (Host.negf a))))
def kall (a : FVec Ideal S1x8192x2048 .f32) (L : FVec Ideal S2048 .f32) : FVec Ideal S1x8192x2048 .f32 :=
  mulf (broadcastInDim S1x8192x2048 ![0, 1, 2] bcast_S1x1x2048_S1x8192x2048_0_1_2 (broadcastInDim S1x1x2048 ![2] bcast_S2048_S1x1x2048_2 (subf (broadcastInDim S2048 ![] bcast_S_S2048 (constant S_ .f32 0x3F800000#32)) L)))
    (Host.divf one3 (addf one3 (Host.exp (Host.negf (Host.negf a)))))
def lall (k : FVec Ideal S1x8192x2048 .f32) : FVec Ideal S1x8192x2048 .f32 :=
  Host.log1p (Host.negf (minimumf k (broadcastInDim S1x8192x2048 ![] bcast_S_S1x8192x2048 (constant S_ .f32 0x3F7FFFEF#32))))
def msk : IVec S1x64x64x1x1 1 := broadcastInDim S1x64x64x1x1 ![1, 2] bcast_S64x64_S1x64x64x1x1_1_2
  (select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)))

theorem r0 : entryContents preI m c (Proc.devRef .tc main_v40_0) = stk (qall (sl0 (m ((c : Thread nD τ).loc main_arg0)))) := by
  simp only [entryContents, afterL_cons, afterL_nil]; after_reads_simp; rfl
theorem r1 : entryContents preI m c (Proc.devRef .tc main_v40_1) = stk (kall (sl1 (m ((c : Thread nD τ).loc main_arg0))) (m ((c : Thread nD τ).loc main_arg1))) := by
  simp only [entryContents, afterL_cons, afterL_nil]; after_reads_simp; rfl
theorem r2 : entryContents preI m c (Proc.devRef .tc main_v40_2) = stk (lall (kall (sl1 (m ((c : Thread nD τ).loc main_arg0))) (m ((c : Thread nD τ).loc main_arg1)))) := by
  simp only [entryContents, afterL_cons, afterL_nil]; after_reads_simp; rfl
section Reads
variable (X : Valuation τ sig (Elt Ideal))
theorem va : after hostOps0_4 X (Proc.devRef .tc main_v40_3) = transpose S128x1x64x16x128 [1, 0, 2, 3, 4] (shapeCast S1x128x64x16x128 (X (Proc.devRef .tc main_v26)) shapeCasts_S1x8192x16x128_S1x128x64x16x128) transposes_S1x128x64x16x128_S128x1x64x16x128_1_0_2_3_4 := by
  after_reads_simp; rfl
theorem vb : after hostOps0_3 X (Proc.devRef .tc main_v26) = X (Proc.devRef .tc main_v26) := by
  after_reads_simp
theorem vc : after hostOps0_2 X (Proc.devRef .tc main_v26) = shapeCast S1x8192x16x128 (X (Proc.devRef .tc main_v5)) shapeCasts_S1x8192x2048_S1x8192x16x128 := by
  after_reads_simp; rfl
theorem vd : after hostOps0_1 X (Proc.devRef .tc main_v5) = X (Proc.devRef .tc main_v5) := by
  after_reads_simp
theorem ve : after hostOps0 X (Proc.devRef .tc main_v5) = sl2 (X (Proc.devRef .tc main_arg0)) := by
  after_reads_simp; rfl
end Reads
theorem r3 : entryContents preI m c (Proc.devRef .tc main_v40_3) = stk (sl2 (m ((c : Thread nD τ).loc main_arg0))) := by
  simp only [entryContents, afterL_cons, afterL_nil]
  rw [va, vb, vc, vd, ve]
  rfl
theorem r4 : entryContents preI m c (Proc.devRef .tc main_v40_4) = msk := by
  simp only [entryContents, afterL_cons, afterL_nil]; after_reads_simp; rfl
theorem r6 : entryContents preI m c (Proc.devRef .tc main_v40_6) = (broadcastInDim S1x16x128x128 ![] bcast_S_S1x16x128x128 (constant S_ .f32 0x00000000#32) : FVec Ideal S1x16x128x128 .f32) := by
  simp only [entryContents, afterL_cons, afterL_nil]; after_reads_simp; rfl

theorem stk_at (x : FVec Ideal S1x8192x2048 .f32) (n : Fin 128) (t : Fin 64) (h : Fin 16) (y : Fin 128) :
    stk x (ix5 n (0 : Fin 1) t h y) = x (ix3 (0 : Fin 1) (⟨64 * n + t, by omega⟩ : Fin 8192) (⟨128 * h + y, by omega⟩ : Fin 2048)) := by
  unfold stk
  pointwise []
  refine congrArg x (funext fun a => Fin.ext ?_)
  fin_cases a
  · rfl
  · dsimp; omega
  · dsimp; omega

theorem sl0_at (T : Fin 8192) (K : Fin 2048) : sl0 (m ((c : Thread nD τ).loc main_arg0)) (ix3 (0 : Fin 1) T K) = argR m c T K := by
  unfold argR sl0
  rw [dif_pos (by omega)]
  pointwise []
theorem sl1_at (T : Fin 8192) (K : Fin 2048) : sl1 (m ((c : Thread nD τ).loc main_arg0)) (ix3 (0 : Fin 1) T K) = argR m c T (2048 + K) := by
  unfold argR sl1
  rw [dif_pos (by omega)]
  pointwise []
theorem sl2_at (T : Fin 8192) (K : Fin 2048) : sl2 (m ((c : Thread nD τ).loc main_arg0)) (ix3 (0 : Fin 1) T K) = argR m c T (4096 + K) := by
  unfold argR sl2
  rw [dif_pos (by omega)]
  pointwise []
theorem qall_at (a : FVec Ideal S1x8192x2048 .f32) (T : Fin 8192) (K : Fin 2048) : qall a (ix3 (0 : Fin 1) T K) = a (ix3 (0 : Fin 1) T K) * Ideal.logistic (a (ix3 (0 : Fin 1) T K)) := by
  unfold qall one3
  pointwise []
  rfl
theorem kall_at (a : FVec Ideal S1x8192x2048 .f32) (L : FVec Ideal S2048 .f32) (T : Fin 8192) (K : Fin 2048) :
    kall a L (ix3 (0 : Fin 1) T K) = (1 - L (ix1 K)) * Ideal.logistic (- a (ix3 (0 : Fin 1) T K)) := by
  unfold kall one3
  pointwise []
  rfl
theorem lall_at (k : FVec Ideal S1x8192x2048 .f32) (T : Fin 8192) (K : Fin 2048) :
    lall k (ix3 (0 : Fin 1) T K) = Ideal.log1p (- min (k (ix3 (0 : Fin 1) T K)) Gla.cap) := by
  unfold lall
  pointwise []
  rfl
theorem msk_at (t s : Fin 64) : msk (ix5 (0 : Fin 1) t s (0 : Fin 1) (0 : Fin 1)) = if s ≤ t then 1#1 else 0#1 := by
  unfold msk
  pointwise []
  revert t s
  decide

theorem e0 (n : Fin 128) (t : Fin 64) (h : Fin 16) (x : Fin 128) :
    (entryContents preI m c (Proc.devRef .tc main_v40_0) : FVec Ideal S128x1x64x16x128 .f32) (ix5 n (0 : Fin 1) t h x) = Gla.Qc (argR m c) n h t x := by
  rw [r0, stk_at, qall_at, sl0_at]; rfl
theorem e1 (n : Fin 128) (t : Fin 64) (h : Fin 16) (x : Fin 128) :
    (entryContents preI m c (Proc.devRef .tc main_v40_1) : FVec Ideal S128x1x64x16x128 .f32) (ix5 n (0 : Fin 1) t h x) = Gla.Kc (argR m c) (argL m c) n h t x := by
  rw [r1, stk_at, kall_at, sl1_at]
  unfold Gla.Kc argL
  rw [dif_pos (by omega)]
theorem e2 (n : Fin 128) (t : Fin 64) (h : Fin 16) (x : Fin 128) :
    (entryContents preI m c (Proc.devRef .tc main_v40_2) : FVec Ideal S128x1x64x16x128 .f32) (ix5 n (0 : Fin 1) t h x) = Gla.lg (Gla.Kc (argR m c) (argL m c) n h) t x := by
  rw [r2, stk_at, lall_at, Gla.lg, ← e1, r1, stk_at]
theorem e3 (n : Fin 128) (t : Fin 64) (h : Fin 16) (x : Fin 128) :
    (entryContents preI m c (Proc.devRef .tc main_v40_3) : FVec Ideal S128x1x64x16x128 .f32) (ix5 n (0 : Fin 1) t h x) = Gla.Vc (argR m c) n h t x := by
  rw [r3, stk_at, sl2_at]; rfl
theorem e4 (t s : Fin 64) :
    (entryContents preI m c (Proc.devRef .tc main_v40_4) : IVec S1x64x64x1x1 1) (ix5 (0 : Fin 1) t s (0 : Fin 1) (0 : Fin 1)) = if s ≤ t then 1#1 else 0#1 := by
  rw [r4, msk_at]
theorem e6 (h : Fin 16) (x y : Fin 128) :
    (entryContents preI m c (Proc.devRef .tc main_v40_6) : FVec Ideal S1x16x128x128 .f32) (ix4 (0 : Fin 1) h x y) = (0 : EReal) := by
  rw [r6]
  exact Ideal.ofBits_zero_f32

end Cert.ReferenceIdeal.Hand
end
-- ==== Proof.Post.lean ====
module

public import proofs.«01_k».proof.Proof.Spec
public import proofs.«01_k».proof.Proof.Gen.ReferenceIdeal.Run
public import Idealize.ShloMosaic.Lib.DynamicIndex

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem

variable (V : Valuation τ sig (Elt Ideal))

theorem div_logistic (x : EReal) : Ideal.div 1 (1 + Ideal.exp (-x)) = Ideal.logistic x := rfl

theorem post_at (T : Fin 8192) (K : Fin 2048) :
    (out_main_v62 V : FVec Ideal S8192x2048 .bf16) (ix2 T K) =
    Gla.fin (fun t x => (V (Proc.devRef .tc main_v40_7) : FVec Ideal S128x1x64x16x128 .f32) (ix5 (⟨T / 64, by omega⟩ : Fin 128) (0 : Fin 1) t (⟨K / 128, by omega⟩ : Fin 16) x))
      (fun x => (V (Proc.devRef .tc main_arg2) : FVec Ideal S128 .f32) (ix1 x))
      (fun _ _ => (V (Proc.devRef .tc main_arg0) : FVec Ideal S9216x8192 .f32) (ix2 (⟨T, by omega⟩ : Fin 9216) (⟨6144 + K, by omega⟩ : Fin 8192)))
      ⟨T % 64, by omega⟩ ⟨K % 128, by omega⟩ := by
  unfold out_main_v62
  pointwise []
  rw [div_logistic]
  rfl
end Cert.ReferenceIdeal.Hand
end
-- ==== Proof.Loop.lean ====
module

public import proofs.«01_k».proof.Proof.LoopA
public import proofs.«01_k».proof.Proof.LoopB
public import proofs.«01_k».proof.Proof.Entry
public import proofs.«01_k».proof.Proof.Post
public import proofs.«01_k».proof.Proof.Gen.ReferenceIdeal.Run
public import Idealize.ShloMosaic.Lib.DynamicIndex

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem
open Idealize.ShloMosaic.StableHlo

variable (m : (l : Loc nD τ sig) → l.ty.Contents (Elt Ideal)) (c : Dev nD)

/-- What the loop carries before trip `k`: the inputs' stacks, the counter, the states and the values of the chunks done. -/
structure Inv (k : ℕ) (V : Valuation τ sig (Elt Ideal)) : Prop where
  i0 : V (Proc.devRef .tc main_v40_0) = entryContents preI m c (Proc.devRef .tc main_v40_0)
  i1 : V (Proc.devRef .tc main_v40_1) = entryContents preI m c (Proc.devRef .tc main_v40_1)
  i2 : V (Proc.devRef .tc main_v40_2) = entryContents preI m c (Proc.devRef .tc main_v40_2)
  i3 : V (Proc.devRef .tc main_v40_3) = entryContents preI m c (Proc.devRef .tc main_v40_3)
  i4 : V (Proc.devRef .tc main_v40_4) = entryContents preI m c (Proc.devRef .tc main_v40_4)
  i5 : V (Proc.devRef .tc main_v40_5) = fun _ => BitVec.ofNat 32 k
  i6 : ∀ (h : Fin 16) (x y : Fin 128), (V (Proc.devRef .tc main_v40_6) : FVec Ideal S1x16x128x128 .f32) (ix4 (0 : Fin 1) h x y) = Gla.St (argR m c) (argL m c) h k x y
  i7 : ∀ (n : Fin 128) (t : Fin 64) (h : Fin 16) (x : Fin 128), n.val < k →
    (V (Proc.devRef .tc main_v40_7) : FVec Ideal S128x1x64x16x128 .f32) (ix5 n (0 : Fin 1) t h x) = Gla.Mx (argR m c) (argL m c) h n t x

theorem inv_zero : Inv m c 0 (entryContents preI m c) where
  i0 := rfl
  i1 := rfl
  i2 := rfl
  i3 := rfl
  i4 := rfl
  i5 := ctr_entry m c
  i6 h x y := e6 m c h x y
  i7 n t h x hlt := absurd hlt (Nat.not_lt_zero _)

/-- A chunk put in a stack at the loop counter `n`, read at any chunk. -/
theorem put_at (x : FVec Ideal S128x1x64x16x128 .f32) (u : FVec Ideal S1x64x16x128 .f32) (st : Fin 5 → ℤ) (n : Fin 128) (hs : ∀ a, st a = ((![n.val, 0, 0, 0, 0] : Fin 5 → ℕ) a : ℤ))
    (r : Fin 128) (t : Fin 64) (h : Fin 16) (y : Fin 128) :
    Host.dynamicUpdateSlice x (broadcastInDim S1x1x64x16x128 ![1, 2, 3, 4] bcast_S1x64x16x128_S1x1x64x16x128_1_2_3_4 u) st updateFits_S128x1x64x16x128_S1x1x64x16x128 (ix5 r (0 : Fin 1) t h y) =
      if r = n then u (ix4 (0 : Fin 1) t h y) else x (ix5 r (0 : Fin 1) t h y) := by
  have hoff : S128x1x64x16x128.Slices ![n.val, 0, 0, 0, 0] S1x1x64x16x128 := ⟨rfl, fun a => by
    have := n.isLt
    fin_cases a
    · show n.val + 1 ≤ 128; omega
    · show 0 + 1 ≤ 1; omega
    · show 0 + 64 ≤ 64; omega
    · show 0 + 16 ≤ 16; omega
    · show 0 + 128 ≤ 128; omega⟩
  have ht := t.isLt
  have hh := h.isLt
  have hy := y.isLt
  rw [Host.dynamicUpdateSlice_eq_updateSlice _ _ st updateFits_S128x1x64x16x128_S1x1x64x16x128 _ (fun a => by
    have := hoff.2 a
    rw [hs a]
    omega) hoff]
  unfold updateSlice
  by_cases hr : r = n
  · rw [if_pos hr, dif_pos ?_]
    · subst hr
      pointwise []
    · subst hr
      intro a
      fin_cases a
      · show r.val ≤ r.val ∧ r.val < r.val + 1; omega
      · show 0 ≤ 0 ∧ 0 < 0 + 1; omega
      · show 0 ≤ t.val ∧ t.val < 0 + 64; omega
      · show 0 ≤ h.val ∧ h.val < 0 + 16; omega
      · show 0 ≤ y.val ∧ y.val < 0 + 128; omega
  · rw [if_neg hr, dif_neg ?_]
    intro hin
    have h0 := hin 0
    change n.val ≤ r.val ∧ r.val < n.val + 1 at h0
    exact hr (Fin.ext (by omega))

section Trip

variable {m c} {k : ℕ} {V : Valuation τ sig (Elt Ideal)} (I : Inv m c k V) (hk : k < 128)
include I hk

theorem tq (h : Fin 16) (t : Fin 64) (x : Fin 128) : (res_main_while0b_v63 V : FVec Ideal S1x64x16x128 .f32) (ix4 (0 : Fin 1) t h x) = Gla.Qc (argR m c) k h t x := by
  rw [q_at V ⟨k, hk⟩ I.i5, I.i0]; exact e0 m c ⟨k, hk⟩ t h x
theorem tk (h : Fin 16) (t : Fin 64) (x : Fin 128) : (res_main_while0b_v64 V : FVec Ideal S1x64x16x128 .f32) (ix4 (0 : Fin 1) t h x) = Gla.Kc (argR m c) (argL m c) k h t x := by
  rw [k_at V ⟨k, hk⟩ I.i5, I.i1]; exact e1 m c ⟨k, hk⟩ t h x
theorem tv (h : Fin 16) (t : Fin 64) (x : Fin 128) : (res_main_while0b_v66 V : FVec Ideal S1x64x16x128 .f32) (ix4 (0 : Fin 1) t h x) = Gla.Vc (argR m c) k h t x := by
  rw [v_at V ⟨k, hk⟩ I.i5, I.i3]; exact e3 m c ⟨k, hk⟩ t h x
theorem tg (h : Fin 16) (t : Fin 64) (x : Fin 128) : (res_main_while0b_v67 V : FVec Ideal S1x64x16x128 .f32) (ix4 (0 : Fin 1) t h x) = Gla.gcs (Gla.lg (Gla.Kc (argR m c) (argL m c) k h)) t x := by
  refine (g_at V ⟨k, hk⟩ I.i5 t h x).trans (congrArg (fun g => Gla.gcs g t x) (funext fun u => funext fun y => ?_))
  rw [I.i2]
  exact e2 m c ⟨k, hk⟩ u h y

theorem t6 (h : Fin 16) (x y : Fin 128) : (step_main_v40_6 V : FVec Ideal S1x16x128x128 .f32) (ix4 (0 : Fin 1) h x y) = Gla.St (argR m c) (argL m c) h (k + 1) x y := by
  rw [step6_at]
  unfold vg vs vk vv
  simp only [tg I hk, tk I hk, tv I hk, I.i6]
  rfl

theorem tpay (h : Fin 16) (t : Fin 64) (x : Fin 128) :
    pay (res_main_while0b_v63 V) (res_main_while0b_v64 V) (res_main_while0b_v67 V) (res_main_while0b_v66 V) (V (Proc.devRef .tc main_v40_6)) (V (Proc.devRef .tc main_v40_4)) (ix4 (0 : Fin 1) t h x) =
      Gla.Mx (argR m c) (argL m c) h k t x := by
  rw [pay_at _ _ _ _ _ _ (fun t s => by rw [I.i4]; exact e4 m c t s)]
  simp only [tq I hk, tg I hk, tk I hk, tv I hk, I.i6]
  rfl

theorem inv_succ : Inv m c (k + 1) (STEP V) where
  i0 := (STEP_main_v40_0 V).trans I.i0
  i1 := (STEP_main_v40_1 V).trans I.i1
  i2 := (STEP_main_v40_2 V).trans I.i2
  i3 := (STEP_main_v40_3 V).trans I.i3
  i4 := (STEP_main_v40_4 V).trans I.i4
  i5 := by
    rw [STEP_main_v40_5]
    unfold step_main_v40_5
    rw [I.i5]
    funext i
    show BitVec.ofNat 32 k + 1#32 = BitVec.ofNat 32 (k + 1)
    rw [BitVec.ofNat_add]
  i6 h x y := by
    rw [STEP_main_v40_6]
    exact t6 I hk h x y
  i7 n t h x hlt := by
    rw [STEP_main_v40_7, step7_eq]
    refine (put_at _ _ _ ⟨k, hk⟩ (start_at V ⟨k, hk⟩ I.i5) n t h x).trans ?_
    by_cases hn : n = ⟨k, hk⟩
    · rw [if_pos hn, tpay I hk, hn]
    · rw [if_neg hn]
      exact I.i7 n t h x (by
        have : n.val ≠ k := fun e => hn (Fin.ext e)
        omega)

end Trip

theorem inv_at : ∀ k, k ≤ 128 → Inv m c k (STEP^[k] (entryContents preI m c))
  | 0, _ => inv_zero m c
  | k + 1, h => by
    rw [Function.iterate_succ_apply']
    exact inv_succ (inv_at k (by omega)) (by omega)

/-- The reference's states. -/
theorem R6_at (h : Fin 16) (x y : Fin 128) :
    ((STEP^[128] (entryContents preI m c)) (Proc.devRef .tc main_v40_6) : FVec Ideal S1x16x128x128 .f32) (ix4 (0 : Fin 1) h x y) = Gla.St (argR m c) (argL m c) h 128 x y :=
  (inv_at m c 128 le_rfl).i6 h x y

/-- The reference's output. -/
theorem R62_at (T : Fin 8192) (K : Fin 2048) :
    (out_main_v62 (STEP^[128] (entryContents preI m c)) : FVec Ideal S8192x2048 .bf16) (ix2 T K) =
      Gla.Out (argR m c) (argL m c) (argN m c) (K / 128) (T / 64) ⟨T % 64, by omega⟩ ⟨K % 128, by omega⟩ := by
  rw [post_at]
  unfold Gla.Out
  have hI := inv_at m c 128 le_rfl
  have ho : (fun (t : Fin 64) (x : Fin 128) => ((STEP^[128] (entryContents preI m c)) (Proc.devRef .tc main_v40_7) : FVec Ideal S128x1x64x16x128 .f32) (ix5 (⟨T / 64, by omega⟩ : Fin 128) (0 : Fin 1) t (⟨K / 128, by omega⟩ : Fin 16) x)) =
      Gla.Mx (argR m c) (argL m c) (K / 128) (T / 64) := by
    funext t x
    exact hI.i7 ⟨T / 64, by omega⟩ t ⟨K / 128, by omega⟩ x (by show T.val / 64 < 128; omega)
  rw [ho, iter_main_arg2, iter_main_arg0]
  unfold Gla.fin Gla.Wc
  dsimp only
  have hW : argR m c (64 * (T.val / 64) + T.val % 64) (6144 + (128 * (K.val / 128) + K.val % 128)) =
      (m ((c : Thread nD τ).loc main_arg0) : FVec Ideal S9216x8192 .f32) (ix2 (⟨T, by omega⟩ : Fin 9216) (⟨6144 + K, by omega⟩ : Fin 8192)) := by
    rw [show 64 * (T.val / 64) + T.val % 64 = T by omega, show 128 * (K.val / 128) + K.val % 128 = K by omega]
    unfold argR
    rw [dif_pos (by omega)]
  rw [hW]
  rfl

end Cert.ReferenceIdeal.Hand
end
-- ==== Proof.FfnSpec.lean ====
module

public import Idealize.ShloMosaic.PureOps.Ideal

@[expose] public section

noncomputable section

/-! The feed-forward block in plain numbers: `X` the activations, `N` the norm's weight, `G`, `U`, `D` the gate, up and down weights. -/
namespace Cert.Ffn

open Idealize.ShloMosaic

variable (X : ℕ → ℕ → EReal) (N : ℕ → EReal) (G U D : ℕ → ℕ → EReal)

/-- The root-mean-square norm of row `r`, scaled by the weight. -/
def nrm (r k : ℕ) : EReal :=
  X r k * Ideal.rsqrt (Ideal.div (∑ j : Fin 4096, X r j * X r j) (Ideal.ofBits .f32 0x45800000#32) + Ideal.ofBits .f32 0x358637BD#32) * N k

/-- One product of the normed row with a column of weights. -/
def prj (W : ℕ → ℕ → EReal) (r j : ℕ) : EReal := ∑ k : Fin 4096, nrm X N r k * W k j

/-- The gated hidden unit `j` of row `r`, times its row of the down weights. -/
def term (r d j : ℕ) : EReal :=
  prj X N G r j * Ideal.logistic (prj X N G r j) * prj X N U r j * D j d

/-- The first `n` hidden units' part of the down product. -/
def part (r d n : ℕ) : EReal := ∑ j ∈ Finset.range n, term X N G U D r d j

/-- The block's result: the residual plus half of the down product. -/
def out (r d : ℕ) : EReal := X r d + Ideal.ofBits .f32 0x3F000000#32 * part X N G U D r d 11008

/-- No unit: nothing. -/
theorem part_zero (r d : ℕ) : part X N G U D r d 0 = 0 := Finset.sum_range_zero _

/-- The part of one more tile of 256 units. -/
theorem part_add (r d n : ℕ) :
    part X N G U D r d (n + 256) = part X N G U D r d n + ∑ j : Fin 256, term X N G U D r d (n + j) := by
  unfold part
  rw [Finset.sum_range_add, Finset.sum_range (fun x => term X N G U D r d (n + x))]

end Cert.Ffn
end
-- ==== Proof.FfnBody.lean ====
module

public import proofs.«01_k».proof.Proof.FfnSpec
public import proofs.«01_k».proof.Proof.Gen.Kernel2Ideal.Skeleton
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe Idealize.SL.Sem

/-- One grid point's step of the accumulator. -/
theorem pay4_at (h : FVec Ideal S768x4096 .bf16) (g u : FVec Ideal S4096x256 .bf16) (o : FVec Ideal S768x4096 .f32) (d : FVec Ideal S256x4096 .bf16)
    (r : Fin 768) (q : Fin 4096) :
    k0_pay4 h g u o d (ix2 r q) = o (ix2 r q) + ∑ j : Fin 256,
      (∑ k : Fin 4096, h (ix2 r k) * g (ix2 k j)) * Ideal.logistic (∑ k : Fin 4096, h (ix2 r k) * g (ix2 k j)) *
        (∑ k : Fin 4096, h (ix2 r k) * u (ix2 k j)) * d (ix2 j q) := by
  pointwise [k0_pay4]

/-- The last grid point's residual step. -/
theorem pay5_at (x o : FVec Ideal S768x4096 .f32) (r : Fin 768) (q : Fin 4096) :
    k0_pay5 x o (ix2 r q) = x (ix2 r q) + Ideal.ofBits .f32 0x3F000000#32 * o (ix2 r q) := by
  pointwise [k0_pay5]

/-- The zero block. -/
theorem pay3_at (y : S768x4096.Idx) : (k0_pay3 : FVec Ideal S768x4096 .f32) y = 0 := by
  pointwise [k0_pay3]

/-- The norm of 64 rows. -/
theorem pay6_at (x : FVec Ideal S64x4096 .f32) (w : FVec Ideal S1x4096 .f32) (r : Fin 64) (q : Fin 4096) :
    k0_pay6 (F := Ideal) x w (ix2 r q) = x (ix2 r q) * Ideal.rsqrt (Ideal.div (∑ j : Fin 4096, x (ix2 r j) * x (ix2 r j)) (Ideal.ofBits .f32 0x45800000#32) + Ideal.ofBits .f32 0x358637BD#32) * w (ix2 (0 : Fin 1) q) := by
  pointwise [k0_pay6]

theorem pay7_eq (x : FVec Ideal S64x4096 .f32) (w : FVec Ideal S1x4096 .f32) : k0_pay7 (F := Ideal) x w = k0_pay6 (F := Ideal) x w := rfl
theorem pay8_eq (x : FVec Ideal S64x4096 .f32) (w : FVec Ideal S1x4096 .f32) : k0_pay8 (F := Ideal) x w = k0_pay6 (F := Ideal) x w := rfl
theorem pay9_eq (x : FVec Ideal S64x4096 .f32) (w : FVec Ideal S1x4096 .f32) : k0_pay9 (F := Ideal) x w = k0_pay6 (F := Ideal) x w := rfl
theorem pay11_eq (x : FVec Ideal S64x4096 .f32) (w : FVec Ideal S1x4096 .f32) : k0_pay11 (F := Ideal) x (k0_pay10 x) w = k0_pay6 (F := Ideal) x w := rfl
theorem pay12_eq (x : FVec Ideal S64x4096 .f32) (w : FVec Ideal S1x4096 .f32) : k0_pay12 (F := Ideal) x w = k0_pay6 (F := Ideal) x w := rfl
theorem pay14_eq (x : FVec Ideal S64x4096 .f32) (w : FVec Ideal S1x4096 .f32) : k0_pay14 (F := Ideal) x (k0_pay13 x) w = k0_pay6 (F := Ideal) x w := rfl
theorem pay15_eq (x : FVec Ideal S64x4096 .f32) (w : FVec Ideal S1x4096 .f32) : k0_pay15 (F := Ideal) x w = k0_pay6 (F := Ideal) x w := rfl
theorem pay17_eq (x : FVec Ideal S64x4096 .f32) (w : FVec Ideal S1x4096 .f32) : k0_pay17 (F := Ideal) x (k0_pay16 x) (Scalar.ofBits .f32 0x45800000#32) w = k0_pay6 (F := Ideal) x w := rfl
theorem pay18_eq (x : FVec Ideal S64x4096 .f32) (w : FVec Ideal S1x4096 .f32) : k0_pay18 (F := Ideal) x w = k0_pay6 (F := Ideal) x w := rfl
theorem pay1_eq (x : FVec Ideal S64x4096 .f32) (w : FVec Ideal S1x4096 .f32) : k0_pay1 (F := Ideal) x (k0_pay19 x) w = k0_pay6 (F := Ideal) x w := rfl
theorem pay2_eq (x : FVec Ideal S64x4096 .f32) (w : FVec Ideal S1x4096 .f32) : k0_pay2 (F := Ideal) x w = k0_pay6 (F := Ideal) x w := rfl

end Cert.Kernel2Ideal.Hand
end
-- ==== Proof.FfnGrid.lean ====
module

public import proofs.«01_k».proof.Proof.FfnBody
public import proofs.«01_k».proof.Proof.Gen.Kernel2Ideal.Frame
public import Idealize.ShloMosaic.Lib.Claim
public import Idealize.ShloMosaic.Lib.Pipeline.ReadBack
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.SL.Sem

/-- Where the windows of grid point `t` lie. -/
theorem idx : ∀ t : Fin cfg0.N, win0_0.index t = ![0, t.val % 43] ∧ win0_1.index t = ![t.val / 43, 0] ∧
    win0_2.index t = ![0, 0] ∧ win0_3.index t = ![0, t.val % 43] ∧ win0_4.index t = ![t.val % 43, 0] ∧ t.val / 43 < 12 :=
  (by decide +kernel : ∀ t : Fin grid0.N, _)

section Reads

variable (m : (l : Loc nD τ sig) → l.ty.Contents (Elt Ideal)) (c : Dev nD)

/-- The five arguments as functions of plain numbers. -/
def aX (r k : ℕ) : EReal := if h : r < 9216 ∧ k < 4096 then (m ((c : Thread nD τ).loc main_arg0) : FVec Ideal S9216x4096 .f32) (ix2 (⟨r, h.1⟩ : Fin 9216) (⟨k, h.2⟩ : Fin 4096)) else 0
def aN (k : ℕ) : EReal := if h : k < 4096 then (m ((c : Thread nD τ).loc main_arg1) : FVec Ideal S4096 .f32) (ix1 (⟨k, h⟩ : Fin 4096)) else 0
def aG (r k : ℕ) : EReal := if h : r < 4096 ∧ k < 11008 then (m ((c : Thread nD τ).loc main_arg2) : FVec Ideal S4096x11008 .f32) (ix2 (⟨r, h.1⟩ : Fin 4096) (⟨k, h.2⟩ : Fin 11008)) else 0
def aU (r k : ℕ) : EReal := if h : r < 4096 ∧ k < 11008 then (m ((c : Thread nD τ).loc main_arg3) : FVec Ideal S4096x11008 .f32) (ix2 (⟨r, h.1⟩ : Fin 4096) (⟨k, h.2⟩ : Fin 11008)) else 0
def aD (r k : ℕ) : EReal := if h : r < 11008 ∧ k < 4096 then (m ((c : Thread nD τ).loc main_arg4) : FVec Ideal S11008x4096 .f32) (ix2 (⟨r, h.1⟩ : Fin 11008) (⟨k, h.2⟩ : Fin 4096)) else 0

theorem b0 (t : Fin cfg0.N) (x : Fin 4096) (y : Fin 256) : (iblk m c 0 t : FVec Ideal S4096x256 .bf16) (ix2 x y) = aG m c x (256 * (t.val % 43) + y) := by
  have hi := idx t
  unfold aG
  rw [dif_pos (by omega)]
  blk_simp [iblk]
  entry_read
  pointwise []
  blk_ext [iblk, V, idx t]
theorem b1 (t : Fin cfg0.N) (x : Fin 768) (y : Fin 4096) : (iblk m c 1 t : FVec Ideal S768x4096 .f32) (ix2 x y) = aX m c (768 * (t.val / 43) + x) y := by
  have hi := idx t
  unfold aX
  rw [dif_pos (by omega)]
  blk_ext [iblk, V, idx t]
theorem b2 (t : Fin cfg0.N) (y : Fin 4096) : (iblk m c 2 t : FVec Ideal S1x4096 .f32) (ix2 (0 : Fin 1) y) = aN m c y := by
  have hi := idx t
  unfold aN
  rw [dif_pos (by omega)]
  blk_simp [iblk]
  entry_read
  pointwise []
  blk_ext [iblk, V, idx t]
theorem b3 (t : Fin cfg0.N) (x : Fin 4096) (y : Fin 256) : (iblk m c 3 t : FVec Ideal S4096x256 .bf16) (ix2 x y) = aU m c x (256 * (t.val % 43) + y) := by
  have hi := idx t
  unfold aU
  rw [dif_pos (by omega)]
  blk_simp [iblk]
  entry_read
  pointwise []
  blk_ext [iblk, V, idx t]
theorem b4 (t : Fin cfg0.N) (x : Fin 256) (y : Fin 4096) : (iblk m c 4 t : FVec Ideal S256x4096 .bf16) (ix2 x y) = aD m c (256 * (t.val % 43) + x) y := by
  have hi := idx t
  unfold aD
  rw [dif_pos (by omega)]
  blk_simp [iblk]
  entry_read
  pointwise []
  blk_ext [iblk, V, idx t]

end Reads

end Cert.Kernel2Ideal.Hand
end
-- ==== Proof.FfnCase.lean ====
module

public import proofs.«01_k».proof.Proof.FfnBody
public import proofs.«01_k».proof.Proof.Gen.Kernel2Ideal.Frame
public import Idealize.ShloMosaic.Lib.Pipeline.ReadBack
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.SL.Sem

/-- What a middle grid point leaves in its block: the accumulator's step. -/
theorem out_B (c : Dev nD) (i : grid0.Coords) (arg2 : Memref sig .tc .vmem S4096x256 .bf16) (harg2 : arg2.IsWhole) (arg3 : Memref sig .tc .vmem S768x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S768x4096 .f32) (harg7 : arg7.IsWhole) (arg8 : Memref sig .tc .vmem S768x4096 .bf16) (harg8 : arg8.IsWhole) (hc0 : ¬cond0_0 i) (hc1 : ¬cond0_1 i)
    (x0 : Vec Ideal S4096x256 .bf16) (x1 : Vec Ideal S768x4096 .f32) (x2 : Vec Ideal S1x4096 .f32) (x3 : Vec Ideal S4096x256 .bf16) (x4 : Vec Ideal S256x4096 .bf16) (xo5 : Vec Ideal S768x4096 .f32) (xs0 : Vec Ideal S768x4096 .bf16) :
    out0_B_5 c i arg2 harg2 arg3 harg3 arg4 harg4 arg5 harg5 arg6 harg6 arg7 harg7 arg8 harg8 hc0 hc1 x0 x1 x2 x3 x4 xo5 xs0 = k0_pay4 xs0 x0 x3 xo5 x4 := by
  frame_out

/-- What the last grid point of a row block leaves: the accumulator's step, then the residual. -/
theorem out_C (c : Dev nD) (i : grid0.Coords) (arg2 : Memref sig .tc .vmem S4096x256 .bf16) (harg2 : arg2.IsWhole) (arg3 : Memref sig .tc .vmem S768x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S768x4096 .f32) (harg7 : arg7.IsWhole) (arg8 : Memref sig .tc .vmem S768x4096 .bf16) (harg8 : arg8.IsWhole) (hc0 : ¬cond0_0 i) (hc1 : cond0_1 i)
    (x0 : Vec Ideal S4096x256 .bf16) (x1 : Vec Ideal S768x4096 .f32) (x2 : Vec Ideal S1x4096 .f32) (x3 : Vec Ideal S4096x256 .bf16) (x4 : Vec Ideal S256x4096 .bf16) (xo5 : Vec Ideal S768x4096 .f32) (xs0 : Vec Ideal S768x4096 .bf16) :
    out0_C_5 c i arg2 harg2 arg3 harg3 arg4 harg4 arg5 harg5 arg6 harg6 arg7 harg7 arg8 harg8 hc0 hc1 x0 x1 x2 x3 x4 xo5 xs0 = k0_pay5 x1 (k0_pay4 xs0 x0 x3 xo5 x4) := by
  frame_out

/-- The normed block, row by row. -/
def Nb (x1 : Vec Ideal S768x4096 .f32) (x2 : Vec Ideal S1x4096 .f32) : Vec Ideal S768x4096 .bf16 := fun y =>
  x1 y * Ideal.rsqrt (Ideal.div (∑ j : Fin 4096, x1 (ix2 (y 0) j) * x1 (ix2 (y 0) j)) (Ideal.ofBits .f32 0x45800000#32) + Ideal.ofBits .f32 0x358637BD#32) * x2 (ix2 (0 : Fin 1) (y 1))

/-- The norm of the 64 rows from row `o` on is those rows of the normed block. -/
theorem nb_row_at (x1 : Vec Ideal S768x4096 .f32) (x2 : Vec Ideal S1x4096 .f32) (o : ℕ) (hin : ∀ a, (![o, 0] : Fin 2 → ℕ) a + (![64, 4096] : Fin 2 → ℕ) a ≤ S768x4096.size a)
    (r : Fin 64) (q : Fin 4096) (s : Fin 768) (h : (s : ℕ) = o + r) :
    k0_pay6 (F := Ideal) (View.ld x1 (Rect.unit ![o, 0] ![64, 4096] hin)) x2 (ix2 r q) = Nb x1 x2 (ix2 s q) := by
  have hr : ∀ j : Fin 4096, (View.ld x1 (Rect.unit ![o, 0] ![64, 4096] hin) : FVec Ideal S64x4096 .f32) (ix2 r j) = x1 (ix2 s j) := by
    intro j
    refine congrArg x1 (funext fun a => Fin.ext ((Rect.idx_unit_val _ _ _ _ _).trans ?_))
    match a with
    | 0 => show o + (r : ℕ) = (s : ℕ); omega
    | 1 => show 0 + (j : ℕ) = (j : ℕ); omega
  refine (pay6_at _ _ _ _).trans ?_
  show _ = x1 (ix2 s q) * Ideal.rsqrt (Ideal.div (∑ j : Fin 4096, x1 (ix2 s j) * x1 (ix2 s j)) (Ideal.ofBits .f32 0x45800000#32) + Ideal.ofBits .f32 0x358637BD#32) * x2 (ix2 (0 : Fin 1) q)
  simp only [hr]

/-- The same, at an index of the piece. -/
theorem nb_row (x1 : Vec Ideal S768x4096 .f32) (x2 : Vec Ideal S1x4096 .f32) (o : ℕ) (hin : ∀ a, (![o, 0] : Fin 2 → ℕ) a + (![64, 4096] : Fin 2 → ℕ) a ≤ S768x4096.size a)
    (x : S64x4096.Idx) (y : S768x4096.Idx) (h0 : (y 0 : ℕ) = o + x 0) (h1 : (y 1 : ℕ) = x 1) :
    k0_pay6 (F := Ideal) (View.ld x1 (Rect.unit ![o, 0] ![64, 4096] hin)) x2 x = Nb x1 x2 y := by
  have ey : y = ix2 (y 0 : Fin 768) (x 1 : Fin 4096) := funext fun a => by match a with | 0 => rfl | 1 => exact Fin.ext h1
  have ex : x = ix2 (x 0 : Fin 64) (x 1 : Fin 4096) := funext fun a => by match a with | 0 => rfl | 1 => rfl
  exact (congrArg _ ex).trans ((nb_row_at x1 x2 o hin (x 0) (x 1) (y 0) h0).trans (congrArg _ ey.symm))

/-- What the first grid point of a row block leaves in the scratch. -/
theorem sout_A (c : Dev nD) (i : grid0.Coords) (arg2 : Memref sig .tc .vmem S4096x256 .bf16) (harg2 : arg2.IsWhole) (arg3 : Memref sig .tc .vmem S768x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S768x4096 .f32) (harg7 : arg7.IsWhole) (arg8 : Memref sig .tc .vmem S768x4096 .bf16) (harg8 : arg8.IsWhole) (hc0 : cond0_0 i) (hc1 : ¬cond0_1 i)
    (x0 : Vec Ideal S4096x256 .bf16) (x1 : Vec Ideal S768x4096 .f32) (x2 : Vec Ideal S1x4096 .f32) (x3 : Vec Ideal S4096x256 .bf16) (x4 : Vec Ideal S256x4096 .bf16) :
    sout0_A_0 c i arg2 harg2 arg3 harg3 arg4 harg4 arg5 harg5 arg6 harg6 arg7 harg7 arg8 harg8 hc0 hc1 x0 x1 x2 x3 x4 = Nb x1 x2 := by
  funext y
  frame_out
  canon_tiles x h
  case piece0 => exact (congrFun (pay2_eq _ _) x).trans (nb_row x1 x2 704 _ x y (by omega) (by omega))
  case piece1 => exact (congrFun (pay1_eq _ _) x).trans (nb_row x1 x2 640 _ x y (by omega) (by omega))
  case piece2 => exact (congrFun (pay18_eq _ _) x).trans (nb_row x1 x2 576 _ x y (by omega) (by omega))
  case piece3 => exact (congrFun (pay17_eq _ _) x).trans (nb_row x1 x2 512 _ x y (by omega) (by omega))
  case piece4 => exact (congrFun (pay15_eq _ _) x).trans (nb_row x1 x2 448 _ x y (by omega) (by omega))
  case piece5 => exact (congrFun (pay14_eq _ _) x).trans (nb_row x1 x2 384 _ x y (by omega) (by omega))
  case piece6 => exact (congrFun (pay12_eq _ _) x).trans (nb_row x1 x2 320 _ x y (by omega) (by omega))
  case piece7 => exact (congrFun (pay11_eq _ _) x).trans (nb_row x1 x2 256 _ x y (by omega) (by omega))
  case piece8 => exact (congrFun (pay9_eq _ _) x).trans (nb_row x1 x2 192 _ x y (by omega) (by omega))
  case piece9 => exact (congrFun (pay8_eq _ _) x).trans (nb_row x1 x2 128 _ x y (by omega) (by omega))
  case piece10 => exact (congrFun (pay7_eq _ _) x).trans (nb_row x1 x2 64 _ x y (by omega) (by omega))
  case piece11 => exact nb_row x1 x2 0 _ x y (by omega) (by omega)

/-- What the first grid point of a row block leaves in its block: the first step, from zero. -/
theorem out_A (c : Dev nD) (i : grid0.Coords) (arg2 : Memref sig .tc .vmem S4096x256 .bf16) (harg2 : arg2.IsWhole) (arg3 : Memref sig .tc .vmem S768x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S768x4096 .f32) (harg7 : arg7.IsWhole) (arg8 : Memref sig .tc .vmem S768x4096 .bf16) (harg8 : arg8.IsWhole) (hc0 : cond0_0 i) (hc1 : ¬cond0_1 i)
    (x0 : Vec Ideal S4096x256 .bf16) (x1 : Vec Ideal S768x4096 .f32) (x2 : Vec Ideal S1x4096 .f32) (x3 : Vec Ideal S4096x256 .bf16) (x4 : Vec Ideal S256x4096 .bf16) :
    out0_A_5 c i arg2 harg2 arg3 harg3 arg4 harg4 arg5 harg5 arg6 harg6 arg7 harg7 arg8 harg8 hc0 hc1 x0 x1 x2 x3 x4 = k0_pay4 (Nb x1 x2) x0 x3 (k0_pay3 (F := Ideal)) x4 := by
  frame_out
  refine congrArg (fun h => k0_pay4 h x0 x3 (k0_pay3 (F := Ideal)) x4) ?_
  rw [View.readCov_eq_canon']
  funext y
  have ey : (Rect.unit ![0, 0] ![768, 4096] inb_S768x4096_S768x4096_0_0).toLoadRect.idx y = y := by
    funext a
    refine Fin.ext ((Rect.idx_unit_val _ _ _ _ _).trans ?_)
    match a with
    | 0 => show 0 + (y 0 : ℕ) = (y 0 : ℕ); omega
    | 1 => show 0 + (y 1 : ℕ) = (y 1 : ℕ); omega
  refine (congrArg _ ey).trans (Eq.trans (Eq.symm ?_) (congrFun (sout_A c i arg2 harg2 arg3 harg3 arg4 harg4 arg5 harg5 arg6 harg6 arg7 harg7 arg8 harg8 hc0 hc1 x0 x1 x2 x3 x4) y))
  frame_out

end Cert.Kernel2Ideal.Hand
end
-- ==== Proof.FfnLoop.lean ====
module

public import proofs.«01_k».proof.Proof.FfnGrid
public import proofs.«01_k».proof.Proof.FfnCase
public import proofs.«01_k».proof.Proof.Gen.Kernel2Ideal.Value

@[expose] public section

set_option maxRecDepth 16384

noncomputable section

namespace Cert.Kernel2Ideal.Hand

open Cert.Kernel2Ideal Cert.Kernel2Ideal.Gen Idealize.ShloMosaic Idealize.ShloMosaic.TcCoe Idealize.SL.Sem

section Steps

variable (X : ℕ → ℕ → EReal) (N : ℕ → EReal) (G U D : ℕ → ℕ → EReal)

/-- The normed block of rows from `R` on. -/
theorem nb_at (x1 : FVec Ideal S768x4096 .f32) (x2 : FVec Ideal S1x4096 .f32) (R : ℕ) (hx : ∀ (r : Fin 768) (q : Fin 4096), x1 (ix2 r q) = X (R + r) q)
    (hn : ∀ q : Fin 4096, x2 (ix2 (0 : Fin 1) q) = N q) (r : Fin 768) (q : Fin 4096) : Nb x1 x2 (ix2 r q) = Ffn.nrm X N (R + r) q := by
  show x1 (ix2 r q) * Ideal.rsqrt (Ideal.div (∑ j : Fin 4096, x1 (ix2 r j) * x1 (ix2 r j)) (Ideal.ofBits .f32 0x45800000#32) + Ideal.ofBits .f32 0x358637BD#32) * x2 (ix2 (0 : Fin 1) q) = _
  simp only [hx, hn]
  rfl

/-- One step of the accumulator, in plain numbers: the part grows by a tile of 256 hidden units. -/
theorem step_at (h : FVec Ideal S768x4096 .bf16) (g u : FVec Ideal S4096x256 .bf16) (o : FVec Ideal S768x4096 .f32) (d : FVec Ideal S256x4096 .bf16) (R n : ℕ)
    (hh : ∀ (r : Fin 768) (q : Fin 4096), h (ix2 r q) = Ffn.nrm X N (R + r) q) (hg : ∀ (k : Fin 4096) (j : Fin 256), g (ix2 k j) = G k (n + j))
    (hu : ∀ (k : Fin 4096) (j : Fin 256), u (ix2 k j) = U k (n + j)) (hd : ∀ (j : Fin 256) (q : Fin 4096), d (ix2 j q) = D (n + j) q)
    (ho : ∀ (r : Fin 768) (q : Fin 4096), o (ix2 r q) = Ffn.part X N G U D (R + r) q n) (r : Fin 768) (q : Fin 4096) :
    k0_pay4 (F := Ideal) h g u o d (ix2 r q) = Ffn.part X N G U D (R + r) q (n + 256) := by
  rw [Ffn.part_add]
  refine (pay4_at h g u o d r q).trans ?_
  simp only [hh, hg, hu, hd, ho]
  rfl

end Steps

section Fold

variable (m : (l : Loc nD τ sig) → l.ty.Contents (Elt Ideal)) (c : Dev nD)

/-- The parts and the result over the five arguments. -/
def aPart (r d n : ℕ) : EReal := Ffn.part (aX m c) (aN m c) (aG m c) (aU m c) (aD m c) r d n
def aOut (r d : ℕ) : EReal := Ffn.out (aX m c) (aN m c) (aG m c) (aU m c) (aD m c) r d

/-- What holds after grid point `n`: the scratch keeps the normed rows, and the block the parts so far, or at the last tile the result. -/
def Inv (n : ℕ) (S : Vec Ideal S768x4096 .f32 × Vec Ideal S768x4096 .bf16) : Prop :=
  (∀ (r : Fin 768) (q : Fin 4096), S.2 (ix2 r q) = Ffn.nrm (aX m c) (aN m c) (768 * (n / 43) + r) q) ∧
  (n % 43 ≠ 42 → ∀ (r : Fin 768) (q : Fin 4096), S.1 (ix2 r q) = aPart m c (768 * (n / 43) + r) q (256 * (n % 43) + 256)) ∧
  (n % 43 = 42 → ∀ (r : Fin 768) (q : Fin 4096), S.1 (ix2 r q) = aOut m c (768 * (n / 43) + r) q)

/-- The accumulator's step at point `t`, from the parts before it. -/
theorem step_t (t : Fin cfg0.N) (h : FVec Ideal S768x4096 .bf16) (o : FVec Ideal S768x4096 .f32)
    (hh : ∀ (r : Fin 768) (q : Fin 4096), h (ix2 r q) = Ffn.nrm (aX m c) (aN m c) (768 * (t.val / 43) + r) q)
    (ho : ∀ (r : Fin 768) (q : Fin 4096), o (ix2 r q) = aPart m c (768 * (t.val / 43) + r) q (256 * (t.val % 43))) (r : Fin 768) (q : Fin 4096) :
    k0_pay4 (F := Ideal) h (iblk m c 0 t) (iblk m c 3 t) o (iblk m c 4 t) (ix2 r q) = aPart m c (768 * (t.val / 43) + r) q (256 * (t.val % 43) + 256) :=
  step_at (aX m c) (aN m c) (aG m c) (aU m c) (aD m c) h (iblk m c 0 t) (iblk m c 3 t) o (iblk m c 4 t) (768 * (t.val / 43)) (256 * (t.val % 43))
    hh (b0 m c t) (b3 m c t) (b4 m c t) ho r q

theorem inv_A (t : Fin cfg0.N) (h0 : t.val % 43 = 0) : Inv m c t.val (outsAt0 m c t.val t.isLt) := by
  have h1 : ¬ t.val % 43 = 42 := by omega
  have hs := nb_at (aX m c) (aN m c) (iblk m c 1 t) (iblk m c 2 t) (768 * (t.val / 43)) (b1 m c t) (b2 m c t)
  rw [outsAt0_A m c t h0 h1, out_A, sout_A]
  refine ⟨hs, fun _ => ?_, fun h => absurd h h1⟩
  refine step_t m c t _ _ hs ?_
  intro r q
  rw [h0]
  refine (pay3_at _).trans ?_
  exact (Ffn.part_zero ..).symm

theorem inv_B (t : Fin cfg0.N) (h0 : ¬ t.val % 43 = 0) (h1 : ¬ t.val % 43 = 42)
    (hp : Inv m c (t.val - 1) (outsAt0 m c (t.val - 1) (Nat.lt_of_le_of_lt (Nat.sub_le _ _) t.isLt))) : Inv m c t.val (outsAt0 m c t.val t.isLt) := by
  have e1 : (t.val - 1) / 43 = t.val / 43 := by omega
  have e2 : 256 * ((t.val - 1) % 43) + 256 = 256 * (t.val % 43) := by omega
  obtain ⟨p1, p2, -⟩ := hp
  have p3 := p2 (by omega)
  rw [e1] at p1
  rw [e1, e2] at p3
  rw [outsAt0_B m c t h0 h1, out_B]
  exact ⟨p1, fun _ => step_t m c t _ _ p1 p3, fun h => absurd h h1⟩

theorem inv_C (t : Fin cfg0.N) (h1 : t.val % 43 = 42)
    (hp : Inv m c (t.val - 1) (outsAt0 m c (t.val - 1) (Nat.lt_of_le_of_lt (Nat.sub_le _ _) t.isLt))) : Inv m c t.val (outsAt0 m c t.val t.isLt) := by
  have h0 : ¬ t.val % 43 = 0 := by omega
  have e1 : (t.val - 1) / 43 = t.val / 43 := by omega
  have e2 : 256 * ((t.val - 1) % 43) + 256 = 256 * (t.val % 43) := by omega
  obtain ⟨p1, p2, -⟩ := hp
  have p3 := p2 (by omega)
  rw [e1] at p1
  rw [e1, e2] at p3
  rw [outsAt0_C m c t h0 h1, out_C]
  refine ⟨p1, fun h => absurd h1 h, fun _ r q => ?_⟩
  refine (pay5_at _ _ r q).trans ?_
  refine (congrArg₂ (fun a b : EReal => a + Ideal.ofBits .f32 0x3F000000#32 * b) (b1 m c t r q) (step_t m c t _ _ p1 p3 r q)).trans ?_
  rw [h1]
  rfl

theorem inv : ∀ (n : ℕ) (hn : n < cfg0.N), Inv m c n (outsAt0 m c n hn)
  | 0, hn => inv_A m c ⟨0, hn⟩ rfl
  | n + 1, hn => by
    have hp := inv n (Nat.lt_of_succ_lt hn)
    by_cases h0 : (n + 1) % 43 = 0
    · exact inv_A m c ⟨n + 1, hn⟩ h0
    by_cases h1 : (n + 1) % 43 = 42
    · exact inv_C m c ⟨n + 1, hn⟩ h1 hp
    · exact inv_B m c ⟨n + 1, hn⟩ h0 h1 hp

/-- The result array, in plain numbers. -/
theorem G5_at (r : Fin 9216) (q : Fin 4096) : (Value.G5 m c : FVec Ideal S9216x4096 .f32) (ix2 r q) = aOut m c r q := by
  have hr : Value.run5Of (ix2 r q) = (r : ℕ) / 768 := by
    show 1 * ((r : ℕ) / 768 - 0) + 1 * ((q : ℕ) / 4096 - 0) = _
    omega
  have hp : Value.pt5Of (ix2 r q) = 43 * ((r : ℕ) / 768) + 42 := by
    show 43 * Value.run5Of (ix2 r q) + 42 = _
    rw [hr]
  have hlt : Value.pt5Of (ix2 r q) < cfg0.N := by
    rw [hp]; refine lt_of_lt_of_eq ?_ N_0.symm; omega
  have hl : Value.loc5Of (ix2 r q) = ix2 (⟨(r : ℕ) % 768, Nat.mod_lt _ (by decide)⟩ : Fin 768) q := by
    funext a
    match a with
    | 0 => rfl
    | 1 => exact Fin.ext (Nat.mod_eq_of_lt q.isLt)
  unfold Value.G5
  rw [dif_pos hlt, ← Value.outsAt0_sweep m c _ hlt, hl]
  refine ((inv m c _ hlt).2.2 (by rw [hp]; omega) _ q).trans ?_
  rw [hp]
  refine congrArg (fun x => aOut m c x q) ?_
  show 768 * ((43 * ((r : ℕ) / 768) + 42) / 43) + (r : ℕ) % 768 = r
  omega

end Fold

end Cert.Kernel2Ideal.Hand
end
-- ==== Proof.FfnRef.lean ====
module

public import proofs.«01_k».proof.Proof.FfnSpec
public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen Idealize.ShloMosaic Idealize.ShloMosaic.TcCoe Idealize.SL.Sem

/-- The normed rows. -/
def nv (x : FVec Ideal S9216x4096 .f32) (nw : FVec Ideal S4096 .f32) : FVec Ideal S9216x4096 .f32 :=
  mulf (mulf x (broadcastInDim S9216x4096 ![0, 1] bcast_S9216x1_S9216x4096_0_1 (Host.rsqrt (addf (Host.divf (broadcastInDim S9216x1 ![0] bcast_S9216_S9216x1_0 (Host.reduceAdd (mulf x x) (constant S_ .f32 0x00000000#32) reducesTo_S9216x4096_S9216_d1 h_S_)) (broadcastInDim S9216x1 ![] bcast_S_S9216x1 (constant S_ .f32 0x45800000#32))) (broadcastInDim S9216x1 ![] bcast_S_S9216x1 (constant S_ .f32 0x358637BD#32)))))) (broadcastInDim S9216x4096 ![0, 1] bcast_S1x4096_S9216x4096_0_1 (broadcastInDim S1x4096 ![1] bcast_S4096_S1x4096_1 nw))

/-- A product of the normed rows with weights. -/
def pv (h : FVec Ideal S9216x4096 .f32) (w : FVec Ideal S4096x11008 .f32) : FVec Ideal S9216x11008 .f32 :=
  Host.dotGeneral dot_S9216x4096_S4096x11008_S9216x11008_1_0_0_1_n_n none h w

/-- The gated hidden units. -/
def av (g u : FVec Ideal S9216x11008 .f32) : FVec Ideal S9216x11008 .f32 :=
  mulf (mulf g (Host.divf (broadcastInDim S9216x11008 ![] bcast_S_S9216x11008 (constant S_ .f32 0x3F800000#32)) (addf (broadcastInDim S9216x11008 ![] bcast_S_S9216x11008 (constant S_ .f32 0x3F800000#32)) (Host.exp (Host.negf g))))) u

/-- The whole block. -/
def ov (x : FVec Ideal S9216x4096 .f32) (a : FVec Ideal S9216x11008 .f32) (wd : FVec Ideal S11008x4096 .f32) : FVec Ideal S9216x4096 .f32 :=
  addf x (mulf (broadcastInDim S9216x4096 ![] bcast_S_S9216x4096 (constant S_ .f32 0x3F000000#32)) (Host.dotGeneral dot_S9216x11008_S11008x4096_S9216x4096_1_0_0_1_n_n none a wd))

/-- One over one plus the exponential of the negative is the logistic function. -/
theorem div_logistic (x : EReal) : Ideal.div 1 (1 + Ideal.exp (-x)) = Ideal.logistic x := rfl

theorem nv_at (x : FVec Ideal S9216x4096 .f32) (nw : FVec Ideal S4096 .f32) (r : Fin 9216) (q : Fin 4096) :
    nv x nw (ix2 r q) = x (ix2 r q) * Ideal.rsqrt (Ideal.div (∑ j : Fin 4096, x (ix2 r j) * x (ix2 r j)) (Ideal.ofBits .f32 0x45800000#32) + Ideal.ofBits .f32 0x358637BD#32) * nw (ix1 q) := by
  pointwise [nv]

theorem pv_at (h : FVec Ideal S9216x4096 .f32) (w : FVec Ideal S4096x11008 .f32) (r : Fin 9216) (j : Fin 11008) :
    pv h w (ix2 r j) = ∑ k : Fin 4096, h (ix2 r k) * w (ix2 k j) := by
  pointwise [pv]

theorem av_at (g u : FVec Ideal S9216x11008 .f32) (r : Fin 9216) (j : Fin 11008) :
    av g u (ix2 r j) = g (ix2 r j) * Ideal.logistic (g (ix2 r j)) * u (ix2 r j) := by
  pointwise [av]
  rw [div_logistic]

theorem ov_at (x : FVec Ideal S9216x4096 .f32) (a : FVec Ideal S9216x11008 .f32) (wd : FVec Ideal S11008x4096 .f32) (r : Fin 9216) (q : Fin 4096) :
    ov x a wd (ix2 r q) = x (ix2 r q) + Ideal.ofBits .f32 0x3F000000#32 * ∑ j : Fin 11008, a (ix2 r j) * wd (ix2 j q) := by
  pointwise [ov]

/-- The reference's result, in plain numbers. -/
theorem ref_at (X : ℕ → ℕ → EReal) (N : ℕ → EReal) (G U D : ℕ → ℕ → EReal)
    (x : FVec Ideal S9216x4096 .f32) (nw : FVec Ideal S4096 .f32) (wg wu : FVec Ideal S4096x11008 .f32) (wd : FVec Ideal S11008x4096 .f32)
    (hx : ∀ (r : Fin 9216) (q : Fin 4096), x (ix2 r q) = X r q) (hn : ∀ q : Fin 4096, nw (ix1 q) = N q)
    (hg : ∀ (k : Fin 4096) (j : Fin 11008), wg (ix2 k j) = G k j) (hu : ∀ (k : Fin 4096) (j : Fin 11008), wu (ix2 k j) = U k j)
    (hd : ∀ (j : Fin 11008) (q : Fin 4096), wd (ix2 j q) = D j q) (r : Fin 9216) (q : Fin 4096) :
    ov x (av (pv (nv x nw) wg) (pv (nv x nw) wu)) wd (ix2 r q) = Ffn.out X N G U D r q := by
  have h1 : ∀ (r : Fin 9216) (q : Fin 4096), nv x nw (ix2 r q) = Ffn.nrm X N r q := by
    intro r q
    refine (nv_at x nw r q).trans ?_
    simp only [hx, hn]
    rfl
  have h2 : ∀ (j : Fin 11008), av (pv (nv x nw) wg) (pv (nv x nw) wu) (ix2 r j) * wd (ix2 j q) = Ffn.term X N G U D r q j := by
    intro j
    rw [av_at, pv_at, pv_at]
    simp only [h1, hg, hu, hd]
    rfl
  refine (ov_at _ _ _ r q).trans ?_
  simp only [h2, hx]
  unfold Ffn.out Ffn.part
  rw [Finset.sum_range]

end Cert.Reference2Ideal.Hand
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Even
public import proofs.«01_k».proof.Proof.EvenRef
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.OddRef
public import proofs.«01_k».proof.Proof.Odd
public import proofs.«01_k».proof.Proof.GateRef
public import proofs.«01_k».proof.Proof.Gate
public import proofs.«01_k».proof.Proof.Final
public import proofs.«01_k».proof.Proof.Loop
public import proofs.«01_k».proof.Proof.FfnLoop
public import proofs.«01_k».proof.Proof.FfnRef
public import Idealize.ShloMosaic.Adequacy
public import Idealize.ShloMosaic.Init

@[expose] public section

noncomputable section

namespace Cert.Proof

open Idealize.ShloMosaic Idealize.ShloMosaic.TcCoe Idealize.SL.Sem

/-- The one shape relation the precondition states. -/
theorem preFacts : Cert.Pre_lb_finite.Facts := ⟨by decide⟩

/-- An extended real whose absolute value compares below the infinity is finite. -/
theorem finite_of_lt (x : EReal) (h : Ideal.cmp .olt (max x (-x)) (Ideal.ofBits .f32 0x7F800000#32) = 1#1) :
    x ≠ ⊥ ∧ x ≠ ⊤ := by
  have e : Ideal.ofBits .f32 0x7F800000#32 = ⊤ := by
    simp [Ideal.ofBits, Ideal.ieee]
  rw [e] at h
  constructor
  · rintro rfl
    revert h
    simp [Ideal.cmp]
  · rintro rfl
    revert h
    simp [Ideal.cmp]

/-- What the precondition says: every lower bound is finite. -/
theorem lb_finite (m : (l : Loc Cert.KernelIdeal.nD Cert.KernelIdeal.τ Cert.KernelIdeal.sig) → Buf (Elt Ideal) l)
    (hp : Cert.Pre_KernelIdeal_lb_finite (hPre_lb_finite := preFacts) m) (c : Dev Cert.KernelIdeal.nD) (k : ℕ) :
    Cert.KernelIdeal.Hand.argL m c k ≠ ⊥ ∧ Cert.KernelIdeal.Hand.argL m c k ≠ ⊤ := by
  unfold Cert.KernelIdeal.Hand.argL
  by_cases hk : k < 2048
  · rw [dif_pos hk]
    exact finite_of_lt _ (congrFun (hp c) (ix1 (⟨k, hk⟩ : Fin 2048)))
  · rw [dif_neg hk]
    exact ⟨EReal.zero_ne_bot, EReal.zero_ne_top⟩

/-- The kernel on the device runs, and its arguments and counters end as claimed. -/
theorem frame_k : Cert.quiescent_Kernel (hKernel := Cert.Kernel.Gen.facts) :=
  fun m ρ _ => Cert.Kernel.Gen.frame m ρ

/-- The idealized kernel runs. -/
theorem frame_ki : Cert.quiescent_KernelIdeal (hKernelIdeal := Cert.KernelIdeal.Gen.facts) :=
  fun m ρ _ => Cert.KernelIdeal.Gen.frame m ρ

/-- The idealized kernel runs under the precondition. -/
theorem frame_kip : Cert.quiescent_KernelIdeal_pre_lb_finite (hKernelIdeal := Cert.KernelIdeal.Gen.facts) (hPre_lb_finite := preFacts) :=
  fun m ρ _ => Cert.KernelIdeal.Gen.frame m ρ

/-- The reference's run read at its arguments; it declares no semaphore. -/
theorem frame_r0 (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => ⟨(h c).2.2.1, (h c).2.2.2.1, (h c).2.2.2.2⟩,
      Idealize.ShloMosaic.sem_eq_zero_of_no_sems (by decide) r.2⟩)
    (Cert.ReferenceIdeal.Value.run (F := Ideal) m ρ)

/-- The reference runs. -/
theorem frame_r : Cert.quiescent_ReferenceIdeal (hReferenceIdeal := Cert.ReferenceIdeal.Gen.facts) :=
  fun m ρ _ => frame_r0 m ρ

/-- The reference runs under the precondition. -/
theorem frame_rp : Cert.quiescent_ReferenceIdeal_pre_lb_finite (hReferenceIdeal := Cert.ReferenceIdeal.Gen.facts) (hPre_lb_finite := preFacts) :=
  fun m ρ _ => frame_r0 m ρ

/-- The two programs' argument readings agree when their argument arrays do. -/
theorem args_eq (m : (l : Loc Cert.KernelIdeal.nD Cert.KernelIdeal.τ Cert.KernelIdeal.sig) → Buf (Elt Ideal) l)
    (m' : (l : Loc Cert.ReferenceIdeal.nD Cert.ReferenceIdeal.τ Cert.ReferenceIdeal.sig) → Buf (Elt Ideal) l) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Hand.argR m' c = Cert.KernelIdeal.Hand.argR m c
      ∧ Cert.ReferenceIdeal.Hand.argL m' c = Cert.KernelIdeal.Hand.argL m c
      ∧ Cert.ReferenceIdeal.Hand.argN m' c = Cert.KernelIdeal.Hand.argN m c := by
  refine ⟨?_, ?_, ?_⟩
  · funext r k
    unfold Cert.ReferenceIdeal.Hand.argR Cert.KernelIdeal.Hand.argR
    split
    · exact congrFun h0 _
    · rfl
  · funext k
    unfold Cert.ReferenceIdeal.Hand.argL Cert.KernelIdeal.Hand.argL
    split
    · exact congrFun h1 _
    · rfl
  · funext k
    unfold Cert.ReferenceIdeal.Hand.argN Cert.KernelIdeal.Hand.argN
    exact congrFun h2 _

/-- The value claim: output and final state. -/
theorem algebraic : Cert.algebraic_KernelIdeal_ReferenceIdeal_pre_lb_finite (hKernelIdeal := Cert.KernelIdeal.Gen.facts)
    (hReferenceIdeal := Cert.ReferenceIdeal.Gen.facts) (hPre_lb_finite := preFacts) := by
  intro m g m' g' hp hag
  refine ⟨fun c => Cert.KernelIdeal.Value.G8 m c, fun c => Cert.KernelIdeal.Value.G9 m c, Cert.KernelIdeal.Value.run (F := Ideal) m g, ?_⟩
  refine (θ_run Cert.ReferenceIdeal.defs _ _).mono (fun r h c => ⟨(h c).1.trans ?_, (h c).2.1.trans ?_, (h c).2.2⟩)
    (Cert.ReferenceIdeal.Value.run (F := Ideal) m' g')
  · obtain ⟨hR, hL, hN⟩ := args_eq m m' c (hag c).1 (hag c).2.1 (hag c).2.2
    funext i
    have e : i = ix2 (i 0 : Fin 8192) (i 1 : Fin 2048) := by
      funext a
      fin_cases a <;> rfl
    rw [e]
    refine (Cert.ReferenceIdeal.Hand.R62_at m' c (i 0) (i 1)).trans ?_
    rw [hR, hL, hN]
    exact (Cert.KernelIdeal.Hand.G8_at m c (lb_finite m hp c) (i 0) (i 1)).symm
  · obtain ⟨hR, hL, -⟩ := args_eq m m' c (hag c).1 (hag c).2.1 (hag c).2.2
    funext i
    have e : i = ix4 (0 : Fin 1) (i 1 : Fin 16) (i 2 : Fin 128) (i 3 : Fin 128) := by
      funext a
      fin_cases a
      · exact Subsingleton.elim (α := Fin 1) _ _
      · rfl
      · rfl
      · rfl
    rw [e]
    refine (Cert.ReferenceIdeal.Hand.R6_at m' c (i 1) (i 2) (i 3)).trans ?_
    rw [hR, hL]
    exact (Cert.KernelIdeal.Hand.G9_at m c (lb_finite m hp c) (i 1) (i 2) (i 3)).symm

/-- The feed-forward kernel on the device runs, and its arguments and counters end as claimed. -/
theorem frame_k2 : Cert.quiescent_Kernel2 (hKernel2 := Cert.Kernel2.Gen.facts) :=
  fun m ρ _ => Cert.Kernel2.Gen.frame m ρ

/-- The idealized feed-forward kernel runs. -/
theorem frame_ki2 : Cert.quiescent_Kernel2Ideal (hKernel2Ideal := Cert.Kernel2Ideal.Gen.facts) :=
  fun m ρ _ => Cert.Kernel2Ideal.Gen.frame m ρ

/-- The feed-forward reference runs; it declares no semaphore. -/
theorem frame_r2 : Cert.quiescent_Reference2Ideal (hReference2Ideal := Cert.Reference2Ideal.Gen.facts) :=
  fun m ρ _ => (θ_run Cert.Reference2Ideal.defs _ _).mono (fun r h => ⟨fun c => (h c).2, Idealize.ShloMosaic.sem_eq_zero_of_no_sems (by decide) r.2⟩)
    (Cert.Reference2Ideal.Value.run (F := Ideal) m ρ)

/-- The feed-forward block's value claim. -/
theorem algebraic2 : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Value.G5 m c, Cert.Kernel2Ideal.Value.run (F := Ideal) m g, ?_⟩
  refine (θ_run Cert.Reference2Ideal.defs _ _).mono (fun r h c => ⟨(h c).1.trans ?_, (h c).2⟩)
    (Cert.Reference2Ideal.Value.run (F := Ideal) m' g')
  obtain ⟨h0, h1, h2, h3, h4⟩ := hag c
  funext i
  have e : i = ix2 (i 0 : Fin 9216) (i 1 : Fin 4096) := by
    funext a
    fin_cases a <;> rfl
  rw [e]
  refine Eq.trans ?_ (Cert.Kernel2Ideal.Hand.G5_at m c (i 0) (i 1)).symm
  refine Cert.Reference2Ideal.Hand.ref_at (Cert.Kernel2Ideal.Hand.aX m c) (Cert.Kernel2Ideal.Hand.aN m c) (Cert.Kernel2Ideal.Hand.aG m c)
    (Cert.Kernel2Ideal.Hand.aU m c) (Cert.Kernel2Ideal.Hand.aD m c) _ _ _ _ _ ?_ ?_ ?_ ?_ ?_ (i 0) (i 1)
  · intro r q
    unfold Cert.Kernel2Ideal.Hand.aX
    rw [dif_pos ⟨r.isLt, q.isLt⟩]
    exact congrFun h0 _
  · intro q
    unfold Cert.Kernel2Ideal.Hand.aN
    rw [dif_pos q.isLt]
    exact congrFun h1 _
  · intro r q
    unfold Cert.Kernel2Ideal.Hand.aG
    rw [dif_pos ⟨r.isLt, q.isLt⟩]
    exact congrFun h2 _
  · intro r q
    unfold Cert.Kernel2Ideal.Hand.aU
    rw [dif_pos ⟨r.isLt, q.isLt⟩]
    exact congrFun h3 _
  · intro r q
    unfold Cert.Kernel2Ideal.Hand.aD
    rw [dif_pos ⟨r.isLt, q.isLt⟩]
    exact congrFun h4 _

/-- The gate kernel on the device runs, and its arguments and counters end as claimed. -/
theorem frame_k3 : Cert.quiescent_Kernel3 (hKernel3 := Cert.Kernel3.Gen.facts) :=
  fun m ρ _ => Cert.Kernel3.Gen.frame m ρ

/-- The same of its idealized form. -/
theorem frame_ki3 : Cert.quiescent_Kernel3Ideal (hKernel3Ideal := Cert.Kernel3Ideal.Gen.facts) :=
  fun m ρ _ => Cert.Kernel3Ideal.Gen.frame m ρ

/-- Its reference runs; it declares no semaphore. -/
theorem frame_r3 : Cert.quiescent_Reference3Ideal (hReference3Ideal := Cert.Reference3Ideal.Gen.facts) :=
  fun m ρ _ => (θ_run Cert.Reference3Ideal.defs _ _).mono (fun r h => ⟨fun c => (h c).2, Idealize.ShloMosaic.sem_eq_zero_of_no_sems (by decide) r.2⟩)
    (Cert.Reference3Ideal.Value.run (F := Ideal) m ρ)

/-- The gate's value claim. -/
theorem algebraic3 : Cert.algebraic_Kernel3Ideal_Reference3Ideal (hKernel3Ideal := Cert.Kernel3Ideal.Gen.facts)
    (hReference3Ideal := Cert.Reference3Ideal.Gen.facts) := by
  intro m g m' g' _ hag
  refine ⟨fun c => (Cert.Kernel3Ideal.Gen.dats m 0 c).arrAt 4 Cert.Kernel3Ideal.cfg0.N, Cert.Kernel3Ideal.Value.run_blocks (F := Ideal) m g, ?_⟩
  refine (θ_run Cert.Reference3Ideal.defs _ _).mono (fun r h c => ⟨(h c).1.trans ?_, (h c).2⟩)
    (Cert.Reference3Ideal.Value.run (F := Ideal) m' g')
  obtain ⟨h0, h1, h2, h3⟩ := hag c
  funext i
  have e : i = ix2 (i 0 : Fin 9216) (i 1 : Fin 4096) := by
    funext a
    fin_cases a <;> rfl
  rw [e]
  refine (Cert.Reference3Ideal.Hand.ref_at _ _ _ _ (i 0) (i 1)).trans (Eq.trans ?_ (Cert.Kernel3Ideal.Hand.final_at m c (i 0) (i 1)).symm)
  have e0 : ∀ (r : Fin 9216) (k : Fin 4096), (m' ((c.tc : Thread Cert.Reference3Ideal.nD Cert.Reference3Ideal.τ).loc Cert.Reference3Ideal.main_arg0) : FVec Ideal Cert.Reference3Ideal.S9216x4096 .bf16) (ix2 r k) = Cert.Kernel3Ideal.Hand.aH m c r k := by
    intro r k
    unfold Cert.Kernel3Ideal.Hand.aH
    rw [dif_pos ⟨r.isLt, k.isLt⟩]
    exact congrFun h0 _
  have e1 : ∀ (r : Fin 4096) (k : Fin 4096), (m' ((c.tc : Thread Cert.Reference3Ideal.nD Cert.Reference3Ideal.τ).loc Cert.Reference3Ideal.main_arg1) : FVec Ideal Cert.Reference3Ideal.S4096x4096 .f32) (ix2 r k) = Cert.Kernel3Ideal.Hand.aW m c r k := by
    intro r k
    unfold Cert.Kernel3Ideal.Hand.aW
    rw [dif_pos ⟨r.isLt, k.isLt⟩]
    exact congrFun h1 _
  have e2 : ∀ (r : Fin 9216) (k : Fin 4096), (m' ((c.tc : Thread Cert.Reference3Ideal.nD Cert.Reference3Ideal.τ).loc Cert.Reference3Ideal.main_arg2) : FVec Ideal Cert.Reference3Ideal.S9216x4096 .f32) (ix2 r k) = Cert.Kernel3Ideal.Hand.aX m c r k := by
    intro r k
    unfold Cert.Kernel3Ideal.Hand.aX
    rw [dif_pos ⟨r.isLt, k.isLt⟩]
    exact congrFun h2 _
  have e3 : ∀ (r : Fin 9216) (k : Fin 4096), (m' ((c.tc : Thread Cert.Reference3Ideal.nD Cert.Reference3Ideal.τ).loc Cert.Reference3Ideal.main_arg3) : FVec Ideal Cert.Reference3Ideal.S9216x4096 .f32) (ix2 r k) = Cert.Kernel3Ideal.Hand.aP m c r k := by
    intro r k
    unfold Cert.Kernel3Ideal.Hand.aP
    rw [dif_pos ⟨r.isLt, k.isLt⟩]
    exact congrFun h3 _
  refine congrArg₂ (· + ·) (e2 _ _) (congrArg₂ (· * ·) (congrArg Ideal.logistic ?_) (e3 _ _))
  exact Finset.sum_congr rfl fun k _ => congrArg₂ (· * ·) (e0 _ k) (e1 k _)

/-- The projection kernel on the device runs, and its arguments and counters end as claimed. -/
theorem frame_k4 : Cert.quiescent_Kernel4 (hKernel4 := Cert.Kernel4.Gen.facts) :=
  fun m ρ _ => Cert.Kernel4.Gen.frame m ρ

/-- The same of its idealized form. -/
theorem frame_ki4 : Cert.quiescent_Kernel4Ideal (hKernel4Ideal := Cert.Kernel4Ideal.Gen.facts) :=
  fun m ρ _ => Cert.Kernel4Ideal.Gen.frame m ρ

/-- Its reference runs; it declares no semaphore. -/
theorem frame_r4 : Cert.quiescent_Reference4Ideal (hReference4Ideal := Cert.Reference4Ideal.Gen.facts) :=
  fun m ρ _ => (θ_run Cert.Reference4Ideal.defs _ _).mono (fun r h => ⟨fun c => (h c).2, Idealize.ShloMosaic.sem_eq_zero_of_no_sems (by decide) r.2⟩)
    (Cert.Reference4Ideal.Value.run (F := Ideal) m ρ)

/-- The projection's value claim. -/
theorem algebraic4 : Cert.algebraic_Kernel4Ideal_Reference4Ideal (hKernel4Ideal := Cert.Kernel4Ideal.Gen.facts)
    (hReference4Ideal := Cert.Reference4Ideal.Gen.facts) := by
  intro m g m' g' _ hag
  refine ⟨fun c => (Cert.Kernel4Ideal.Gen.dats m 0 c).arrAt 2 Cert.Kernel4Ideal.cfg0.N, Cert.Kernel4Ideal.Value.run_blocks (F := Ideal) m g, ?_⟩
  refine (θ_run Cert.Reference4Ideal.defs _ _).mono (fun r h c => ⟨(h c).1.trans ?_, (h c).2⟩)
    (Cert.Reference4Ideal.Value.run (F := Ideal) m' g')
  obtain ⟨h0, h1⟩ := hag c
  funext i
  have e : i = ix2 (i 0 : Fin 9216) (i 1 : Fin 12288) := by
    funext a
    fin_cases a <;> rfl
  rw [e]
  refine (Cert.Reference4Ideal.Hand.ref_at _ _ (i 0) (i 1)).trans (Eq.trans ?_ (Cert.Kernel4Ideal.Hand.final_at m c (i 0) (i 1)).symm)
  have e0 : ∀ (r : Fin 9216) (k : Fin 4096), (m' ((c.tc : Thread Cert.Reference4Ideal.nD Cert.Reference4Ideal.τ).loc Cert.Reference4Ideal.main_arg0) : FVec Ideal Cert.Reference4Ideal.S9216x4096 .bf16) (ix2 r k) = Cert.Kernel4Ideal.Hand.aH m c r k := by
    intro r k
    unfold Cert.Kernel4Ideal.Hand.aH
    rw [dif_pos ⟨r.isLt, k.isLt⟩]
    exact congrFun h0 _
  have e1 : ∀ (r : Fin 4096) (k : Fin 12352), (m' ((c.tc : Thread Cert.Reference4Ideal.nD Cert.Reference4Ideal.τ).loc Cert.Reference4Ideal.main_arg1) : FVec Ideal Cert.Reference4Ideal.S4096x12352 .f32) (ix2 r k) = Cert.Kernel4Ideal.Hand.aW m c r k := by
    intro r k
    unfold Cert.Kernel4Ideal.Hand.aW
    rw [dif_pos ⟨r.isLt, k.isLt⟩]
    exact congrFun h1 _
  exact Finset.sum_congr rfl fun k _ => congrArg₂ (· * ·) (e0 _ k) (e1 k _)

/-- The kernel that prepares an attention layer's heads runs on the device, and its arguments and counters end as claimed. -/
theorem frame_k5 : Cert.quiescent_Kernel5 (hKernel5 := Cert.Kernel5.Gen.facts) :=
  fun m ρ _ => Cert.Kernel5.Gen.frame m ρ

/-- The same of its idealized form. -/
theorem frame_ki5 : Cert.quiescent_Kernel5Ideal (hKernel5Ideal := Cert.Kernel5Ideal.Gen.facts) :=
  fun m ρ _ => Cert.Kernel5Ideal.Gen.frame m ρ

/-- Its reference runs; it declares no semaphore. -/
theorem frame_r5 : Cert.quiescent_Reference5Ideal (hReference5Ideal := Cert.Reference5Ideal.Gen.facts) :=
  fun m ρ _ => (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- An entry of an array with two axes, named by its two coordinates. -/
theorem ix2_self {a b : ℕ} (i : (⟨2, ![a, b]⟩ : Shape).Idx) : i = ix2 (i 0 : Fin a) (i 1 : Fin b) := by
  funext d
  fin_cases d <;> rfl

/-- The preparation's value claim: keys, values and indexer keys. -/
theorem algebraic5 : Cert.algebraic_Kernel5Ideal_Reference5Ideal (hKernel5Ideal := Cert.Kernel5Ideal.Gen.facts)
    (hReference5Ideal := Cert.Reference5Ideal.Gen.facts) := by
  intro m g m' g' _ hag
  refine ⟨fun c => (Cert.Kernel5Ideal.Gen.dats m 0 c).arrAt 9 Cert.Kernel5Ideal.cfg0.N, fun c => (Cert.Kernel5Ideal.Gen.dats m 0 c).arrAt 11 Cert.Kernel5Ideal.cfg0.N,
    fun c => (Cert.Kernel5Ideal.Gen.dats m 0 c).arrAt 14 Cert.Kernel5Ideal.cfg0.N,
    (θ_run Cert.Kernel5Ideal.defs _ _).mono (fun r h c => ⟨(h c).2.1, (h c).2.2.2.1, (h c).2.2.2.2.2.2.1, (h c).2.2.2.2.2.2.2.2.2⟩)
      (Cert.Kernel5Ideal.Value.run_blocks (F := Ideal) m g), ?_⟩
  have e0 : ∀ (c : Dev Cert.Kernel5Ideal.nD) (r : Fin 9216) (k : Fin 7680), ((m' ((c.tc : Thread Cert.Reference5Ideal.nD Cert.Reference5Ideal.τ).loc Cert.Reference5Ideal.main_arg0)) : FVec Ideal Cert.Reference5Ideal.S9216x7680 .f32) (ix2 r k) = Cert.Kernel5Ideal.Hand.aX m c r k := by
    intro c r k
    unfold Cert.Kernel5Ideal.Hand.aX
    rw [dif_pos ⟨r.isLt, k.isLt⟩]
    exact congrFun (hag c).1 _
  have e1 : ∀ (c : Dev Cert.Kernel5Ideal.nD) (r : Fin 9216), ((m' ((c.tc : Thread Cert.Reference5Ideal.nD Cert.Reference5Ideal.τ).loc Cert.Reference5Ideal.main_arg1)) : Vec Ideal Cert.Reference5Ideal.S9216 (.i32)) (ix1 r) = Cert.Kernel5Ideal.Hand.aP m c r := by
    intro c r
    unfold Cert.Kernel5Ideal.Hand.aP
    rw [dif_pos r.isLt]
    exact congrFun (hag c).2.1 _
  have e3 : ∀ (c : Dev Cert.Kernel5Ideal.nD) (k : Fin 128), ((m' ((c.tc : Thread Cert.Reference5Ideal.nD Cert.Reference5Ideal.τ).loc Cert.Reference5Ideal.main_arg3)) : FVec Ideal Cert.Reference5Ideal.S128 .f32) (ix1 k) = Cert.Kernel5Ideal.Hand.aN m c k := by
    intro c k
    unfold Cert.Kernel5Ideal.Hand.aN
    rw [dif_pos k.isLt]
    exact congrFun (hag c).2.2.2 _
  refine (θ_run Cert.Reference5Ideal.defs _ _).mono (fun r h c => ⟨(h c).1.trans ?_, (h c).2.1.trans ?_, (h c).2.2.1.trans ?_, (h c).2.2.2⟩)
    (Cert.Reference5Ideal.Value.run (F := Ideal) m' g')
  · funext i
    rw [ix2_self i]
    exact (Cert.Reference5Ideal.Hand.key_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) _ _ _ (e0 c) (e1 c) (e3 c) _ _).trans (Cert.Kernel5Ideal.Hand.final9 m c _ _).symm
  · funext i
    rw [ix2_self i]
    exact (Cert.Reference5Ideal.Hand.val_at (m' ((c.tc : Thread Cert.Reference5Ideal.nD Cert.Reference5Ideal.τ).loc Cert.Reference5Ideal.main_arg0)) _ (e0 c) _ _).trans (Cert.Kernel5Ideal.Hand.final11 m c _ _).symm
  · funext i
    rw [ix2_self i]
    exact (Cert.Reference5Ideal.Hand.ikey_at (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) _ _ (e0 c) (e1 c) _ _).trans (Cert.Kernel5Ideal.Hand.final14 m c _ _).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts,
    frame_k, frame_ki, frame_kip, frame_r, frame_rp, frame_k2, frame_ki2, frame_r2, frame_k3, frame_ki3, frame_r3,
    frame_k4, frame_ki4, frame_r4, frame_k5, frame_ki5, frame_r5,
    trivial, algebraic, trivial, algebraic2, trivial, algebraic3, trivial, algebraic4, trivial, algebraic5⟩

end Cert.Proof

end
